-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecRefIdeal (m : (ℓ : Loc Cert.RecRefIdeal.nD Cert.RecRefIdeal.τ Cert.RecRefIdeal.sig) → Buf (Elt Ideal) ℓ) : Prop :=
  True

def Pre_RecP (m : (ℓ : Loc Cert.RecP.nD Cert.RecP.τ Cert.RecP.sig) → Buf (Elt Bits) ℓ) : Prop :=
  True

def Pre_RecPIdeal (m : (ℓ : Loc Cert.RecPIdeal.nD Cert.RecPIdeal.τ Cert.RecPIdeal.sig) → Buf (Elt Ideal) ℓ) : Prop :=
  True

def Pre_RecPRefIdeal (m : (ℓ : Loc Cert.RecPRefIdeal.nD Cert.RecPRefIdeal.τ Cert.RecPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6)
      ∧ r.2.mem ((c.tc : Thread Cert.Rec.nD Cert.Rec.τ).loc Cert.Rec.main_arg7) = m ((c.tc : Thread Cert.Rec.nD Cert.Rec.τ).loc Cert.Rec.main_arg7)
      ∧ r.2.mem ((c.tc : Thread Cert.Rec.nD Cert.Rec.τ).loc Cert.Rec.main_arg8) = m ((c.tc : Thread Cert.Rec.nD Cert.Rec.τ).loc Cert.Rec.main_arg8)
      ∧ r.2.mem ((c.tc : Thread Cert.Rec.nD Cert.Rec.τ).loc Cert.Rec.main_arg9) = m ((c.tc : Thread Cert.Rec.nD Cert.Rec.τ).loc Cert.Rec.main_arg9))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9))
      ∧ r.2.sem = fun _ => 0)

def quiescent_RecP [hRecP : Cert.RecP.Facts] : Prop :=
  ∀ (m : (ℓ : Loc Cert.RecP.nD Cert.RecP.τ Cert.RecP.sig) → Buf (Elt Bits) ℓ) (g : Dev Cert.RecP.nD → PrngReg), Pre_RecP m →
    θ_run (Cert.RecP.defs (F := Bits)) (onTc (τ := Cert.RecP.τ) (Cert.RecP.main (F := Bits))) ⟨m, fun _ => 0, g⟩ (fun r => (∀ c : Dev Cert.RecP.nD,
      r.2.mem ((c.tc : Thread Cert.RecP.nD Cert.RecP.τ).loc Cert.RecP.main_arg0) = m ((c.tc : Thread Cert.RecP.nD Cert.RecP.τ).loc Cert.RecP.main_arg0)
      ∧ r.2.mem ((c.tc : Thread Cert.RecP.nD Cert.RecP.τ).loc Cert.RecP.main_arg1) = m ((c.tc : Thread Cert.RecP.nD Cert.RecP.τ).loc Cert.RecP.main_arg1)
      ∧ r.2.mem ((c.tc : Thread Cert.RecP.nD Cert.RecP.τ).loc Cert.RecP.main_arg2) = m ((c.tc : Thread Cert.RecP.nD Cert.RecP.τ).loc Cert.RecP.main_arg2)
      ∧ r.2.mem ((c.tc : Thread Cert.RecP.nD Cert.RecP.τ).loc Cert.RecP.main_arg3) = m ((c.tc : Thread Cert.RecP.nD Cert.RecP.τ).loc Cert.RecP.main_arg3)
      ∧ r.2.mem ((c.tc : Thread Cert.RecP.nD Cert.RecP.τ).loc Cert.RecP.main_arg4) = m ((c.tc : Thread Cert.RecP.nD Cert.RecP.τ).loc Cert.RecP.main_arg4)
      ∧ r.2.mem ((c.tc : Thread Cert.RecP.nD Cert.RecP.τ).loc Cert.RecP.main_arg5) = m ((c.tc : Thread Cert.RecP.nD Cert.RecP.τ).loc Cert.RecP.main_arg5)
      ∧ r.2.mem ((c.tc : Thread Cert.RecP.nD Cert.RecP.τ).loc Cert.RecP.main_arg6) = m ((c.tc : Thread Cert.RecP.nD Cert.RecP.τ).loc Cert.RecP.main_arg6)
      ∧ r.2.mem ((c.tc : Thread Cert.RecP.nD Cert.RecP.τ).loc Cert.RecP.main_arg7) = m ((c.tc : Thread Cert.RecP.nD Cert.RecP.τ).loc Cert.RecP.main_arg7))
      ∧ r.2.sem = fun _ => 0)

def quiescent_RecPIdeal [hRecPIdeal : Cert.RecPIdeal.Facts] : Prop :=
  ∀ (m : (ℓ : Loc Cert.RecPIdeal.nD Cert.RecPIdeal.τ Cert.RecPIdeal.sig) → Buf (Elt Ideal) ℓ) (g : Dev Cert.RecPIdeal.nD → PrngReg), Pre_RecPIdeal m →
    θ_run (Cert.RecPIdeal.defs (F := Ideal)) (onTc (τ := Cert.RecPIdeal.τ) (Cert.RecPIdeal.main (F := Ideal))) ⟨m, fun _ => 0, g⟩ (fun r => (∀ c : Dev Cert.RecPIdeal.nD,
      r.2.mem ((c.tc : Thread Cert.RecPIdeal.nD Cert.RecPIdeal.τ).loc Cert.RecPIdeal.main_arg0) = m ((c.tc : Thread Cert.RecPIdeal.nD Cert.RecPIdeal.τ).loc Cert.RecPIdeal.main_arg0)
      ∧ r.2.mem ((c.tc : Thread Cert.RecPIdeal.nD Cert.RecPIdeal.τ).loc Cert.RecPIdeal.main_arg1) = m ((c.tc : Thread Cert.RecPIdeal.nD Cert.RecPIdeal.τ).loc Cert.RecPIdeal.main_arg1)
      ∧ r.2.mem ((c.tc : Thread Cert.RecPIdeal.nD Cert.RecPIdeal.τ).loc Cert.RecPIdeal.main_arg2) = m ((c.tc : Thread Cert.RecPIdeal.nD Cert.RecPIdeal.τ).loc Cert.RecPIdeal.main_arg2)
      ∧ r.2.mem ((c.tc : Thread Cert.RecPIdeal.nD Cert.RecPIdeal.τ).loc Cert.RecPIdeal.main_arg3) = m ((c.tc : Thread Cert.RecPIdeal.nD Cert.RecPIdeal.τ).loc Cert.RecPIdeal.main_arg3)
      ∧ r.2.mem ((c.tc : Thread Cert.RecPIdeal.nD Cert.RecPIdeal.τ).loc Cert.RecPIdeal.main_arg4) = m ((c.tc : Thread Cert.RecPIdeal.nD Cert.RecPIdeal.τ).loc Cert.RecPIdeal.main_arg4)
      ∧ r.2.mem ((c.tc : Thread Cert.RecPIdeal.nD Cert.RecPIdeal.τ).loc Cert.RecPIdeal.main_arg5) = m ((c.tc : Thread Cert.RecPIdeal.nD Cert.RecPIdeal.τ).loc Cert.RecPIdeal.main_arg5)
      ∧ r.2.mem ((c.tc : Thread Cert.RecPIdeal.nD Cert.RecPIdeal.τ).loc Cert.RecPIdeal.main_arg6) = m ((c.tc : Thread Cert.RecPIdeal.nD Cert.RecPIdeal.τ).loc Cert.RecPIdeal.main_arg6)
      ∧ r.2.mem ((c.tc : Thread Cert.RecPIdeal.nD Cert.RecPIdeal.τ).loc Cert.RecPIdeal.main_arg7) = m ((c.tc : Thread Cert.RecPIdeal.nD Cert.RecPIdeal.τ).loc Cert.RecPIdeal.main_arg7))
      ∧ r.2.sem = fun _ => 0)

def quiescent_RecPRefIdeal [hRecPRefIdeal : Cert.RecPRefIdeal.Facts] : Prop :=
  ∀ (m : (ℓ : Loc Cert.RecPRefIdeal.nD Cert.RecPRefIdeal.τ Cert.RecPRefIdeal.sig) → Buf (Elt Ideal) ℓ) (g : Dev Cert.RecPRefIdeal.nD → PrngReg), Pre_RecPRefIdeal m →
    θ_run (Cert.RecPRefIdeal.defs (F := Ideal)) (onTc (τ := Cert.RecPRefIdeal.τ) (Cert.RecPRefIdeal.main (F := Ideal))) ⟨m, fun _ => 0, g⟩ (fun r => (∀ c : Dev Cert.RecPRefIdeal.nD,
      r.2.mem ((c.tc : Thread Cert.RecPRefIdeal.nD Cert.RecPRefIdeal.τ).loc Cert.RecPRefIdeal.main_arg0) = m ((c.tc : Thread Cert.RecPRefIdeal.nD Cert.RecPRefIdeal.τ).loc Cert.RecPRefIdeal.main_arg0)
      ∧ r.2.mem ((c.tc : Thread Cert.RecPRefIdeal.nD Cert.RecPRefIdeal.τ).loc Cert.RecPRefIdeal.main_arg1) = m ((c.tc : Thread Cert.RecPRefIdeal.nD Cert.RecPRefIdeal.τ).loc Cert.RecPRefIdeal.main_arg1)
      ∧ r.2.mem ((c.tc : Thread Cert.RecPRefIdeal.nD Cert.RecPRefIdeal.τ).loc Cert.RecPRefIdeal.main_arg2) = m ((c.tc : Thread Cert.RecPRefIdeal.nD Cert.RecPRefIdeal.τ).loc Cert.RecPRefIdeal.main_arg2)
      ∧ r.2.mem ((c.tc : Thread Cert.RecPRefIdeal.nD Cert.RecPRefIdeal.τ).loc Cert.RecPRefIdeal.main_arg3) = m ((c.tc : Thread Cert.RecPRefIdeal.nD Cert.RecPRefIdeal.τ).loc Cert.RecPRefIdeal.main_arg3)
      ∧ r.2.mem ((c.tc : Thread Cert.RecPRefIdeal.nD Cert.RecPRefIdeal.τ).loc Cert.RecPRefIdeal.main_arg4) = m ((c.tc : Thread Cert.RecPRefIdeal.nD Cert.RecPRefIdeal.τ).loc Cert.RecPRefIdeal.main_arg4)
      ∧ r.2.mem ((c.tc : Thread Cert.RecPRefIdeal.nD Cert.RecPRefIdeal.τ).loc Cert.RecPRefIdeal.main_arg5) = m ((c.tc : Thread Cert.RecPRefIdeal.nD Cert.RecPRefIdeal.τ).loc Cert.RecPRefIdeal.main_arg5)
      ∧ r.2.mem ((c.tc : Thread Cert.RecPRefIdeal.nD Cert.RecPRefIdeal.τ).loc Cert.RecPRefIdeal.main_arg6) = m ((c.tc : Thread Cert.RecPRefIdeal.nD Cert.RecPRefIdeal.τ).loc Cert.RecPRefIdeal.main_arg6)
      ∧ r.2.mem ((c.tc : Thread Cert.RecPRefIdeal.nD Cert.RecPRefIdeal.τ).loc Cert.RecPRefIdeal.main_arg7) = m ((c.tc : Thread Cert.RecPRefIdeal.nD Cert.RecPRefIdeal.τ).loc Cert.RecPRefIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v5)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v5) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v6) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v12_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v52) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def preserves_Rec_RecIdeal : Prop :=
  True

def algebraic_RecIdeal_RecRefIdeal [hRecIdeal : Cert.RecIdeal.Facts] [hRecRefIdeal : Cert.RecRefIdeal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)
      ∧ m' ((c.tc : Thread Cert.RecRefIdeal.nD Cert.RecRefIdeal.τ).loc Cert.RecRefIdeal.main_arg7) = m ((c.tc : Thread Cert.RecIdeal.nD Cert.RecIdeal.τ).loc Cert.RecIdeal.main_arg7)
      ∧ m' ((c.tc : Thread Cert.RecRefIdeal.nD Cert.RecRefIdeal.τ).loc Cert.RecRefIdeal.main_arg8) = m ((c.tc : Thread Cert.RecIdeal.nD Cert.RecIdeal.τ).loc Cert.RecIdeal.main_arg8)
      ∧ m' ((c.tc : Thread Cert.RecRefIdeal.nD Cert.RecRefIdeal.τ).loc Cert.RecRefIdeal.main_arg9) = m ((c.tc : Thread Cert.RecIdeal.nD Cert.RecIdeal.τ).loc Cert.RecIdeal.main_arg9)) →
    ∃ (v0 : (c : Dev Cert.RecIdeal.nD) → Buf (Elt Ideal) ((c.tc : Thread Cert.RecIdeal.nD Cert.RecIdeal.τ).loc Cert.RecIdeal.main_v31_0)) (v1 : (c : Dev Cert.RecIdeal.nD) → Buf (Elt Ideal) ((c.tc : Thread Cert.RecIdeal.nD Cert.RecIdeal.τ).loc Cert.RecIdeal.main_v31_1)) (v2 : (c : Dev Cert.RecIdeal.nD) → Buf (Elt Ideal) ((c.tc : Thread Cert.RecIdeal.nD Cert.RecIdeal.τ).loc Cert.RecIdeal.main_v31_2)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v31_0) = v0 c
          ∧ r.2.mem ((c.tc : Thread Cert.RecIdeal.nD Cert.RecIdeal.τ).loc Cert.RecIdeal.main_v31_1) = v1 c
          ∧ r.2.mem ((c.tc : Thread Cert.RecIdeal.nD Cert.RecIdeal.τ).loc Cert.RecIdeal.main_v31_2) = v2 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
          ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
          ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
          ∧ r.2.mem ((c.tc : Thread Cert.RecIdeal.nD Cert.RecIdeal.τ).loc Cert.RecIdeal.main_arg9) = m ((c.tc : Thread Cert.RecIdeal.nD Cert.RecIdeal.τ).loc Cert.RecIdeal.main_arg9))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v146) = v0 c
          ∧ r.2.mem ((c.tc : Thread Cert.RecRefIdeal.nD Cert.RecRefIdeal.τ).loc Cert.RecRefIdeal.main_v147) = v1 c
          ∧ r.2.mem ((c.tc : Thread Cert.RecRefIdeal.nD Cert.RecRefIdeal.τ).loc Cert.RecRefIdeal.main_v148) = v2 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
          ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7)
          ∧ r.2.mem ((c.tc : Thread Cert.RecRefIdeal.nD Cert.RecRefIdeal.τ).loc Cert.RecRefIdeal.main_arg8) = m' ((c.tc : Thread Cert.RecRefIdeal.nD Cert.RecRefIdeal.τ).loc Cert.RecRefIdeal.main_arg8)
          ∧ r.2.mem ((c.tc : Thread Cert.RecRefIdeal.nD Cert.RecRefIdeal.τ).loc Cert.RecRefIdeal.main_arg9) = m' ((c.tc : Thread Cert.RecRefIdeal.nD Cert.RecRefIdeal.τ).loc Cert.RecRefIdeal.main_arg9))

def preserves_RecP_RecPIdeal : Prop :=
  True

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hForget : Cert.Forget.Facts) (hForgetIdeal : Cert.ForgetIdeal.Facts) (hForgetRefIdeal : Cert.ForgetRefIdeal.Facts) (hOutProj : Cert.OutProj.Facts) (hOutProjIdeal : Cert.OutProjIdeal.Facts) (hOutProjRefIdeal : Cert.OutProjRefIdeal.Facts) (hRec : Cert.Rec.Facts) (hRecIdeal : Cert.RecIdeal.Facts) (hRecRefIdeal : Cert.RecRefIdeal.Facts) (hRecP : Cert.RecP.Facts) (hRecPIdeal : Cert.RecPIdeal.Facts) (hRecPRefIdeal : Cert.RecPRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Forget (hForget := hForget)
    ∧ quiescent_ForgetIdeal (hForgetIdeal := hForgetIdeal)
    ∧ quiescent_ForgetRefIdeal (hForgetRefIdeal := hForgetRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Rec (hRec := hRec)
    ∧ quiescent_RecIdeal (hRecIdeal := hRecIdeal)
    ∧ quiescent_RecRefIdeal (hRecRefIdeal := hRecRefIdeal)
    ∧ quiescent_RecP (hRecP := hRecP)
    ∧ quiescent_RecPIdeal (hRecPIdeal := hRecPIdeal)
    ∧ quiescent_RecPRefIdeal (hRecPRefIdeal := hRecPRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Forget_ForgetIdeal
    ∧ algebraic_ForgetIdeal_ForgetRefIdeal (hForgetIdeal := hForgetIdeal) (hForgetRefIdeal := hForgetRefIdeal)
    ∧ preserves_OutProj_OutProjIdeal
    ∧ algebraic_OutProjIdeal_OutProjRefIdeal (hOutProjIdeal := hOutProjIdeal) (hOutProjRefIdeal := hOutProjRefIdeal)
    ∧ preserves_Rec_RecIdeal
    ∧ algebraic_RecIdeal_RecRefIdeal (hRecIdeal := hRecIdeal) (hRecRefIdeal := hRecRefIdeal)
    ∧ preserves_RecP_RecPIdeal
-- ==== Pre_finite.lean ====
abbrev S16640x2560 : Shape := ⟨2, ![16640, 2560]⟩
abbrev S32x4096 : Shape := ⟨2, ![32, 4096]⟩
abbrev S16384x1024 : Shape := ⟨2, ![16384, 1024]⟩
abbrev S_ : Shape := ⟨0, ![]⟩

class Facts : Prop where
  slices_S16640x2560_S16384x1024_0_0 : S16640x2560.Slices ![0, 0] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S16640x2560 .f32) (main_arg1 : FVec F S32x4096 .f32) : IVec S_ 1 :=
  let main_v0 : FVec F S16384x1024 .f32 := (extractStridedSlice S16384x1024 ![0, 0] · slices_S16640x2560_S16384x1024_0_0) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S32x4096 .f32 := Host.absf main_arg1
  let main_cst_0 : FVec F S_ .f32 := constant S_ .f32 0x7F800000#32
  let main_v6 : FVec F S32x4096 .f32 := broadcastInDim S32x4096 ![] bcast_S_S32x4096 main_cst_0
  let main_v7 : IVec S32x4096 1 := cmpf .olt main_v5 main_v6
  let main_c_1 : IVec S_ 1 := constantI S_ 1 1#1
  let main_v8 : IVec S_ 1 := (fun x v => Host.reduce IntOp.andi x v reducesTo_S32x4096_S_d0_1 h_S_) main_v7 main_c_1
  let main_v9 : IVec S_ 1 := andi main_v4 main_v8
  main_v9
-- ==== Kernel.lean ====
abbrev S16640x2560 : Shape := ⟨2, ![16640, 2560]⟩
abbrev S32x4096 : Shape := ⟨2, ![32, 4096]⟩
abbrev S4x4x2x4096 : Shape := ⟨4, ![4, 4, 2, 4096]⟩
abbrev S4x4x4096x2 : Shape := ⟨4, ![4, 4, 4096, 2]⟩
abbrev S16384x512 : Shape := ⟨2, ![16384, 512]⟩
abbrev S512x128 : Shape := ⟨2, ![512, 128]⟩
abbrev S4096x128 : Shape := ⟨2, ![4096, 128]⟩
abbrev S1x1x512x2 : Shape := ⟨4, ![1, 1, 512, 2]⟩
abbrev S1x1x2x4096 : Shape := ⟨4, ![1, 1, 2, 4096]⟩
abbrev S2x8x512x512 : Shape := ⟨4, ![2, 8, 512, 512]⟩
abbrev S8x128x512 : Shape := ⟨3, ![8, 128, 512]⟩
abbrev S128x512 : Shape := ⟨2, ![128, 512]⟩
abbrev S1x128x512 : Shape := ⟨3, ![1, 128, 512]⟩
abbrev S512x256 : Shape := ⟨2, ![512, 256]⟩
abbrev S512x2 : Shape := ⟨2, ![512, 2]⟩
abbrev S512x1 : Shape := ⟨2, ![512, 1]⟩
abbrev S1x1x1x256 : Shape := ⟨4, ![1, 1, 1, 256]⟩
abbrev S1x256 : Shape := ⟨2, ![1, 256]⟩
abbrev S128x256 : Shape := ⟨2, ![128, 256]⟩
abbrev S1x1x512x256 : Shape := ⟨4, ![1, 1, 512, 256]⟩
abbrev S512 : Shape := ⟨1, ![512]⟩
abbrev S1x1x512x512 : Shape := ⟨4, ![1, 1, 512, 512]⟩
abbrev S512x512 : Shape := ⟨2, ![512, 512]⟩

abbrev nBuf : Space → Nat
  | .hbm => 5
  | .vmem => 15
  | .smem => 0
  | _ => 0

abbrev bufTy : (tb : Table) → Fin (tcTables nBuf tb) → BufTy
  | .hbm, ⟨0, _⟩ => ⟨S16640x2560, .f32⟩
  | .hbm, ⟨1, _⟩ => ⟨S32x4096, .f32⟩
  | .hbm, ⟨2, _⟩ => ⟨S4x4x2x4096, .f32⟩
  | .hbm, ⟨3, _⟩ => ⟨S4x4x4096x2, .f32⟩
  | .hbm, ⟨4, _⟩ => ⟨S16384x512, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x512x2, .f32⟩
  | .local _ .vmem, ⟨7, _⟩ => ⟨S1x1x512x2, .f32⟩
  | .local _ .vmem, ⟨8, _⟩ => ⟨S1x1x2x4096, .f32⟩
  | .local _ .vmem, ⟨9, _⟩ => ⟨S1x1x2x4096, .f32⟩
  | .local _ .vmem, ⟨10, _⟩ => ⟨S512x128, .f32⟩
  | .local _ .vmem, ⟨11, _⟩ => ⟨S512x128, .f32⟩
  | .local _ .vmem, ⟨12, _⟩ => ⟨S2x8x512x512, .f32⟩
  | .local _ .vmem, ⟨13, _⟩ => ⟨S8x128x512, .bf16⟩
  | .local _ .vmem, ⟨14, _⟩ => ⟨S4096x128, .bf16⟩
  | _, _ => ⟨S16640x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_11 : BitVec 32 := 1#32
  ⟨c0_i32_10, v28, c1_i32_11⟩
def k0_mult1 (i : grid0.Coords) (k0_t1 : Fin (k0_t1_loop i).trips) : BitVec 32 :=
  let c0_i32_10 : BitVec 32 := 0#32
  let c1_i32_11 : BitVec 32 := 1#32
  let arg12 : BitVec 32 := Scf.iv c0_i32_10 c1_i32_11 k0_t1
  let c512_i32_73 : BitVec 32 := 512#32
  let v150 : BitVec 32 := Scalar.muli arg12 c512_i32_73
  v150
def k0_off1 (i : grid0.Coords) (k0_t1 : Fin (k0_t1_loop i).trips) : Fin 3 → Nat :=
  let c0_i32_10 : BitVec 32 := 0#32
  let c1_i32_11 : BitVec 32 := 1#32
  let arg12 : BitVec 32 := Scf.iv c0_i32_10 c1_i32_11 k0_t1
  let v152 : Index := Scalar.indexCast arg12
  let c0_74 : Index := 0#32
  let c0_75 : Index := 0#32
  ![v152.toNat, 0, 0]
def k0_off2 (i : grid0.Coords) (k0_t1 : Fin (k0_t1_loop i).trips) (c0_i32_76 : BitVec 32) : Fin 4 → Nat :=
  let c0_77 : Index := 0#32
  let c0_78 : Index := 0#32
  let c0_79 : Index := 0#32
  let c0_i32_10 : BitVec 32 := 0#32
  let c1_i32_11 : BitVec 32 := 1#32
  let arg12 : BitVec 32 := Scf.iv c0_i32_10 c1_i32_11 k0_t1
  let c512_i32_73 : BitVec 32 := 512#32
  let v150 : BitVec 32 := Scalar.muli arg12 c512_i32_73
  let v151 : BitVec 32 := v150
  let v155 : BitVec 32 := Scalar.addi v151 c0_i32_76
  let v156 : Index := Scalar.indexCast v155
  ![0, 0, 0, v156.toNat]
def k0_off3 (i : grid0.Coords) (k0_t1 : Fin (k0_t1_loop i).trips) : Fin 4 → Nat :=
  let c0_81 : Index := 0#32
  let c0_i32_10 : BitVec 32 := 0#32
  let c1_i32_11 : BitVec 32 := 1#32
  let arg12 : BitVec 32 := Scf.iv c0_i32_10 c1_i32_11 k0_t1
  let v165 : Index := Scalar.indexCast arg12
  let c0_82 : Index := 0#32
  let c0_83 : Index := 0#32
  ![0, v165.toNat, 0, 0]
def k0_off4 (i : grid0.Coords) (k0_t1 : Fin (k0_t1_loop i).trips) : Fin 4 → Nat :=
  let c0_90 : Index := 0#32
  let c0_i32_10 : BitVec 32 := 0#32
  let c1_i32_11 : BitVec 32 := 1#32
  let arg12 : BitVec 32 := Scf.iv c0_i32_10 c1_i32_11 k0_t1
  let v182 : Index := Scalar.indexCast arg12
  let c0_91 : Index := 0#32
  let c256_92 : Index := 256#32
  ![0, v182.toNat, 0, 256]
def k0_off5 (i : grid0.Coords) (k0_t1 : Fin (k0_t1_loop i).trips) (c0_i32_94 : BitVec 32) : Fin 4 → Nat :=
  let c0_95 : Index := 0#32
  let c0_96 : Index := 0#32
  let c1_97 : Index := 1#32
  let c0_i32_10 : BitVec 32 := 0#32
  let c1_i32_11 : BitVec 32 := 1#32
  let arg12 : BitVec 32 := Scf.iv c0_i32_10 c1_i32_11 k0_t1
  let c512_i32_73 : BitVec 32 := 512#32
  let v150 : BitVec 32 := Scalar.muli arg12 c512_i32_73
  let v151 : BitVec 32 := v150
  let v189 : BitVec 32 := Scalar.addi v151 c0_i32_94
  let v190 : Index := Scalar.indexCast v189
  ![0, 0, 1, v190.toNat]
def k0_off6 (i : grid0.Coords) (k0_t1 : Fin (k0_t1_loop i).trips) : Fin 4 → Nat :=
  let c1_99 : Index := 1#32
  let c0_i32_10 : BitVec 32 := 0#32
  let c1_i32_11 : BitVec 32 := 1#32
  let arg12 : BitVec 32 := Scf.iv c0_i32_10 c1_i32_11 k0_t1
  let v199 : Index := Scalar.indexCast arg12
  let c0_100 : Index := 0#32
  let c0_101 : Index := 0#32
  ![1, v199.toNat, 0, 0]
def k0_off7 (i : grid0.Coords) (k0_t1 : Fin (k0_t1_loop i).trips) : Fin 4 → Nat :=
  let c1_108 : Index := 1#32
  let c0_i32_10 : BitVec 32 := 0#32
  let c1_i32_11 : BitVec 32 := 1#32
  let arg12 : BitVec 32 := Scf.iv c0_i32_10 c1_i32_11 k0_t1
  let v216 : Index := Scalar.indexCast arg12
  let c0_109 : Index := 0#32
  let c256_110 : Index := 256#32
  ![1, v216.toNat, 0, 256]
@[reducible] def k0_t2_loop (i : grid0.Coords) : Scf.Loop 32 :=
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let v25 : BitVec 32 := Scalar.addi c0_i32_10 v24
  let c1_i32_12 : BitVec 32 := 1#32
  ⟨v28, v25, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let c512_i32_73 : BitVec 32 := 512#32
  let v150 : BitVec 32 := Scalar.muli arg12 c512_i32_73
  v150
def k0_off8 (i : grid0.Coords) (k0_t2 : Fin (k0_t2_loop i).trips) : Fin 3 → Nat :=
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let v152 : Index := Scalar.indexCast arg12
  let c0_74 : Index := 0#32
  let c0_75 : Index := 0#32
  ![v152.toNat, 0, 0]
def k0_off9 (i : grid0.Coords) (k0_t2 : Fin (k0_t2_loop i).trips) (c0_i32_76 : BitVec 32) : Fin 4 → Nat :=
  let c0_77 : Index := 0#32
  let c0_78 : Index := 0#32
  let c0_79 : Index := 0#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let c512_i32_73 : BitVec 32 := 512#32
  let v150 : BitVec 32 := Scalar.muli arg12 c512_i32_73
  let v151 : BitVec 32 := v150
  let v155 : BitVec 32 := Scalar.addi v151 c0_i32_76
  let v156 : Index := Scalar.indexCast v155
  ![0, 0, 0, v156.toNat]
def k0_off10 (i : grid0.Coords) (k0_t2 : Fin (k0_t2_loop i).trips) : Fin 4 → Nat :=
  let c0_81 : Index := 0#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let v165 : Index := Scalar.indexCast arg12
  let c0_82 : Index := 0#32
  let c0_83 : Index := 0#32
  ![0, v165.toNat, 0, 0]
def k0_off11 (i : grid0.Coords) (k0_t2 : Fin (k0_t2_loop i).trips) : Fin 4 → Nat :=
  let c0_90 : Index := 0#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let v182 : Index := Scalar.indexCast arg12
  let c0_91 : Index := 0#32
  let c256_92 : Index := 256#32
  ![0, v182.toNat, 0, 256]
def k0_off12 (i : grid0.Coords) (k0_t2 : Fin (k0_t2_loop i).trips) (c0_i32_94 : BitVec 32) : Fin 4 → Nat :=
  let c0_95 : Index := 0#32
  let c0_96 : Index := 0#32
  let c1_97 : Index := 1#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let c512_i32_73 : BitVec 32 := 512#32
  let v150 : BitVec 32 := Scalar.muli arg12 c512_i32_73
  let v151 : BitVec 32 := v150
  let v189 : BitVec 32 := Scalar.addi v151 c0_i32_94
  let v190 : Index := Scalar.indexCast v189
  ![0, 0, 1, v190.toNat]
def k0_off13 (i : grid0.Coords) (k0_t2 : Fin (k0_t2_loop i).trips) : Fin 4 → Nat :=
  let c1_99 : Index := 1#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let v199 : Index := Scalar.indexCast arg12
  let c0_100 : Index := 0#32
  let c0_101 : Index := 0#32
  ![1, v199.toNat, 0, 0]
def k0_off14 (i : grid0.Coords) (k0_t2 : Fin (k0_t2_loop i).trips) : Fin 4 → Nat :=
  let c1_108 : Index := 1#32
  let c0_i32_10 : BitVec 32 := 0#32
  let arg2 : BitVec 32 := BitVec.ofNat 32 (i 2).val
  let v24 : BitVec 32 := Scalar.subi arg2 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg12 : BitVec 32 := Scf.iv v28 c1_i32_12 k0_t2
  let v216 : Index := Scalar.indexCast arg12
  let c0_109 : Index := 0#32
  let c256_110 : Index := 256#32
  ![1, v216.toNat, 0, 256]
def k0_mult3 (i : grid0.Coords) : BitVec 32 :=
  let arg2 : BitVec 32 := BitVec.ofNat 32 (i 2).val
  let c512_i32 : BitVec 32 := 512#32
  let v31 : BitVec 32 := Scalar.muli arg2 c512_i32
  v31
def k0_off15 (i : grid0.Coords) : Fin 3 → Nat :=
  let arg2 : BitVec 32 := BitVec.ofNat 32 (i 2).val
  let v33 : Index := Scalar.indexCast arg2
  let c0_13 : Index := 0#32
  let c0_14 : Index := 0#32
  ![v33.toNat, 0, 0]
def k0_off16 (i : grid0.Coords) (c0_i32_15 : BitVec 32) : Fin 4 → Nat :=
  let c0_16 : Index := 0#32
  let c0_17 : Index := 0#32
  let c0_18 : Index := 0#32
  let arg2 : BitVec 32 := BitVec.ofNat 32 (i 2).val
  let c512_i32 : BitVec 32 := 512#32
  let v31 : BitVec 32 := Scalar.muli arg2 c512_i32
  let v32 : BitVec 32 := v31
  let v36 : BitVec 32 := Scalar.addi v32 c0_i32_15
  let v37 : Index := Scalar.indexCast v36
  ![0, 0, 0, v37.toNat]
def k0_off17 (i : grid0.Coords) : Fin 4 → Nat :=
  let c0_22 : Index := 0#32
  let arg2 : BitVec 32 := BitVec.ofNat 32 (i 2).val
  let v51 : Index := Scalar.indexCast arg2
  let c0_23 : Index := 0#32
  let c0_24 : Index := 0#32
  ![0, v51.toNat, 0, 0]
def k0_off18 (i : grid0.Coords) : Fin 4 → Nat :=
  let c0_32 : Index := 0#32
  let arg2 : BitVec 32 := BitVec.ofNat 32 (i 2).val
  let v73 : Index := Scalar.indexCast arg2
  let c0_33 : Index := 0#32
  let c256 : Index := 256#32
  ![0, v73.toNat, 0, 256]
def k0_off19 (i : grid0.Coords) (c0_i32_35 : BitVec 32) : Fin 4 → Nat :=
  let c0_36 : Index := 0#32
  let c0_37 : Index := 0#32
  let c1 : Index := 1#32
  let arg2 : BitVec 32 := BitVec.ofNat 32 (i 2).val
  let c512_i32 : BitVec 32 := 512#32
  let v31 : BitVec 32 := Scalar.muli arg2 c512_i32
  let v32 : BitVec 32 := v31
  let v80 : BitVec 32 := Scalar.addi v32 c0_i32_35
  let v81 : Index := Scalar.indexCast v80
  ![0, 0, 1, v81.toNat]
def k0_off20 (i : grid0.Coords) : Fin 4 → Nat :=
  let c1_41 : Index := 1#32
  let arg2 : BitVec 32 := BitVec.ofNat 32 (i 2).val
  let v95 : Index := Scalar.indexCast arg2
  let c0_42 : Index := 0#32
  let c0_43 : Index := 0#32
  ![1, v95.toNat, 0, 0]
def k0_off21 (i : grid0.Coords) : Fin 4 → Nat :=
  let c1_52 : Index := 1#32
  let arg2 : BitVec 32 := BitVec.ofNat 32 (i 2).val
  let v117 : Index := Scalar.indexCast arg2
  let c0_53 : Index := 0#32
  let c256_54 : Index := 256#32
  ![1, v117.toNat, 0, 256]
@[reducible] def k0_t3_loop (i : grid0.Coords) : Scf.Loop 32 :=
  let c0_i32_58 : BitVec 32 := 0#32
  let arg2 : BitVec 32 := BitVec.ofNat 32 (i 2).val
  let c1_i32_57 : BitVec 32 := 1#32
  let v125 : BitVec 32 := Scalar.addi arg2 c1_i32_57
  let v126 : BitVec 32 := Scalar.subi v125 c0_i32_58
  let c1_i32_59 : BitVec 32 := 1#32
  let v128 : BitVec 32 := Scalar.divsi v126 c1_i32_59
  let v129 : BitVec 32 := Scalar.muli v128 c1_i32_59
  let v130 : BitVec 32 := Scalar.addi c0_i32_58 v129
  let c1_i32_60 : BitVec 32 := 1#32
  ⟨c0_i32_58, v130, c1_i32_60⟩
def k0_off22 (i : grid0.Coords) (k0_t3 : Fin (k0_t3_loop i).trips) : Fin 4 → Nat :=
  let c0_73 : Index := 0#32
  let c0_i32_58 : BitVec 32 := 0#32
  let c1_i32_60 : BitVec 32 := 1#32
  let arg12 : BitVec 32 := Scf.iv c0_i32_58 c1_i32_60 k0_t3
  let v150 : Index := Scalar.indexCast arg12
  let c0_74 : Index := 0#32
  let c0_75 : Index := 0#32
  ![0, v150.toNat, 0, 0]
def k0_off23 (i : grid0.Coords) (k0_t3 : Fin (k0_t3_loop i).trips) : Fin 4 → Nat :=
  let c1_80 : Index := 1#32
  let c0_i32_58 : BitVec 32 := 0#32
  let c1_i32_60 : BitVec 32 := 1#32
  let arg12 : BitVec 32 := Scf.iv c0_i32_58 c1_i32_60 k0_t3
  let v163 : Index := Scalar.indexCast arg12
  let c0_81 : Index := 0#32
  let c0_82 : Index := 0#32
  ![1, v163.toNat, 0, 0]
@[reducible] def k0_t4_loop (i : grid0.Coords) : Scf.Loop 32 :=
  let c0_i32_58 : BitVec 32 := 0#32
  let arg2 : BitVec 32 := BitVec.ofNat 32 (i 2).val
  let c1_i32_57 : BitVec 32 := 1#32
  let v125 : BitVec 32 := Scalar.addi arg2 c1_i32_57
  let v126 : BitVec 32 := Scalar.subi v125 c0_i32_58
  let c1_i32_59 : BitVec 32 := 1#32
  let v128 : BitVec 32 := Scalar.divsi v126 c1_i32_59
  let v129 : BitVec 32 := Scalar.muli v128 c1_i32_59
  let v130 : BitVec 32 := Scalar.addi c0_i32_58 v129
  let v127 : BitVec 32 := Scalar.addi c0_i32_58 v126
  let c1_i32_61 : BitVec 32 := 1#32
  ⟨v130, v127, c1_i32_61⟩
def k0_off24 (i : grid0.Coords) (k0_t4 : Fin (k0_t4_loop i).trips) : Fin 4 → Nat :=
  let c0_73 : Index := 0#32
  let c0_i32_58 : BitVec 32 := 0#32
  let arg2 : BitVec 32 := BitVec.ofNat 32 (i 2).val
  let c1_i32_57 : BitVec 32 := 1#32
  let v125 : BitVec 32 := Scalar.addi arg2 c1_i32_57
  let v126 : BitVec 32 := Scalar.subi v125 c0_i32_58
  let c1_i32_59 : BitVec 32 := 1#32
  let v128 : BitVec 32 := Scalar.divsi v126 c1_i32_59
  let v129 : BitVec 32 := Scalar.muli v128 c1_i32_59
  let v130 : BitVec 32 := Scalar.addi c0_i32_58 v129
  let c1_i32_61 : BitVec 32 := 1#32
  let arg12 : BitVec 32 := Scf.iv v130 c1_i32_61 k0_t4
  let v150 : Index := Scalar.indexCast arg12
  let c0_74 : Index := 0#32
  let c0_75 : Index := 0#32
  ![0, v150.toNat, 0, 0]
def k0_off25 (i : grid0.Coords) (k0_t4 : Fin (k0_t4_loop i).trips) : Fin 4 → Nat :=
  let c1_80 : Index := 1#32
  let c0_i32_58 : BitVec 32 := 0#32
  let arg2 : BitVec 32 := BitVec.ofNat 32 (i 2).val
  let c1_i32_57 : BitVec 32 := 1#32
  let v125 : BitVec 32 := Scalar.addi arg2 c1_i32_57
  let v126 : BitVec 32 := Scalar.subi v125 c0_i32_58
  let c1_i32_59 : BitVec 32 := 1#32
  let v128 : BitVec 32 := Scalar.divsi v126 c1_i32_59
  let v129 : BitVec 32 := Scalar.muli v128 c1_i32_59
  let v130 : BitVec 32 := Scalar.addi c0_i32_58 v129
  let c1_i32_61 : BitVec 32 := 1#32
  let arg12 : BitVec 32 := Scf.iv v130 c1_i32_61 k0_t4
  let v163 : Index := Scalar.indexCast arg12
  let c0_81 : Index := 0#32
  let c0_82 : Index := 0#32
  ![1, v163.toNat, 0, 0]
@[reducible] def k0_t5_loop (i : grid0.Coords) : Scf.Loop 32 :=
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_68 : BitVec 32 := 1#32
  ⟨c0_i32_66, v143, c1_i32_68⟩
def k0_mult4 (i : grid0.Coords) (k0_t5 : Fin (k0_t5_loop i).trips) : BitVec 32 :=
  let c0_i32_66 : BitVec 32 := 0#32
  let c1_i32_68 : BitVec 32 := 1#32
  let arg12 : BitVec 32 := Scf.iv c0_i32_66 c1_i32_68 k0_t5
  let c512_i32_73 : BitVec 32 := 512#32
  let v150 : BitVec 32 := Scalar.muli arg12 c512_i32_73
  v150
def k0_off26 (i : grid0.Coords) (k0_t5 : Fin (k0_t5_loop i).trips) : Fin 2 → Nat :=
  let c0_i32_66 : BitVec 32 := 0#32
  let c1_i32_68 : BitVec 32 := 1#32
  let arg12 : BitVec 32 := Scf.iv c0_i32_66 c1_i32_68 k0_t5
  let c512_i32_73 : BitVec 32 := 512#32
  let v150 : BitVec 32 := Scalar.muli arg12 c512_i32_73
  let v151 : BitVec 32 := v150
  let v152 : Index := Scalar.indexCast v151
  let c0_74 : Index := 0#32
  ![v152.toNat, 0]
def k0_off27 (i : grid0.Coords) (k0_t5 : Fin (k0_t5_loop i).trips) : Fin 4 → Nat :=
  let c0_75 : Index := 0#32
  let c0_i32_66 : BitVec 32 := 0#32
  let c1_i32_68 : BitVec 32 := 1#32
  let arg12 : BitVec 32 := Scf.iv c0_i32_66 c1_i32_68 k0_t5
  let v154 : Index := Scalar.indexCast arg12
  let c0_76 : Index := 0#32
  let c0_77 : Index := 0#32
  ![0, v154.toNat, 0, 0]
def k0_off28 (i : grid0.Coords) (k0_t5 : Fin (k0_t5_loop i).trips) : Fin 4 → Nat :=
  let c1_79 : Index := 1#32
  let c0_i32_66 : BitVec 32 := 0#32
  let c1_i32_68 : BitVec 32 := 1#32
  let arg12 : BitVec 32 := Scf.iv c0_i32_66 c1_i32_68 k0_t5
  let v162 : Index := Scalar.indexCast arg12
  let c0_80 : Index := 0#32
  let c0_81 : Index := 0#32
  ![1, v162.toNat, 0, 0]
@[reducible] def k0_t6_loop (i : grid0.Coords) : Scf.Loop 32 :=
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let v140 : BitVec 32 := Scalar.addi c0_i32_66 v139
  let c1_i32_69 : BitVec 32 := 1#32
  ⟨v143, v140, c1_i32_69⟩
def k0_mult5 (i : grid0.Coords) (k0_t6 : Fin (k0_t6_loop i).trips) : BitVec 32 :=
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg12 : BitVec 32 := Scf.iv v143 c1_i32_69 k0_t6
  let c512_i32_73 : BitVec 32 := 512#32
  let v150 : BitVec 32 := Scalar.muli arg12 c512_i32_73
  v150
def k0_off29 (i : grid0.Coords) (k0_t6 : Fin (k0_t6_loop i).trips) : Fin 2 → Nat :=
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg12 : BitVec 32 := Scf.iv v143 c1_i32_69 k0_t6
  let c512_i32_73 : BitVec 32 := 512#32
  let v150 : BitVec 32 := Scalar.muli arg12 c512_i32_73
  let v151 : BitVec 32 := v150
  let v152 : Index := Scalar.indexCast v151
  let c0_74 : Index := 0#32
  ![v152.toNat, 0]
def k0_off30 (i : grid0.Coords) (k0_t6 : Fin (k0_t6_loop i).trips) : Fin 4 → Nat :=
  let c0_75 : Index := 0#32
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg12 : BitVec 32 := Scf.iv v143 c1_i32_69 k0_t6
  let v154 : Index := Scalar.indexCast arg12
  let c0_76 : Index := 0#32
  let c0_77 : Index := 0#32
  ![0, v154.toNat, 0, 0]
def k0_off31 (i : grid0.Coords) (k0_t6 : Fin (k0_t6_loop i).trips) : Fin 4 → Nat :=
  let c1_79 : Index := 1#32
  let c0_i32_66 : BitVec 32 := 0#32
  let arg2 : BitVec 32 := BitVec.ofNat 32 (i 2).val
  let c1_i32_65 : BitVec 32 := 1#32
  let v138 : BitVec 32 := Scalar.addi arg2 c1_i32_65
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg12 : BitVec 32 := Scf.iv v143 c1_i32_69 k0_t6
  let v162 : Index := Scalar.indexCast arg12
  let c0_80 : Index := 0#32
  let c0_81 : Index := 0#32
  ![1, v162.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16640x2560 : Shape := ⟨2, ![16640, 2560]⟩
abbrev S32x4096 : Shape := ⟨2, ![32, 4096]⟩
abbrev S16384x512 : Shape := ⟨2, ![16384, 512]⟩
abbrev S4x4096x8x64 : Shape := ⟨4, ![4, 4096, 8, 64]⟩
abbrev S4x8x4096 : Shape := ⟨3, ![4, 8, 4096]⟩
abbrev S4096 : Shape := ⟨1, ![4096]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16640x2560, .f32⟩
  | .hbm, ⟨1, _⟩ => ⟨S32x4096, .f32⟩
  | .hbm, ⟨2, _⟩ => ⟨S16384x512, .f32⟩
  | .hbm, ⟨3, _⟩ => ⟨S4x4096x8x64, .f32⟩
  | .hbm, ⟨4, _⟩ => ⟨S16384x512, .f32⟩
  | .hbm, ⟨5, _⟩ => ⟨S4x4096x8x64, .f32⟩
  | .hbm, ⟨6, _⟩ => ⟨S16384x512, .f32⟩
  | .hbm, ⟨7, _⟩ => ⟨S4x4096x8x64, .f32⟩
  | .hbm, ⟨8, _⟩ => ⟨S4x8x4096, .f32⟩
  | .hbm, ⟨9, _⟩ => ⟨S4096, .i32⟩
  | .hbm, ⟨10, _⟩ => ⟨S4x8x4096x4096, .f32⟩
  | .hbm, ⟨11, _⟩ => ⟨S_, .f32⟩
  | .hbm, ⟨12, _⟩ => ⟨S4x8x4096x4096, .f32⟩
  | .hbm, ⟨13, _⟩ => ⟨S4x8x4096x4096, .f32⟩
  | .hbm, ⟨14, _⟩ => ⟨S4x8x4096x1, .f32⟩
  | .hbm, ⟨15, _⟩ => ⟨S4x8x1x4096, .f32⟩
  | .hbm, ⟨16, _⟩ => ⟨S4x8x4096x4096, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x8x4096x4096, .i1⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S4x8x4096, .f32⟩
  | .hbm, ⟨32, _⟩ => ⟨S_, .f32⟩
  | .hbm, ⟨33, _⟩ => ⟨S4x8x4096, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S4x8x4096, .f32⟩
  | .hbm, ⟨41, _⟩ => ⟨S4x8x4096x1, .f32⟩
  | .hbm, ⟨42, _⟩ => ⟨S4x8x4096x4096, .f32⟩
  | .hbm, ⟨43, _⟩ => ⟨S4x8x4096x4096, .f32⟩
  | .hbm, ⟨44, _⟩ => ⟨S4x8x64x4096, .f32⟩
  | .hbm, ⟨45, _⟩ => ⟨S4x4096x8x64, .f32⟩
  | .hbm, ⟨46, _⟩ => ⟨S16384x512, .f32⟩
  | _, _ => ⟨S16640x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== InProj.lean ====
abbrev S16640x1024 : Shape := ⟨2, ![16640, 1024]⟩
abbrev S1024x2568 : Shape := ⟨2, ![1024, 2568]⟩
abbrev S1024x1536 : Shape := ⟨2, ![1024, 1536]⟩
abbrev S1024x1024 : Shape := ⟨2, ![1024, 1024]⟩
abbrev S1024x2560 : Shape := ⟨2, ![1024, 2560]⟩
abbrev S16640x2560 : Shape := ⟨2, ![16640, 2560]⟩
abbrev S1280x1024 : Shape := ⟨2, ![1280, 1024]⟩
abbrev S1024x640 : Shape := ⟨2, ![1024, 640]⟩
abbrev S1280x640 : Shape := ⟨2, ![1280, 640]⟩

abbrev nBuf : Space → Nat
  | .hbm => 7
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S1024x2568, .f32⟩
  | .hbm, ⟨2, _⟩ => ⟨S1024x1536, .f32⟩
  | .hbm, ⟨3, _⟩ => ⟨S1024x1024, .f32⟩
  | .hbm, ⟨4, _⟩ => ⟨S1024x2560, .f32⟩
  | .hbm, ⟨5, _⟩ => ⟨S1024x2560, .bf16⟩
  | .hbm, ⟨6, _⟩ => ⟨S16640x2560, .f32⟩
  | .local _ .vmem, ⟨0, _⟩ => ⟨S1280x1024, .f32⟩
  | .local _ .vmem, ⟨1, _⟩ => ⟨S1280x1024, .f32⟩
  | .local _ .vmem, ⟨2, _⟩ => ⟨S1024x640, .bf16⟩
  | .local _ .vmem, ⟨3, _⟩ => ⟨S1024x640, .bf16⟩
  | .local _ .vmem, ⟨4, _⟩ => ⟨S1280x640, .f32⟩
  | .local _ .vmem, ⟨5, _⟩ => ⟨S1280x640, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16640x1024 : Shape := ⟨2, ![16640, 1024]⟩
abbrev S1024x2568 : Shape := ⟨2, ![1024, 2568]⟩
abbrev S16640x2568 : Shape := ⟨2, ![16640, 2568]⟩
abbrev S16640x1536 : Shape := ⟨2, ![16640, 1536]⟩
abbrev S16640x2560 : Shape := ⟨2, ![16640, 2560]⟩

abbrev nBuf : Space → Nat
  | .hbm => 6
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x2568, .f32⟩
  | .hbm, ⟨2, _⟩ => ⟨S16640x2568, .f32⟩
  | .hbm, ⟨3, _⟩ => ⟨S16640x1536, .f32⟩
  | .hbm, ⟨4, _⟩ => ⟨S16640x1024, .f32⟩
  | .hbm, ⟨5, _⟩ => ⟨S16640x2560, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Forget.lean ====
abbrev S16640x1024 : Shape := ⟨2, ![16640, 1024]⟩
abbrev S1024x2568 : Shape := ⟨2, ![1024, 2568]⟩
abbrev S8 : Shape := ⟨1, ![8]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16640x128 : Shape := ⟨2, ![16640, 128]⟩
abbrev S1280x1024 : Shape := ⟨2, ![1280, 1024]⟩
abbrev S1280x128 : Shape := ⟨2, ![1280, 128]⟩

abbrev nBuf : Space → Nat
  | .hbm => 13
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S1024x2568, .f32⟩
  | .hbm, ⟨2, _⟩ => ⟨S8, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S16640x128, .f32⟩
  | .local _ .vmem, ⟨0, _⟩ => ⟨S1280x1024, .f32⟩
  | .local _ .vmem, ⟨1, _⟩ => ⟨S1280x1024, .f32⟩
  | .local _ .vmem, ⟨2, _⟩ => ⟨S1024x128, .bf16⟩
  | .local _ .vmem, ⟨3, _⟩ => ⟨S1x128, .f32⟩
  | .local _ .vmem, ⟨4, _⟩ => ⟨S1280x128, .f32⟩
  | .local _ .vmem, ⟨5, _⟩ => ⟨S1280x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ForgetRefIdeal.lean ====
abbrev S16640x1024 : Shape := ⟨2, ![16640, 1024]⟩
abbrev S1024x2568 : Shape := ⟨2, ![1024, 2568]⟩
abbrev S8 : Shape := ⟨1, ![8]⟩
abbrev S16640x2568 : Shape := ⟨2, ![16640, 2568]⟩
abbrev S16640x8 : Shape := ⟨2, ![16640, 8]⟩
abbrev S1x8 : Shape := ⟨2, ![1, 8]⟩
abbrev S_ : Shape := ⟨0, ![]⟩
abbrev S16640x128 : Shape := ⟨2, ![16640, 128]⟩

abbrev nBuf : Space → Nat
  | .hbm => 27
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x2568, .f32⟩
  | .hbm, ⟨2, _⟩ => ⟨S8, .f32⟩
  | .hbm, ⟨3, _⟩ => ⟨S16640x2568, .f32⟩
  | .hbm, ⟨4, _⟩ => ⟨S16640x8, .f32⟩
  | .hbm, ⟨5, _⟩ => ⟨S1x8, .f32⟩
  | .hbm, ⟨6, _⟩ => ⟨S16640x8, .f32⟩
  | .hbm, ⟨7, _⟩ => ⟨S16640x8, .f32⟩
  | .hbm, ⟨8, _⟩ => ⟨S_, .i32⟩
  | .hbm, ⟨9, _⟩ => ⟨S_, .f32⟩
  | .hbm, ⟨10, _⟩ => ⟨S16640x128, .f32⟩
  | .hbm, ⟨11, _⟩ => ⟨S16640x128, .f32⟩
  | .hbm, ⟨12, _⟩ => ⟨S_, .f32⟩
  | .hbm, ⟨13, _⟩ => ⟨S16640x128, .f32⟩
  | .hbm, ⟨14, _⟩ => ⟨S16640x128, .f32⟩
  | .hbm, ⟨15, _⟩ => ⟨S16640x128, .f32⟩
  | .hbm, ⟨16, _⟩ => ⟨S16640x128, .f32⟩
  | .hbm, ⟨17, _⟩ => ⟨S16640x128, .i1⟩
  | .hbm, ⟨18, _⟩ => ⟨S16640x128, .f32⟩
  | .hbm, ⟨19, _⟩ => ⟨S16640x128, .f32⟩
  | .hbm, ⟨20, _⟩ => ⟨S16640x128, .f32⟩
  | .hbm, ⟨21, _⟩ => ⟨S16640x128, .f32⟩
  | .hbm, ⟨22, _⟩ => ⟨S16640x128, .f32⟩
  | .hbm, ⟨23, _⟩ => ⟨S16640x128, .f32⟩
  | .hbm, ⟨24, _⟩ => ⟨S16640x128, .f32⟩
  | .hbm, ⟨25, _⟩ => ⟨S16640x128, .f32⟩
  | .hbm, ⟨26, _⟩ => ⟨S16640x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_call1_v0 : Ref sig .tc := ⟨.hbm, 11, rfl⟩
abbrev main_call1_call0_cst : Ref sig .tc := ⟨.hbm, 12, rfl⟩
abbrev main_call1_call0_v0 : Ref sig .tc := ⟨.hbm, 13, rfl⟩
abbrev main_call1_call0_v1 : Ref sig .tc := ⟨.hbm, 14, rfl⟩
abbrev main_call1_call0_v2 : Ref sig .tc := ⟨.hbm, 15, rfl⟩
abbrev main_call1_call0_v3 : Ref sig .tc := ⟨.hbm, 16, rfl⟩
abbrev main_call1_call0_v4 : Ref sig .tc := ⟨.hbm, 17, rfl⟩
abbrev main_call1_call0_v5 : Ref sig .tc := ⟨.hbm, 18, rfl⟩
abbrev main_call1_call0_v6 : Ref sig .tc := ⟨.hbm, 19, rfl⟩
abbrev main_call1_call0_v7 : Ref sig .tc := ⟨.hbm, 20, rfl⟩
abbrev main_call1_call0_v8 : Ref sig .tc := ⟨.hbm, 21, rfl⟩
abbrev main_call1_call0_v9 : Ref sig .tc := ⟨.hbm, 22, rfl⟩
abbrev main_call1_call0_v10 : Ref sig .tc := ⟨.hbm, 23, rfl⟩
abbrev main_call1_call0_v11 : Ref sig .tc := ⟨.hbm, 24, rfl⟩
abbrev main_call1_v1 : Ref sig .tc := ⟨.hbm, 25, rfl⟩
abbrev main_v6 : Ref sig .tc := ⟨.hbm, 26, rfl⟩

abbrev nD : Nat := 1
abbrev τ : Topo := Topo.v7x

variable {F : FTy → Type} [FloatOps F]
-- ==== OutProj.lean ====
abbrev S16640x512 : Shape := ⟨2, ![16640, 512]⟩
abbrev S16640x1024 : Shape := ⟨2, ![16640, 1024]⟩
abbrev S512 : Shape := ⟨1, ![512]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x512 : Shape := ⟨2, ![1, 512]⟩
abbrev S512x1024 : Shape := ⟨2, ![512, 1024]⟩
abbrev S1x1024 : Shape := ⟨2, ![1, 1024]⟩
abbrev S16640x128 : Shape := ⟨2, ![16640, 128]⟩
abbrev S65x1x128 : Shape := ⟨3, ![65, 1, 128]⟩
abbrev S1280x512 : Shape := ⟨2, ![1280, 512]⟩
abbrev S1280x1024 : Shape := ⟨2, ![1280, 1024]⟩
abbrev S1280x128 : Shape := ⟨2, ![1280, 128]⟩
abbrev S5x1x128 : Shape := ⟨3, ![5, 1, 128]⟩
abbrev S1280 : Shape := ⟨1, ![1280]⟩
abbrev S1280x1 : Shape := ⟨2, ![1280, 1]⟩
abbrev S256x128 : Shape := ⟨2, ![256, 128]⟩
abbrev S1x1x128 : Shape := ⟨3, ![1, 1, 128]⟩

abbrev nBuf : Space → Nat
  | .hbm => 29
  | .vmem => 20
  | .smem => 0
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x512, .f32⟩
  | .hbm, ⟨19, _⟩ => ⟨S1x512, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1x1024, .f32⟩
  | .hbm, ⟨25, _⟩ => ⟨S1x1024, .f32⟩
  | .hbm, ⟨26, _⟩ => ⟨S16640x1024, .f32⟩
  | .hbm, ⟨27, _⟩ => ⟨S16640x128, .f32⟩
  | .hbm, ⟨28, _⟩ => ⟨S65x1x128, .f32⟩
  | .local _ .vmem, ⟨0, _⟩ => ⟨S1280x512, .f32⟩
  | .local _ .vmem, ⟨1, _⟩ => ⟨S1280x512, .f32⟩
  | .local _ .vmem, ⟨2, _⟩ => ⟨S1280x512, .f32⟩
  | .local _ .vmem, ⟨3, _⟩ => ⟨S1280x512, .f32⟩
  | .local _ .vmem, ⟨4, _⟩ => ⟨S1280x1024, .f32⟩
  | .local _ .vmem, ⟨5, _⟩ => ⟨S1280x1024, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x128, .bf16⟩
  | .local _ .vmem, ⟨13, _⟩ => ⟨S1x128, .f32⟩
  | .local _ .vmem, ⟨14, _⟩ => ⟨S1280x1024, .f32⟩
  | .local _ .vmem, ⟨15, _⟩ => ⟨S1280x1024, .f32⟩
  | .local _ .vmem, ⟨16, _⟩ => ⟨S1280x128, .f32⟩
  | .local _ .vmem, ⟨17, _⟩ => ⟨S1280x128, .f32⟩
  | .local _ .vmem, ⟨18, _⟩ => ⟨S5x1x128, .f32⟩
  | .local _ .vmem, ⟨19, _⟩ => ⟨S5x1x128, .f32⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1280x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1280x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjRefIdeal.lean ====
abbrev S16640x512 : Shape := ⟨2, ![16640, 512]⟩
abbrev S16640x1024 : Shape := ⟨2, ![16640, 1024]⟩
abbrev S512 : Shape := ⟨1, ![512]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S16640 : Shape := ⟨1, ![16640]⟩
abbrev S16640x1 : Shape := ⟨2, ![16640, 1]⟩
abbrev S1x512 : Shape := ⟨2, ![1, 512]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S16640x512, .f32⟩
  | .hbm, ⟨11, _⟩ => ⟨S_, .f32⟩
  | .hbm, ⟨12, _⟩ => ⟨S16640, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S_, .f32⟩
  | .hbm, ⟨18, _⟩ => ⟨S16640x1, .f32⟩
  | .hbm, ⟨19, _⟩ => ⟨S16640x1, .f32⟩
  | .hbm, ⟨20, _⟩ => ⟨S16640x1, .f32⟩
  | .hbm, ⟨21, _⟩ => ⟨S16640x512, .f32⟩
  | .hbm, ⟨22, _⟩ => ⟨S16640x512, .f32⟩
  | .hbm, ⟨23, _⟩ => ⟨S1x512, .f32⟩
  | .hbm, ⟨24, _⟩ => ⟨S16640x512, .f32⟩
  | .hbm, ⟨25, _⟩ => ⟨S16640x512, .f32⟩
  | .hbm, ⟨26, _⟩ => ⟨S16640x512, .f32⟩
  | .hbm, ⟨27, _⟩ => ⟨S_, .f32⟩
  | .hbm, ⟨28, _⟩ => ⟨S16640, .f32⟩
  | .hbm, ⟨29, _⟩ => ⟨S16640x1, .f32⟩
  | .hbm, ⟨30, _⟩ => ⟨S_, .f32⟩
  | .hbm, ⟨31, _⟩ => ⟨S16640x1, .f32⟩
  | .hbm, ⟨32, _⟩ => ⟨S16640x1, .f32⟩
  | .hbm, ⟨33, _⟩ => ⟨S_, .f32⟩
  | .hbm, ⟨34, _⟩ => ⟨S16640x1, .f32⟩
  | .hbm, ⟨35, _⟩ => ⟨S16640x1, .f32⟩
  | .hbm, ⟨36, _⟩ => ⟨S16640x1, .f32⟩
  | .hbm, ⟨37, _⟩ => ⟨S16640x512, .f32⟩
  | .hbm, ⟨38, _⟩ => ⟨S16640x512, .f32⟩
  | .hbm, ⟨39, _⟩ => ⟨S1x512, .f32⟩
  | .hbm, ⟨40, _⟩ => ⟨S16640x512, .f32⟩
  | .hbm, ⟨41, _⟩ => ⟨S16640x512, .f32⟩
  | .hbm, ⟨42, _⟩ => ⟨S16640x1024, .f32⟩
  | .hbm, ⟨43, _⟩ => ⟨S16640x1024, .f32⟩
  | .hbm, ⟨44, _⟩ => ⟨S_, .f32⟩
  | .hbm, ⟨45, _⟩ => ⟨S16640x1024, .f32⟩
  | .hbm, ⟨46, _⟩ => ⟨S16640x1024, .f32⟩
  | .hbm, ⟨47, _⟩ => ⟨S16640x1024, .f32⟩
  | .hbm, ⟨48, _⟩ => ⟨S_, .f32⟩
  | .hbm, ⟨49, _⟩ => ⟨S16640, .f32⟩
  | .hbm, ⟨50, _⟩ => ⟨S16640x1, .f32⟩
  | .hbm, ⟨51, _⟩ => ⟨S_, .f32⟩
  | .hbm, ⟨52, _⟩ => ⟨S16640x1, .f32⟩
  | .hbm, ⟨53, _⟩ => ⟨S16640x1, .f32⟩
  | .hbm, ⟨54, _⟩ => ⟨S16640x1024, .f32⟩
  | .hbm, ⟨55, _⟩ => ⟨S16640x1024, .f32⟩
  | .hbm, ⟨56, _⟩ => ⟨S16640x1024, .f32⟩
  | .hbm, ⟨57, _⟩ => ⟨S_, .f32⟩
  | .hbm, ⟨58, _⟩ => ⟨S16640, .f32⟩
  | .hbm, ⟨59, _⟩ => ⟨S16640x1, .f32⟩
  | .hbm, ⟨60, _⟩ => ⟨S_, .f32⟩
  | .hbm, ⟨61, _⟩ => ⟨S16640x1, .f32⟩
  | .hbm, ⟨62, _⟩ => ⟨S16640x1, .f32⟩
  | .hbm, ⟨63, _⟩ => ⟨S_, .f32⟩
  | .hbm, ⟨64, _⟩ => ⟨S16640x1, .f32⟩
  | .hbm, ⟨65, _⟩ => ⟨S16640x1, .f32⟩
  | .hbm, ⟨66, _⟩ => ⟨S16640x1, .f32⟩
  | .hbm, ⟨67, _⟩ => ⟨S16640x1024, .f32⟩
  | .hbm, ⟨68, _⟩ => ⟨S16640x1024, .f32⟩
  | .hbm, ⟨69, _⟩ => ⟨S1x1024, .f32⟩
  | .hbm, ⟨70, _⟩ => ⟨S16640x1024, .f32⟩
  | .hbm, ⟨71, _⟩ => ⟨S16640x1024, .f32⟩
  | .hbm, ⟨72, _⟩ => ⟨S1x1024, .f32⟩
  | .hbm, ⟨73, _⟩ => ⟨S16640x1024, .f32⟩
  | .hbm, ⟨74, _⟩ => ⟨S16640x1024, .f32⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Rec.lean ====
abbrev S16640x2560 : Shape := ⟨2, ![16640, 2560]⟩
abbrev S32x3x512 : Shape := ⟨3, ![32, 3, 512]⟩
abbrev S32x512 : Shape := ⟨2, ![32, 512]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S32x1x512 : Shape := ⟨3, ![32, 1, 512]⟩
abbrev S1x512 : Shape := ⟨2, ![1, 512]⟩
abbrev S256x512 : Shape := ⟨2, ![256, 512]⟩
abbrev S8x512 : Shape := ⟨2, ![8, 512]⟩
abbrev S1x3x512 : Shape := ⟨3, ![1, 3, 512]⟩
abbrev S1x1x512 : Shape := ⟨3, ![1, 1, 512]⟩
abbrev S16x512 : Shape := ⟨2, ![16, 512]⟩
abbrev S3x512 : Shape := ⟨2, ![3, 512]⟩
abbrev S8x1024 : Shape := ⟨2, ![8, 1024]⟩

abbrev nBuf : Space → Nat
  | .hbm => 46
  | .vmem => 24
  | .smem => 0
  | _ => 0

abbrev bufTy : (tb : Table) → Fin (tcTables nBuf tb) → BufTy
  | .hbm, ⟨0, _⟩ => ⟨S16640x2560, .f32⟩
  | .hbm, ⟨1, _⟩ => ⟨S32x3x512, .f32⟩
  | .hbm, ⟨2, _⟩ => ⟨S32x512, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S8x64x64, .f32⟩
  | .hbm, ⟨8, _⟩ => ⟨S512, .f32⟩
  | .hbm, ⟨9, _⟩ => ⟨S512, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x64x1x64, .f32⟩
  | .hbm, ⟨18, _⟩ => ⟨S8x1x8x1, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x64x1x64, .f32⟩
  | .hbm, ⟨31, _⟩ => ⟨S8x1x8x1, .f32⟩
  | .hbm, ⟨32, _⟩ => ⟨S8x64x8x64, .f32⟩
  | .hbm, ⟨33, _⟩ => ⟨S8x64x8x64, .f32⟩
  | .hbm, ⟨34, _⟩ => ⟨S8x64x8x64, .f32⟩
  | .hbm, ⟨35, _⟩ => ⟨S512x512, .f32⟩
  | .hbm, ⟨36, _⟩ => ⟨S512x1024, .f32⟩
  | .hbm, ⟨37, _⟩ => ⟨S512x1024, .bf16⟩
  | .hbm, ⟨38, _⟩ => ⟨S1024, .f32⟩
  | .hbm, ⟨39, _⟩ => ⟨S1x1024, .f32⟩
  | .hbm, ⟨40, _⟩ => ⟨S32x1x512, .f32⟩
  | .hbm, ⟨41, _⟩ => ⟨S1x512, .f32⟩
  | .hbm, ⟨42, _⟩ => ⟨S1x512, .f32⟩
  | .hbm, ⟨43, _⟩ => ⟨S256x512, .f32⟩
  | .hbm, ⟨44, _⟩ => ⟨S32x1x512, .f32⟩
  | .hbm, ⟨45, _⟩ => ⟨S32x3x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S1x3x512, .f32⟩
  | .local _ .vmem, ⟨5, _⟩ => ⟨S1x3x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S1x512, .f32⟩
  | .local _ .vmem, ⟨10, _⟩ => ⟨S512x1024, .bf16⟩
  | .local _ .vmem, ⟨11, _⟩ => ⟨S1x1024, .f32⟩
  | .local _ .vmem, ⟨12, _⟩ => ⟨S1x512, .f32⟩
  | .local _ .vmem, ⟨13, _⟩ => ⟨S8x512, .f32⟩
  | .local _ .vmem, ⟨14, _⟩ => ⟨S8x512, .f32⟩
  | .local _ .vmem, ⟨15, _⟩ => ⟨S1x1x512, .f32⟩
  | .local _ .vmem, ⟨16, _⟩ => ⟨S1x1x512, .f32⟩
  | .local _ .vmem, ⟨17, _⟩ => ⟨S1x3x512, .f32⟩
  | .local _ .vmem, ⟨18, _⟩ => ⟨S1x3x512, .f32⟩
  | .local _ .vmem, ⟨19, _⟩ => ⟨S16x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S1x512, .f32⟩
  | _, _ => ⟨S16640x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def k0_mult1 : BitVec 32 :=
  let c0_i32_35 : BitVec 32 := 0#32
  let c8_i32 : BitVec 32 := 8#32
  let v79 : BitVec 32 := Scalar.muli c0_i32_35 c8_i32
  v79
def k0_off1 : Fin 2 → Nat :=
  let c0_i32_35 : BitVec 32 := 0#32
  let c8_i32 : BitVec 32 := 8#32
  let v79 : BitVec 32 := Scalar.muli c0_i32_35 c8_i32
  let v80 : BitVec 32 := v79
  let v81 : Index := Scalar.indexCast v80
  let c0_36 : Index := 0#32
  ![v81.toNat, 0]
def k0_cond2 (i : grid0.Coords) : BitVec 1 :=
  let arg1 : BitVec 32 := BitVec.ofNat 32 (i 1).val
  let c0_i32_51 : BitVec 32 := 0#32
  let v142 : BitVec 1 := Scalar.cmpi .eq arg1 c0_i32_51
  let v143 : BitVec 32 := Scalar.extui v142
  let c0_i32_52 : BitVec 32 := 0#32
  let v144 : BitVec 1 := Scalar.cmpi .ne v143 c0_i32_52
  v144

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c4_i32 : BitVec 32 := 4#32
  let c0_i32 : BitVec 32 := 0#32
  ![v2.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RecRefIdeal.lean ====
abbrev S16640x2560 : Shape := ⟨2, ![16640, 2560]⟩
abbrev S32x3x512 : Shape := ⟨3, ![32, 3, 512]⟩
abbrev S32x512 : Shape := ⟨2, ![32, 512]⟩
abbrev S4x512 : Shape := ⟨2, ![4, 512]⟩
abbrev S512 : Shape := ⟨1, ![512]⟩
abbrev S8x64x64 : Shape := ⟨3, ![8, 64, 64]⟩
abbrev S256x2560 : Shape := ⟨2, ![256, 2560]⟩
abbrev S32x8x2560 : Shape := ⟨3, ![32, 8, 2560]⟩
abbrev S32x8x512 : Shape := ⟨3, ![32, 8, 512]⟩
abbrev S32x11x512 : Shape := ⟨3, ![32, 11, 512]⟩
abbrev S1x512 : Shape := ⟨2, ![1, 512]⟩
abbrev S1x1x512 : Shape := ⟨3, ![1, 1, 512]⟩
abbrev S32x8x8x64 : Shape := ⟨4, ![32, 8, 8, 64]⟩
abbrev S8x64x32x8 : Shape := ⟨4, ![8, 64, 32, 8]⟩
abbrev S_ : Shape := ⟨0, ![]⟩
abbrev S32x1x512 : Shape := ⟨3, ![32, 1, 512]⟩
abbrev S256x512 : Shape := ⟨2, ![256, 512]⟩

abbrev nBuf : Space → Nat
  | .hbm => 182
  | .vmem => 0
  | .smem => 0
  | _ => 0

abbrev hbmTy0_0 (i : Nat) : BufTy := match i % 128 with
  | 0 => ⟨S16640x2560, .f32⟩
  | 1 => ⟨S32x3x512, .f32⟩
  | 2 => ⟨S32x512, .f32⟩
  | 3 => ⟨S4x512, .f32⟩
  | 4 => ⟨S512, .f32⟩
  | 5 => ⟨S8x64x64, .f32⟩
  | 6 => ⟨S512, .f32⟩
  | 7 => ⟨S8x64x64, .f32⟩
  | 8 => ⟨S512, .f32⟩
  | 9 => ⟨S512, .f32⟩
  | 10 => ⟨S256x2560, .f32⟩
  | 11 => ⟨S32x8x2560, .f32⟩
  | 12 => ⟨S32x8x512, .f32⟩
  | 13 => ⟨S32x8x512, .f32⟩
  | 14 => ⟨S32x11x512, .f32⟩
  | 15 => ⟨S32x8x512, .f32⟩
  | 16 => ⟨S1x512, .f32⟩
  | 17 => ⟨S512, .f32⟩
  | 18 => ⟨S1x1x512, .f32⟩
  | 19 => ⟨S32x8x512, .f32⟩
  | 20 => ⟨S32x8x512, .f32⟩
  | 21 => ⟨S1x1x512, .f32⟩
  | 22 => ⟨S32x8x512, .f32⟩
  | 23 => ⟨S32x8x512, .f32⟩
  | 24 => ⟨S32x8x512, .f32⟩
  | 25 => ⟨S1x512, .f32⟩
  | 26 => ⟨S512, .f32⟩
  | 27 => ⟨S1x1x512, .f32⟩
  | 28 => ⟨S32x8x512, .f32⟩
  | 29 => ⟨S32x8x512, .f32⟩
  | 30 => ⟨S32x8x512, .f32⟩
  | 31 => ⟨S32x8x512, .f32⟩
  | 32 => ⟨S1x512, .f32⟩
  | 33 => ⟨S512, .f32⟩
  | 34 => ⟨S1x1x512, .f32⟩
  | 35 => ⟨S32x8x512, .f32⟩
  | 36 => ⟨S32x8x512, .f32⟩
  | 37 => ⟨S32x8x512, .f32⟩
  | 38 => ⟨S32x8x512, .f32⟩
  | 39 => ⟨S1x512, .f32⟩
  | 40 => ⟨S512, .f32⟩
  | 41 => ⟨S1x1x512, .f32⟩
  | 42 => ⟨S32x8x512, .f32⟩
  | 43 => ⟨S32x8x512, .f32⟩
  | 44 => ⟨S32x8x512, .f32⟩
  | 45 => ⟨S32x8x8x64, .f32⟩
  | 46 => ⟨S8x64x32x8, .f32⟩
  | 47 => ⟨S32x8x8x64, .f32⟩
  | 48 => ⟨S32x8x512, .f32⟩
  | 49 => ⟨S1x1x512, .f32⟩
  | 50 => ⟨S32x8x512, .f32⟩
  | 51 => ⟨S32x8x512, .f32⟩
  | 52 => ⟨S32x8x512, .f32⟩
  | 53 => ⟨S32x8x512, .f32⟩
  | 54 => ⟨S_, .f32⟩
  | 55 => ⟨S32x8x512, .f32⟩
  | 56 => ⟨S32x8x512, .f32⟩
  | 57 => ⟨S_, .f32⟩
  | 58 => ⟨S32x8x512, .f32⟩
  | 59 => ⟨S32x8x512, .f32⟩
  | 60 => ⟨S8x64x32x8, .f32⟩
  | 61 => ⟨S32x8x8x64, .f32⟩
  | 62 => ⟨S32x8x512, .f32⟩
  | 63 => ⟨S1x1x512, .f32⟩
  | 64 => ⟨S32x8x512, .f32⟩
  | 65 => ⟨S32x8x512, .f32⟩
  | 66 => ⟨S32x8x512, .f32⟩
  | 67 => ⟨S32x8x512, .f32⟩
  | 68 => ⟨S_, .f32⟩
  | 69 => ⟨S32x8x512, .f32⟩
  | 70 => ⟨S32x8x512, .f32⟩
  | 71 => ⟨S_, .f32⟩
  | 72 => ⟨S32x8x512, .f32⟩
  | 73 => ⟨S32x8x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S1x1x512, .f32⟩
  | 93 => ⟨S32x8x512, .f32⟩
  | 94 => ⟨S32x8x512, .f32⟩
  | 95 => ⟨S32x8x512, .f32⟩
  | 96 => ⟨S_, .f32⟩
  | 97 => ⟨S32x8x512, .f32⟩
  | 98 => ⟨S32x8x512, .f32⟩
  | 99 => ⟨S32x8x512, .f32⟩
  | 100 => ⟨S32x8x512, .f32⟩
  | 101 => ⟨S32x8x512, .f32⟩
  | 102 => ⟨S32x8x512, .f32⟩
  | 103 => ⟨S32x8x512, .f32⟩
  | 104 => ⟨S32x1x512, .f32⟩
  | 105 => ⟨S32x512, .f32⟩
  | 106 => ⟨S32x512, .f32⟩
  | 107 => ⟨S32x1x512, .f32⟩
  | 108 => ⟨S32x512, .f32⟩
  | 109 => ⟨S32x512, .f32⟩
  | 110 => ⟨S32x1x512, .f32⟩
  | 111 => ⟨S32x512, .f32⟩
  | 112 => ⟨S32x512, .f32⟩
  | 113 => ⟨S32x1x512, .f32⟩
  | 114 => ⟨S32x512, .f32⟩
  | 115 => ⟨S32x512, .f32⟩
  | 116 => ⟨S32x1x512, .f32⟩
  | 117 => ⟨S32x512, .f32⟩
  | 118 => ⟨S32x512, .f32⟩
  | 119 => ⟨S32x1x512, .f32⟩
  | 120 => ⟨S32x512, .f32⟩
  | 121 => ⟨S32x512, .f32⟩
  | 122 => ⟨S32x1x512, .f32⟩
  | 123 => ⟨S32x512, .f32⟩
  | 124 => ⟨S32x512, .f32⟩
  | 125 => ⟨S32x1x512, .f32⟩
  | 126 => ⟨S32x512, .f32⟩
  | 127 => ⟨S32x512, .f32⟩
  | _ => ⟨S16640x2560, .f32⟩

abbrev hbmTy0_1 (i : Nat) : BufTy := match i % 128 with
  | 0 => ⟨S32x1x512, .f32⟩
  | 1 => ⟨S32x512, .f32⟩
  | 2 => ⟨S32x512, .f32⟩
  | 3 => ⟨S32x1x512, .f32⟩
  | 4 => ⟨S32x512, .f32⟩
  | 5 => ⟨S32x512, .f32⟩
  | 6 => ⟨S32x1x512, .f32⟩
  | 7 => ⟨S32x512, .f32⟩
  | 8 => ⟨S32x512, .f32⟩
  | 9 => ⟨S32x1x512, .f32⟩
  | 10 => ⟨S32x512, .f32⟩
  | 11 => ⟨S32x512, .f32⟩
  | 12 => ⟨S32x1x512, .f32⟩
  | 13 => ⟨S32x512, .f32⟩
  | 14 => ⟨S32x512, .f32⟩
  | 15 => ⟨S32x1x512, .f32⟩
  | 16 => ⟨S32x512, .f32⟩
  | 17 => ⟨S32x512, .f32⟩
  | 18 => ⟨S32x1x512, .f32⟩
  | 19 => ⟨S32x512, .f32⟩
  | 20 => ⟨S32x512, .f32⟩
  | 21 => ⟨S32x1x512, .f32⟩
  | 22 => ⟨S32x512, .f32⟩
  | 23 => ⟨S32x512, .f32⟩
  | 24 => ⟨S32x1x512, .f32⟩
  | 25 => ⟨S32x1x512, .f32⟩
  | 26 => ⟨S32x1x512, .f32⟩
  | 27 => ⟨S32x1x512, .f32⟩
  | 28 => ⟨S32x1x512, .f32⟩
  | 29 => ⟨S32x1x512, .f32⟩
  | 30 => ⟨S32x1x512, .f32⟩
  | 31 => ⟨S32x1x512, .f32⟩
  | 32 => ⟨S32x8x512, .f32⟩
  | 33 => ⟨S32x8x512, .f32⟩
  | 34 => ⟨S32x8x512, .f32⟩
  | 35 => ⟨S_, .f32⟩
  | 36 => ⟨S32x8x512, .f32⟩
  | 37 => ⟨S32x8x512, .f32⟩
  | 38 => ⟨S32x8x512, .f32⟩
  | 39 => ⟨S_, .f32⟩
  | 40 => ⟨S32x8x512, .f32⟩
  | 41 => ⟨S32x8x512, .f32⟩
  | 42 => ⟨S32x8x512, .f32⟩
  | 43 => ⟨S_, .f32⟩
  | 44 => ⟨S32x8x512, .f32⟩
  | 45 => ⟨S32x8x512, .f32⟩
  | 46 => ⟨S_, .f32⟩
  | 47 => ⟨S32x8x512, .f32⟩
  | 48 => ⟨S32x8x512, .f32⟩
  | 49 => ⟨S32x8x512, .f32⟩
  | 50 => ⟨S32x8x512, .f32⟩
  | 51 => ⟨S256x512, .f32⟩
  | 52 => ⟨S32x1x512, .f32⟩
  | 53 => ⟨S32x3x512, .f32⟩
  | _ => ⟨S16640x2560, .f32⟩

abbrev hbmTy (i : Nat) : BufTy := match i / 128 with
  | 0 => hbmTy0_0 i
  | 1 => hbmTy0_1 i
  | _ => ⟨S16640x2560, .f32⟩

abbrev bufTy : (tb : Table) → Fin (tcTables nBuf tb) → BufTy
  | .hbm, ⟨i, _⟩ => hbmTy i
  | _, _ => ⟨S16640x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_1 : Ref sig .tc := ⟨.hbm, 68, rfl⟩
abbrev main_v56 : Ref sig .tc := ⟨.hbm, 69, rfl⟩
abbrev main_v57 : Ref sig .tc := ⟨.hbm, 70, rfl⟩
abbrev main_cst_2 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v61 : Ref sig .tc := ⟨.hbm, 88, rfl⟩
abbrev main_cst_3 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_4 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_5 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_6 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_7 : Ref sig .tc := ⟨.hbm, 171, rfl⟩
abbrev main_v140 : Ref sig .tc := ⟨.hbm, 172, rfl⟩
abbrev main_v141 : Ref sig .tc := ⟨.hbm, 173, rfl⟩
abbrev main_cst_8 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩

abbrev nD : Nat := 1
abbrev τ : Topo := Topo.v7x

variable {F : FTy → Type} [FloatOps F]
-- ==== RecP.lean ====
abbrev S16640x2560 : Shape := ⟨2, ![16640, 2560]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S4x3x512 : Shape := ⟨3, ![4, 3, 512]⟩
abbrev S4x1x512 : Shape := ⟨3, ![4, 1, 512]⟩
abbrev S1x512 : Shape := ⟨2, ![1, 512]⟩
abbrev S16384x512 : Shape := ⟨2, ![16384, 512]⟩
abbrev S1x3x512 : Shape := ⟨3, ![1, 3, 512]⟩
abbrev S1x1x512 : Shape := ⟨3, ![1, 1, 512]⟩
abbrev S520x512 : Shape := ⟨2, ![520, 512]⟩
abbrev S8x512 : Shape := ⟨2, ![8, 512]⟩
abbrev S3x512 : Shape := ⟨2, ![3, 512]⟩

abbrev nBuf : Space → Nat
  | .hbm => 47
  | .vmem => 24
  | .smem => 0
  | _ => 0

abbrev bufTy : (tb : Table) → Fin (tcTables nBuf tb) → BufTy
  | .hbm, ⟨0, _⟩ => ⟨S16640x2560, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x64x1x64, .f32⟩
  | .hbm, ⟨16, _⟩ => ⟨S8x1x8x1, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x64x1x64, .f32⟩
  | .hbm, ⟨29, _⟩ => ⟨S8x1x8x1, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x1024, .f32⟩
  | .hbm, ⟨35, _⟩ => ⟨S512x1024, .bf16⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S4x3x512, .f32⟩
  | .hbm, ⟨40, _⟩ => ⟨S_, .f32⟩
  | .hbm, ⟨41, _⟩ => ⟨S4x1x512, .f32⟩
  | .hbm, ⟨42, _⟩ => ⟨S1x512, .f32⟩
  | .hbm, ⟨43, _⟩ => ⟨S1x512, .f32⟩
  | .hbm, ⟨44, _⟩ => ⟨S16384x512, .f32⟩
  | .hbm, ⟨45, _⟩ => ⟨S4x1x512, .f32⟩
  | .hbm, ⟨46, _⟩ => ⟨S4x3x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x3x512, .f32⟩
  | .local _ .vmem, ⟨5, _⟩ => ⟨S1x3x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S1x512, .f32⟩
  | .local _ .vmem, ⟨10, _⟩ => ⟨S512x1024, .bf16⟩
  | .local _ .vmem, ⟨11, _⟩ => ⟨S1x1024, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S1x1x512, .f32⟩
  | .local _ .vmem, ⟨16, _⟩ => ⟨S1x1x512, .f32⟩
  | .local _ .vmem, ⟨17, _⟩ => ⟨S1x3x512, .f32⟩
  | .local _ .vmem, ⟨18, _⟩ => ⟨S1x3x512, .f32⟩
  | .local _ .vmem, ⟨19, _⟩ => ⟨S520x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1x512, .f32⟩
  | _, _ => ⟨S16640x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_34 : BitVec 32 := 0#32
  let c64_i32 : BitVec 32 := 64#32
  let v79 : BitVec 32 := Scalar.addi c0_i32_34 c64_i32
  let c1_i32 : BitVec 32 := 1#32
  ⟨c0_i32_34, v79, c1_i32⟩
def k0_mult1 (k0_t1 : Fin k0_t1_loop.trips) : BitVec 32 :=
  let c0_i32_34 : BitVec 32 := 0#32
  let c1_i32 : BitVec 32 := 1#32
  let arg19 : BitVec 32 := Scf.iv c0_i32_34 c1_i32 k0_t1
  let c8_i32 : BitVec 32 := 8#32
  let v104 : BitVec 32 := Scalar.muli arg19 c8_i32
  v104
def k0_off1 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c8_i32 : BitVec 32 := 8#32
  let v104 : BitVec 32 := Scalar.muli arg19 c8_i32
  let v105 : BitVec 32 := v104
  let v106 : Index := Scalar.indexCast v105
  let c0_49 : Index := 0#32
  ![v106.toNat, 0]
def k0_cond2 (i : grid0.Coords) : BitVec 1 :=
  let arg1 : BitVec 32 := BitVec.ofNat 32 (i 1).val
  let c7_i32 : BitVec 32 := 7#32
  let v101 : BitVec 1 := Scalar.cmpi .eq arg1 c7_i32
  let v102 : BitVec 32 := Scalar.extui v101
  let c0_i32_48 : BitVec 32 := 0#32
  let v103 : BitVec 1 := Scalar.cmpi .ne v102 c0_i32_48
  v103

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RecPRefIdeal.lean ====
abbrev S16640x2560 : Shape := ⟨2, ![16640, 2560]⟩
abbrev S4x512 : Shape := ⟨2, ![4, 512]⟩
abbrev S512 : Shape := ⟨1, ![512]⟩
abbrev S8x64x64 : Shape := ⟨3, ![8, 64, 64]⟩
abbrev S16384x2560 : Shape := ⟨2, ![16384, 2560]⟩
abbrev S4x4096x2560 : Shape := ⟨3, ![4, 4096, 2560]⟩
abbrev S4x4096x512 : Shape := ⟨3, ![4, 4096, 512]⟩
abbrev S_ : Shape := ⟨0, ![]⟩
abbrev S4x3x512 : Shape := ⟨3, ![4, 3, 512]⟩
abbrev S4x4099x512 : Shape := ⟨3, ![4, 4099, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S4096x4x512 : Shape := ⟨3, ![4096, 4, 512]⟩
abbrev S1x4x512 : Shape := ⟨3, ![1, 4, 512]⟩
abbrev S16384x512 : Shape := ⟨2, ![16384, 512]⟩
abbrev S4x1x512 : Shape := ⟨3, ![4, 1, 512]⟩

abbrev nBuf : Space → Nat
  | .hbm => 163
  | .vmem => 0
  | .smem => 0
  | _ => 0

abbrev hbmTy0_0 (i : Nat) : BufTy := match i % 128 with
  | 0 => ⟨S16640x2560, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S16384x2560, .f32⟩
  | 9 => ⟨S4x4096x2560, .f32⟩
  | 10 => ⟨S4x4096x512, .f32⟩
  | 11 => ⟨S4x4096x512, .f32⟩
  | 12 => ⟨S_, .f32⟩
  | 13 => ⟨S4x3x512, .f32⟩
  | 14 => ⟨S4x4099x512, .f32⟩
  | 15 => ⟨S4x4096x512, .f32⟩
  | 16 => ⟨S1x512, .f32⟩
  | 17 => ⟨S512, .f32⟩
  | 18 => ⟨S1x1x512, .f32⟩
  | 19 => ⟨S4x4096x512, .f32⟩
  | 20 => ⟨S4x4096x512, .f32⟩
  | 21 => ⟨S1x1x512, .f32⟩
  | 22 => ⟨S4x4096x512, .f32⟩
  | 23 => ⟨S4x4096x512, .f32⟩
  | 24 => ⟨S4x4096x512, .f32⟩
  | 25 => ⟨S1x512, .f32⟩
  | 26 => ⟨S512, .f32⟩
  | 27 => ⟨S1x1x512, .f32⟩
  | 28 => ⟨S4x4096x512, .f32⟩
  | 29 => ⟨S4x4096x512, .f32⟩
  | 30 => ⟨S4x4096x512, .f32⟩
  | 31 => ⟨S4x4096x512, .f32⟩
  | 32 => ⟨S1x512, .f32⟩
  | 33 => ⟨S512, .f32⟩
  | 34 => ⟨S1x1x512, .f32⟩
  | 35 => ⟨S4x4096x512, .f32⟩
  | 36 => ⟨S4x4096x512, .f32⟩
  | 37 => ⟨S4x4096x512, .f32⟩
  | 38 => ⟨S4x4096x512, .f32⟩
  | 39 => ⟨S1x512, .f32⟩
  | 40 => ⟨S512, .f32⟩
  | 41 => ⟨S1x1x512, .f32⟩
  | 42 => ⟨S4x4096x512, .f32⟩
  | 43 => ⟨S4x4096x512, .f32⟩
  | 44 => ⟨S4x4096x512, .f32⟩
  | 45 => ⟨S4x4096x8x64, .f32⟩
  | 46 => ⟨S8x64x4x4096, .f32⟩
  | 47 => ⟨S4x4096x8x64, .f32⟩
  | 48 => ⟨S4x4096x512, .f32⟩
  | 49 => ⟨S1x1x512, .f32⟩
  | 50 => ⟨S4x4096x512, .f32⟩
  | 51 => ⟨S4x4096x512, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S8x64x4x4096, .f32⟩
  | 61 => ⟨S4x4096x8x64, .f32⟩
  | 62 => ⟨S4x4096x512, .f32⟩
  | 63 => ⟨S1x1x512, .f32⟩
  | 64 => ⟨S4x4096x512, .f32⟩
  | 65 => ⟨S4x4096x512, .f32⟩
  | 66 => ⟨S4x4096x512, .f32⟩
  | 67 => ⟨S4x4096x512, .f32⟩
  | 68 => ⟨S_, .f32⟩
  | 69 => ⟨S4x4096x512, .f32⟩
  | 70 => ⟨S4x4096x512, .f32⟩
  | 71 => ⟨S_, .f32⟩
  | 72 => ⟨S4x4096x512, .f32⟩
  | 73 => ⟨S4x4096x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S1x1x512, .f32⟩
  | 93 => ⟨S4x4096x512, .f32⟩
  | 94 => ⟨S4x4096x512, .f32⟩
  | 95 => ⟨S4x4096x512, .f32⟩
  | 96 => ⟨S_, .f32⟩
  | 97 => ⟨S4x4096x512, .f32⟩
  | 98 => ⟨S4x4096x512, .f32⟩
  | 99 => ⟨S4x4096x512, .f32⟩
  | 100 => ⟨S4x4096x512, .f32⟩
  | 101 => ⟨S4x4096x512, .f32⟩
  | 102 => ⟨S4x4096x512, .f32⟩
  | 103 => ⟨S4x4096x512, .f32⟩
  | 104 => ⟨S_, .f32⟩
  | 105 => ⟨S4x512, .f32⟩
  | 106 => ⟨S4096x4x512, .f32⟩
  | 107 => ⟨S4096x4x512, .f32⟩
  | 108 => ⟨S_, .f32⟩
  | 109 => ⟨S4096x4x512, .f32⟩
  | 110 => ⟨S_, .i32⟩
  | 111 => ⟨S4096x4x512, .f32⟩
  | 112 => ⟨S4096x4x512, .f32⟩
  | 113 => ⟨S_, .i32⟩
  | 114 => ⟨S4x512, .f32⟩
  | 115 => ⟨S4096x4x512, .f32⟩
  | 116 => ⟨S_, .i32⟩
  | 117 => ⟨S_, .i1⟩
  | 118 => ⟨S_, .i32⟩
  | 119 => ⟨S_, .i32⟩
  | 120 => ⟨S1x4x512, .f32⟩
  | 121 => ⟨S4x512, .f32⟩
  | 122 => ⟨S_, .i32⟩
  | 123 => ⟨S_, .i32⟩
  | 124 => ⟨S1x4x512, .f32⟩
  | 125 => ⟨S4x512, .f32⟩
  | 126 => ⟨S4x512, .f32⟩
  | 127 => ⟨S4x512, .f32⟩
  | _ => ⟨S16640x2560, .f32⟩

abbrev hbmTy0_1 (i : Nat) : BufTy := match i % 128 with
  | 0 => ⟨S1x4x512, .f32⟩
  | 1 => ⟨S_, .i32⟩
  | 2 => ⟨S_, .i32⟩
  | 3 => ⟨S4096x4x512, .f32⟩
  | 4 => ⟨S_, .i32⟩
  | 5 => ⟨S_, .i32⟩
  | 6 => ⟨S16384x2560, .f32⟩
  | 7 => ⟨S4x4096x2560, .f32⟩
  | 8 => ⟨S4x4096x512, .f32⟩
  | 9 => ⟨S4x4096x512, .f32⟩
  | 10 => ⟨S_, .f32⟩
  | 11 => ⟨S4x3x512, .f32⟩
  | 12 => ⟨S4x4099x512, .f32⟩
  | 13 => ⟨S4x4096x512, .f32⟩
  | 14 => ⟨S4x4096x512, .f32⟩
  | 15 => ⟨S4x4096x512, .f32⟩
  | 16 => ⟨S_, .f32⟩
  | 17 => ⟨S4x4096x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S_, .f32⟩
  | 25 => ⟨S4x4096x512, .f32⟩
  | 26 => ⟨S4x4096x512, .f32⟩
  | 27 => ⟨S_, .f32⟩
  | 28 => ⟨S4x4096x512, .f32⟩
  | 29 => ⟨S4x4096x512, .f32⟩
  | 30 => ⟨S4x4096x512, .f32⟩
  | 31 => ⟨S4x4096x512, .f32⟩
  | 32 => ⟨S16384x512, .f32⟩
  | 33 => ⟨S4x1x512, .f32⟩
  | 34 => ⟨S4x3x512, .f32⟩
  | _ => ⟨S16640x2560, .f32⟩

abbrev hbmTy (i : Nat) : BufTy := match i / 128 with
  | 0 => hbmTy0_0 i
  | 1 => hbmTy0_1 i
  | _ => ⟨S16640x2560, .f32⟩

abbrev bufTy : (tb : Table) → Fin (tcTables nBuf tb) → BufTy
  | .hbm, ⟨i, _⟩ => hbmTy i
  | _, _ => ⟨S16640x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_0 : Ref sig .tc := ⟨.hbm, 54, rfl⟩
abbrev main_v45 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_2 : Ref sig .tc := ⟨.hbm, 68, rfl⟩
abbrev main_v57 : Ref sig .tc := ⟨.hbm, 69, rfl⟩
abbrev main_v58 : Ref sig .tc := ⟨.hbm, 70, rfl⟩
abbrev main_cst_3 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v62 : Ref sig .tc := ⟨.hbm, 88, rfl⟩
abbrev main_cst_4 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_7 : Ref sig .tc := ⟨.hbm, 108, rfl⟩
abbrev main_v79 : Ref sig .tc := ⟨.hbm, 109, rfl⟩
abbrev main_c : Ref sig .tc := ⟨.hbm, 110, rfl⟩
abbrev main_v80_0 : Ref sig .tc := ⟨.hbm, 111, rfl⟩
abbrev main_v80_1 : Ref sig .tc := ⟨.hbm, 112, rfl⟩
abbrev main_v80_2 : Ref sig .tc := ⟨.hbm, 113, rfl⟩
abbrev main_v80_3 : Ref sig .tc := ⟨.hbm, 114, rfl⟩
abbrev main_v80_4 : Ref sig .tc := ⟨.hbm, 115, rfl⟩
abbrev main_while0c_c_17 : Ref sig .tc := ⟨.hbm, 116, rfl⟩
abbrev main_while0c_v105 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v105 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v106 : Ref sig .tc := ⟨.hbm, 125, rfl⟩
abbrev main_while0b_v107 : Ref sig .tc := ⟨.hbm, 126, rfl⟩
abbrev main_while0b_v108 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v109 : Ref sig .tc := ⟨.hbm, 131, rfl⟩
abbrev main_while0b_c_17 : Ref sig .tc := ⟨.hbm, 132, rfl⟩
abbrev main_while0b_v110 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_8 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_9 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_10 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_11 : Ref sig .tc := ⟨.hbm, 152, rfl⟩
abbrev main_v96 : Ref sig .tc := ⟨.hbm, 153, rfl⟩
abbrev main_v97 : Ref sig .tc := ⟨.hbm, 154, rfl⟩
abbrev main_cst_12 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩

abbrev nD : Nat := 1
abbrev τ : Topo := Topo.v7x

variable {F : FTy → Type} [FloatOps F]

abbrev main_while0_count : Scf.Loop 32 := ⟨0#32, 4096#32, 1#32⟩
-- ==== Proof.PI.Words.lean ====
/-
  Closed forms of the attention kernel's loop trip counts and of the offsets its loads and stores take: the number of
  the query block is the grid's last coordinate, and a trip's offsets are the trip's number times the block's extent.
-/
module

public import proofs.«01_k».proof.Proof.Gen.KernelIdeal.Frame

@[expose] public section

set_option maxRecDepth 16384

noncomputable section

namespace Cert.KernelIdeal.Att

open Cert.KernelIdeal Cert.KernelIdeal.Gen Idealize.ShloMosaic Idealize.ShloMosaic.TcCoe

/-- The number of the query block at the grid coordinates `i`. -/
abbrev qb (i : grid0.Coords) : ℕ := (i 2).val

theorem qb_lt (i : grid0.Coords) : qb i < 8 := (i 2).isLt

/-! ### Trip counts -/

/-- The score loop runs once per key block before the query block. -/
theorem trips1 (i : grid0.Coords) : (k0_t1_loop i).trips = qb i :=
  (by decide +kernel : ∀ n : Fin 8, (⟨0#32, Scalar.addi 0#32 (Scalar.muli (Scalar.divsi (Scalar.subi (BitVec.ofNat 32 n.val) 0#32) 1#32) 1#32), 1#32⟩ : Scf.Loop 32).trips = n.val) (i 2)
/-- Its remainder loop never runs. -/
theorem trips2 (i : grid0.Coords) : (k0_t2_loop i).trips = 0 :=
  (by decide +kernel : ∀ n : Fin 8, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0) (i 2)
/-- The exponential loop runs once per key block up to the query block. -/
theorem trips3 (i : grid0.Coords) : (k0_t3_loop i).trips = qb i + 1 :=
  (by decide +kernel : ∀ n : Fin 8, (⟨0#32, Scalar.addi 0#32 (Scalar.muli (Scalar.divsi (Scalar.subi (Scalar.addi (BitVec.ofNat 32 n.val) 1#32) 0#32) 1#32) 1#32), 1#32⟩ : Scf.Loop 32).trips = n.val + 1) (i 2)
/-- Its remainder loop never runs. -/
theorem trips4 (i : grid0.Coords) : (k0_t4_loop i).trips = 0 :=
  (by decide +kernel : ∀ n : Fin 8, (⟨Scalar.addi 0#32 (Scalar.muli (Scalar.divsi (Scalar.subi (Scalar.addi (BitVec.ofNat 32 n.val) 1#32) 0#32) 1#32) 1#32), Scalar.addi 0#32 (Scalar.subi (Scalar.addi (BitVec.ofNat 32 n.val) 1#32) 0#32), 1#32⟩ : Scf.Loop 32).trips = 0) (i 2)
/-- The value loop runs once per key block up to the query block. -/
theorem trips5 (i : grid0.Coords) : (k0_t5_loop i).trips = qb i + 1 :=
  (by decide +kernel : ∀ n : Fin 8, (⟨0#32, Scalar.addi 0#32 (Scalar.muli (Scalar.divsi (Scalar.subi (Scalar.addi (BitVec.ofNat 32 n.val) 1#32) 0#32) 1#32) 1#32), 1#32⟩ : Scf.Loop 32).trips = n.val + 1) (i 2)
/-- Its remainder loop never runs. -/
theorem trips6 (i : grid0.Coords) : (k0_t6_loop i).trips = 0 :=
  (by decide +kernel : ∀ n : Fin 8, (⟨Scalar.addi 0#32 (Scalar.muli (Scalar.divsi (Scalar.subi (Scalar.addi (BitVec.ofNat 32 n.val) 1#32) 0#32) 1#32) 1#32), Scalar.addi 0#32 (Scalar.subi (Scalar.addi (BitVec.ofNat 32 n.val) 1#32) 0#32), 1#32⟩ : Scf.Loop 32).trips = 0) (i 2)

theorem t1_lt (i : grid0.Coords) (k : Fin (k0_t1_loop i).trips) : k.val < qb i := lt_of_lt_of_eq k.isLt (trips1 i)
theorem t3_lt (i : grid0.Coords) (k : Fin (k0_t3_loop i).trips) : k.val < qb i + 1 := lt_of_lt_of_eq k.isLt (trips3 i)
theorem t5_lt (i : grid0.Coords) (k : Fin (k0_t5_loop i).trips) : k.val < qb i + 1 := lt_of_lt_of_eq k.isLt (trips5 i)

/-! ### Offsets -/

/-- The trip's number as the loop's word counts it. -/
theorem iv_toNat {k : ℕ} (h : k < 8) : (Scf.iv 0#32 1#32 k : BitVec 32).toNat = k :=
  (by decide +kernel : ∀ n : Fin 8, (Scf.iv 0#32 1#32 n.val : BitVec 32).toNat = n.val) ⟨k, h⟩
/-- The trip's first column, `c` past its block's. -/
theorem ivc_toNat0 {k : ℕ} (h : k < 8) : (Scalar.addi (Scalar.muli (Scf.iv 0#32 1#32 k : BitVec 32) 512#32) 0#32).toNat = 512 * k :=
  (by decide +kernel : ∀ n : Fin 8, (Scalar.addi (Scalar.muli (Scf.iv 0#32 1#32 n.val : BitVec 32) 512#32) 0#32).toNat = 512 * n.val) ⟨k, h⟩
theorem ivc_toNat1 {k : ℕ} (h : k < 8) : (Scalar.addi (Scalar.muli (Scf.iv 0#32 1#32 k : BitVec 32) 512#32) 256#32).toNat = 512 * k + 256 :=
  (by decide +kernel : ∀ n : Fin 8, (Scalar.addi (Scalar.muli (Scf.iv 0#32 1#32 n.val : BitVec 32) 512#32) 256#32).toNat = 512 * n.val + 256) ⟨k, h⟩
theorem ivr_toNat {k : ℕ} (h : k < 8) : (Scalar.muli (Scf.iv 0#32 1#32 k : BitVec 32) 512#32).toNat = 512 * k :=
  (by decide +kernel : ∀ n : Fin 8, (Scalar.muli (Scf.iv 0#32 1#32 n.val : BitVec 32) 512#32).toNat = 512 * n.val) ⟨k, h⟩
theorem q_toNat {k : ℕ} (h : k < 8) : (BitVec.ofNat 32 k).toNat = k :=
  (by decide +kernel : ∀ n : Fin 8, (BitVec.ofNat 32 n.val).toNat = n.val) ⟨k, h⟩
theorem qc_toNat0 {k : ℕ} (h : k < 8) : (Scalar.addi (Scalar.muli (BitVec.ofNat 32 k) 512#32) 0#32).toNat = 512 * k :=
  (by decide +kernel : ∀ n : Fin 8, (Scalar.addi (Scalar.muli (BitVec.ofNat 32 n.val) 512#32) 0#32).toNat = 512 * n.val) ⟨k, h⟩
theorem qc_toNat1 {k : ℕ} (h : k < 8) : (Scalar.addi (Scalar.muli (BitVec.ofNat 32 k) 512#32) 256#32).toNat = 512 * k + 256 :=
  (by decide +kernel : ∀ n : Fin 8, (Scalar.addi (Scalar.muli (BitVec.ofNat 32 n.val) 512#32) 256#32).toNat = 512 * n.val + 256) ⟨k, h⟩

section
variable (i : grid0.Coords)

theorem off1 (k : Fin (k0_t1_loop i).trips) : k0_off1 i k = ![k.val, 0, 0] := by
  have h := t1_lt i k; have h' := qb_lt i
  exact congrArg (fun n : ℕ => (![n, 0, 0] : Fin 3 → ℕ)) (iv_toNat (k := k.val) (by omega))
theorem off2_0 (k : Fin (k0_t1_loop i).trips) : k0_off2 i k 0#32 = ![0, 0, 0, 512 * k.val] := by
  have h := t1_lt i k; have h' := qb_lt i
  exact congrArg (fun n : ℕ => (![0, 0, 0, n] : Fin 4 → ℕ)) (ivc_toNat0 (k := k.val) (by omega))
theorem off2_1 (k : Fin (k0_t1_loop i).trips) : k0_off2 i k 256#32 = ![0, 0, 0, 512 * k.val + 256] := by
  have h := t1_lt i k; have h' := qb_lt i
  exact congrArg (fun n : ℕ => (![0, 0, 0, n] : Fin 4 → ℕ)) (ivc_toNat1 (k := k.val) (by omega))
theorem off3 (k : Fin (k0_t1_loop i).trips) : k0_off3 i k = ![0, k.val, 0, 0] := by
  have h := t1_lt i k; have h' := qb_lt i
  exact congrArg (fun n : ℕ => (![0, n, 0, 0] : Fin 4 → ℕ)) (iv_toNat (k := k.val) (by omega))
theorem off4 (k : Fin (k0_t1_loop i).trips) : k0_off4 i k = ![0, k.val, 0, 256] := by
  have h := t1_lt i k; have h' := qb_lt i
  exact congrArg (fun n : ℕ => (![0, n, 0, 256] : Fin 4 → ℕ)) (iv_toNat (k := k.val) (by omega))
theorem off5_0 (k : Fin (k0_t1_loop i).trips) : k0_off5 i k 0#32 = ![0, 0, 1, 512 * k.val] := by
  have h := t1_lt i k; have h' := qb_lt i
  exact congrArg (fun n : ℕ => (![0, 0, 1, n] : Fin 4 → ℕ)) (ivc_toNat0 (k := k.val) (by omega))
theorem off5_1 (k : Fin (k0_t1_loop i).trips) : k0_off5 i k 256#32 = ![0, 0, 1, 512 * k.val + 256] := by
  have h := t1_lt i k; have h' := qb_lt i
  exact congrArg (fun n : ℕ => (![0, 0, 1, n] : Fin 4 → ℕ)) (ivc_toNat1 (k := k.val) (by omega))
theorem off6 (k : Fin (k0_t1_loop i).trips) : k0_off6 i k = ![1, k.val, 0, 0] := by
  have h := t1_lt i k; have h' := qb_lt i
  exact congrArg (fun n : ℕ => (![1, n, 0, 0] : Fin 4 → ℕ)) (iv_toNat (k := k.val) (by omega))
theorem off7 (k : Fin (k0_t1_loop i).trips) : k0_off7 i k = ![1, k.val, 0, 256] := by
  have h := t1_lt i k; have h' := qb_lt i
  exact congrArg (fun n : ℕ => (![1, n, 0, 256] : Fin 4 → ℕ)) (iv_toNat (k := k.val) (by omega))
theorem off15 : k0_off15 i = ![qb i, 0, 0] :=
  congrArg (fun n : ℕ => (![n, 0, 0] : Fin 3 → ℕ)) (q_toNat (qb_lt i))
theorem off16_0 : k0_off16 i 0#32 = ![0, 0, 0, 512 * qb i] :=
  congrArg (fun n : ℕ => (![0, 0, 0, n] : Fin 4 → ℕ)) (qc_toNat0 (qb_lt i))
theorem off16_1 : k0_off16 i 256#32 = ![0, 0, 0, 512 * qb i + 256] :=
  congrArg (fun n : ℕ => (![0, 0, 0, n] : Fin 4 → ℕ)) (qc_toNat1 (qb_lt i))
theorem off17 : k0_off17 i = ![0, qb i, 0, 0] :=
  congrArg (fun n : ℕ => (![0, n, 0, 0] : Fin 4 → ℕ)) (q_toNat (qb_lt i))
theorem off18 : k0_off18 i = ![0, qb i, 0, 256] :=
  congrArg (fun n : ℕ => (![0, n, 0, 256] : Fin 4 → ℕ)) (q_toNat (qb_lt i))
theorem off19_0 : k0_off19 i 0#32 = ![0, 0, 1, 512 * qb i] :=
  congrArg (fun n : ℕ => (![0, 0, 1, n] : Fin 4 → ℕ)) (qc_toNat0 (qb_lt i))
theorem off19_1 : k0_off19 i 256#32 = ![0, 0, 1, 512 * qb i + 256] :=
  congrArg (fun n : ℕ => (![0, 0, 1, n] : Fin 4 → ℕ)) (qc_toNat1 (qb_lt i))
theorem off20 : k0_off20 i = ![1, qb i, 0, 0] :=
  congrArg (fun n : ℕ => (![1, n, 0, 0] : Fin 4 → ℕ)) (q_toNat (qb_lt i))
theorem off21 : k0_off21 i = ![1, qb i, 0, 256] :=
  congrArg (fun n : ℕ => (![1, n, 0, 256] : Fin 4 → ℕ)) (q_toNat (qb_lt i))
theorem off22 (k : Fin (k0_t3_loop i).trips) : k0_off22 i k = ![0, k.val, 0, 0] := by
  have h := t3_lt i k; have h' := qb_lt i
  exact congrArg (fun n : ℕ => (![0, n, 0, 0] : Fin 4 → ℕ)) (iv_toNat (k := k.val) (by omega))
theorem off23 (k : Fin (k0_t3_loop i).trips) : k0_off23 i k = ![1, k.val, 0, 0] := by
  have h := t3_lt i k; have h' := qb_lt i
  exact congrArg (fun n : ℕ => (![1, n, 0, 0] : Fin 4 → ℕ)) (iv_toNat (k := k.val) (by omega))
theorem off26 (k : Fin (k0_t5_loop i).trips) : k0_off26 i k = ![512 * k.val, 0] := by
  have h := t5_lt i k; have h' := qb_lt i
  exact congrArg (fun n : ℕ => (![n, 0] : Fin 2 → ℕ)) (ivr_toNat (k := k.val) (by omega))
theorem off27 (k : Fin (k0_t5_loop i).trips) : k0_off27 i k = ![0, k.val, 0, 0] := by
  have h := t5_lt i k; have h' := qb_lt i
  exact congrArg (fun n : ℕ => (![0, n, 0, 0] : Fin 4 → ℕ)) (iv_toNat (k := k.val) (by omega))
theorem off28 (k : Fin (k0_t5_loop i).trips) : k0_off28 i k = ![1, k.val, 0, 0] := by
  have h := t5_lt i k; have h' := qb_lt i
  exact congrArg (fun n : ℕ => (![1, n, 0, 0] : Fin 4 → ℕ)) (iv_toNat (k := k.val) (by omega))
end

end Cert.KernelIdeal.Att

end
-- ==== Proof.PI.Spec.lean ====
/-
  What one grid point of the attention kernel computes, as a pure function of the blocks it reads: the scores of every
  key block up to the query block, their running maxima, the exponentials, their running sums, the weighted sums of the
  values, and the output block.
-/
module

public import proofs.«01_k».proof.Proof.PI.Words
public import proofs.«01_k».proof.Proof.Gen.KernelIdeal.Skeleton

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

/-! ### Reading blocks -/

/-- The index of a rank-3 buffer with the given coordinates. -/
abbrev i3 {a b c : ℕ} (x : Fin a) (y : Fin b) (z : Fin c) : (⟨3, ![a, b, c]⟩ : Shape).Idx := fun
  | ⟨0, _⟩ => x | ⟨1, _⟩ => y | ⟨2, _⟩ => z
/-- The index of a rank-4 buffer with the given coordinates. -/
abbrev i4 {a b c d : ℕ} (x : Fin a) (y : Fin b) (z : Fin c) (w : Fin d) : (⟨4, ![a, b, c, d]⟩ : Shape).Idx := fun
  | ⟨0, _⟩ => x | ⟨1, _⟩ => y | ⟨2, _⟩ => z | ⟨3, _⟩ => w
/-- The index of a rank-2 buffer with the given coordinates. -/
abbrev i2 {a b : ℕ} (x : Fin a) (y : Fin b) : (⟨2, ![a, b]⟩ : Shape).Idx := fun
  | ⟨0, _⟩ => x | ⟨1, _⟩ => y

/-- Key block `k` of the transposed keys. -/
def ktb (kt : Vec F S8x128x512 .bf16) (k : ℕ) : Vec F S1x128x512 .bf16 :=
  fun j => kt (i3 ⟨k % 8, by omega⟩ (j 1) (j 2))
/-- The 256 accumulated log forget values of head `h` starting at column `o`. -/
def frb (x4 : Vec F S1x1x2x4096 .f32) (h : Fin 2) (o : ℕ) : Vec F S1x1x1x256 .f32 :=
  fun j => x4 (i4 0 0 h ⟨(o + (j 3).val) % 4096, by omega⟩)
/-- Block `k` of 512 rows of the values. -/
def vbb (vb : Vec F S4096x128 .bf16) (k : ℕ) : Vec F S512x128 .bf16 :=
  fun j => vb (i2 ⟨(512 * k + (j 0).val) % 4096, by omega⟩ (j 1))
/-- Block `k` of 512 rows of the keys. -/
def kvb (x1 : Vec F S4096x128 .f32) (k : ℕ) : Vec F S512x128 .f32 :=
  fun j => x1 (i2 ⟨(512 * k + (j 0).val) % 4096, by omega⟩ (j 1))
/-- The transposed keys, block by block. -/
def ktOf (x1 : Vec F S4096x128 .f32) : Vec F S8x128x512 .bf16 :=
  fun y => k0_pay1 (kvb x1 (y 0).val) (i3 0 (y 1) (y 2))
/-- A block of 512 columns from its two halves. -/
def halves (A B : Vec F S1x1x512x256 .f32) : Vec F S1x1x512x512 .f32 :=
  fun j => if h : (j 3).val < 256 then A (i4 0 0 (j 2) ⟨(j 3).val, h⟩)
    else B (i4 0 0 (j 2) ⟨(j 3).val - 256, by have h4 : (j 3).val < 512 := (j 3).isLt; omega⟩)

/-- The first 256 columns are the first half. -/
theorem halves_lo (A B : Vec F S1x1x512x256 .f32) (r j : Fin 512) (h : j.val < 256) :
    halves A B (i4 0 0 r j) = A (i4 0 0 r ⟨j.val, h⟩) := by
  unfold halves
  exact dif_pos (c := j.val < 256) h
/-- The last 256 columns are the second half. -/
theorem halves_hi (A B : Vec F S1x1x512x256 .f32) (r j : Fin 512) (h : ¬ j.val < 256) :
    halves A B (i4 0 0 r j) = B (i4 0 0 r ⟨j.val - 256, by omega⟩) := by
  unfold halves
  exact dif_neg (c := j.val < 256) h

section
variable (x0 : Vec F S512x128 .f32) (x3 : Vec F S1x1x512x2 .f32) (x4 : Vec F S1x1x2x4096 .f32)
  (kt : Vec F S8x128x512 .bf16) (vb : Vec F S4096x128 .bf16) (n : ℕ)

/-! ### Scores of the key blocks before the query block -/

/-- Head 0's scores of key block `k`. -/
def sc0 (k : ℕ) : Vec F S1x1x512x512 .f32 :=
  halves (k0_pay8 (k0_pay24 x0) (k0_pay26 x3) (ktb kt k) (frb x4 0 (512 * k)))
    (k0_pay11 (k0_pay24 x0) (k0_pay26 x3) (ktb kt k) (frb x4 0 (512 * k + 256)))
/-- Head 1's scores of key block `k`. -/
def sc1 (k : ℕ) : Vec F S1x1x512x512 .f32 :=
  halves (k0_pay31 x0 x3 (k0_pay6 (ktb kt k)) (frb x4 1 (512 * k)))
    (k0_pay33 x0 x3 (k0_pay6 (ktb kt k)) (frb x4 1 (512 * k + 256)))

/-- The running maxima of both heads after `k` key blocks. -/
def mx : ℕ → FVec F S512x1 .f32 × FVec F S512x1 .f32
  | 0 => (k0_pay28 (F := F), k0_pay28 (F := F))
  | k + 1 => (k0_pay29 (k0_pay9 (k0_pay24 x0) (k0_pay26 x3) (mx k).1 (ktb kt k) (frb x4 0 (512 * k)))
      (k0_pay10 (k0_pay24 x0) (k0_pay26 x3) (ktb kt k) (frb x4 0 (512 * k + 256))),
    k0_pay34 x0 x3 (mx k).2 (k0_pay6 (ktb kt k)) (frb x4 1 (512 * k)) (frb x4 1 (512 * k + 256)))

/-! ### The query block's own key block -/

/-- The column numbers of a 512 × 128 block. -/
abbrev lanes : IVec S512x128 32 := iota .tc S512x128 32 [1] iota_S512x128_d1_w32
/-- The row numbers of a 512 × 256 block. -/
abbrev rows : IVec S512x256 32 := iota .tc S512x256 32 [0] iota_S512x256_d0_w32
/-- The column numbers of a 512 × 256 block. -/
abbrev cols : IVec S512x256 32 := iota .tc S512x256 32 [1] iota_S512x256_d1_w32

/-- Head 0's scores of the diagonal block's second half. -/
def dg0 : FVec F S512x256 .f32 :=
  k0_pay45 rows cols (k0_pay24 x0) (k0_pay26 x3) (ktb kt n) (frb x4 0 (512 * n + 256))
/-- Head 0's maxima over every key block. -/
def m0 : FVec F S512x1 .f32 :=
  k0_pay47 (k0_pay44 rows cols (k0_pay24 x0) (k0_pay26 x3) (mx x0 x3 x4 kt n).1 (ktb kt n) (frb x4 0 (512 * n))) (dg0 x0 x3 x4 kt n)
/-- Head 1's maxima but for the diagonal block's second half. -/
def m1 : FVec F S512x1 .f32 :=
  k0_pay50 rows cols (k0_pay25 x0) (k0_pay27 x3) (mx x0 x3 x4 kt n).2 (k0_pay41 (ktb kt n)) (frb x4 1 (512 * n))
/-- Head 1's unmasked scores of the diagonal block's second half. -/
def dg1 : FVec F S512x256 .f32 :=
  k0_pay51 (k0_pay25 x0) (k0_pay27 x3) (k0_pay41 (ktb kt n)) (frb x4 1 (512 * n + 256))
/-- Head 0's scores of the diagonal block. -/
def sd0 : Vec F S1x1x512x512 .f32 :=
  halves (k0_pay43 rows cols (k0_pay24 x0) (k0_pay26 x3) (ktb kt n) (frb x4 0 (512 * n))) (k0_pay46 (dg0 x0 x3 x4 kt n))
/-- Head 1's scores of the diagonal block. -/
def sd1 : Vec F S1x1x512x512 .f32 :=
  halves (k0_pay49 rows cols (k0_pay25 x0) (k0_pay27 x3) (k0_pay41 (ktb kt n)) (frb x4 1 (512 * n)))
    (k0_pay54 rows cols (dg1 x0 x3 x4 kt n) k0_pay52)

/-- Head 0's scores of key block `k` up to the diagonal. -/
def s0 (k : ℕ) : Vec F S1x1x512x512 .f32 := if k < n then sc0 x0 x3 x4 kt k else sd0 x0 x3 x4 kt n
/-- Head 1's scores of key block `k` up to the diagonal. -/
def s1 (k : ℕ) : Vec F S1x1x512x512 .f32 := if k < n then sc1 x0 x3 x4 kt k else sd1 x0 x3 x4 kt n

/-! ### Exponentials, sums, values -/

/-- Head 0's exponentials of key block `k`. -/
def e0 (k : ℕ) : Vec F S1x1x512x512 .f32 := k0_pay58 (m0 x0 x3 x4 kt n) (s0 x0 x3 x4 kt n k)
/-- Head 1's exponentials of key block `k`. -/
def e1 (k : ℕ) : Vec F S1x1x512x512 .f32 :=
  k0_pay61 rows cols (m1 x0 x3 x4 kt n) (dg1 x0 x3 x4 kt n) k0_pay52 (s1 x0 x3 x4 kt n k)

/-- The running sums of both heads' exponentials after `k` key blocks. -/
def ls : ℕ → FVec F S512x1 .f32 × FVec F S512x1 .f32
  | 0 => (k0_pay56 (F := F), k0_pay56 (F := F))
  | k + 1 => (k0_pay59 (m0 x0 x3 x4 kt n) (ls k).1 (s0 x0 x3 x4 kt n k),
    k0_pay62 rows cols (m1 x0 x3 x4 kt n) (dg1 x0 x3 x4 kt n) k0_pay52 (ls k).2 (s1 x0 x3 x4 kt n k))

/-- The running weighted sums of the values of both heads after `k` key blocks. -/
def acc : ℕ → FVec F S512x128 .f32 × FVec F S512x128 .f32
  | 0 => (k0_pay71 (F := F), k0_pay71 (F := F))
  | k + 1 => (k0_pay72 (ls x0 x3 x4 kt n (n + 1)).1 (acc k).1 (vbb vb k) (e0 x0 x3 x4 kt n k),
    k0_pay73 (ls x0 x3 x4 kt n (n + 1)).2 (acc k).2 (vbb vb k) (e1 x0 x3 x4 kt n k))

/-- The output block. -/
def outBlk : FVec F S512x128 .f32 :=
  k0_pay76 lanes (acc x0 x3 x4 kt vb n (n + 1)).1 (acc x0 x3 x4 kt vb n (n + 1)).2

/-! ### The score buffer's contents -/

/-- The scores of every block, as one array. -/
def scAll (y : S2x8x512x512.Idx) : Elt F .f32 :=
  if (y 0).val = 0 then s0 x0 x3 x4 kt n (y 1).val (i4 0 0 (y 2) (y 3)) else s1 x0 x3 x4 kt n (y 1).val (i4 0 0 (y 2) (y 3))
/-- The exponentials of every block, as one array. -/
def eAll (y : S2x8x512x512.Idx) : Elt F .f32 :=
  if (y 0).val = 0 then e0 x0 x3 x4 kt n (y 1).val (i4 0 0 (y 2) (y 3)) else e1 x0 x3 x4 kt n (y 1).val (i4 0 0 (y 2) (y 3))

end

end Cert.KernelIdeal.Att

end
-- ==== Proof.PI.Pieces.lean ====
/-
  Reading the buffers of one grid point: what a load of a block reads, and what the score buffer reads after a store of
  one block.
-/
module

public import proofs.«01_k».proof.Proof.PI.Spec
public import Idealize.ShloMosaic.Lib.VecWindow
public import Idealize.ShloMosaic.Lib.WritesUnit
public import Idealize.ShloMosaic.Lib.WholeRead

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

/-! ### Loads -/

section
variable {κ : Kind} {sp : Space}

/-- A load of a whole buffer reads what the buffer holds. -/
theorem ld_whole {s : Shape} {e : EltTy} {m : Memref sig κ sp s e} (h : m.IsWhole) (x : Vec F s e) {off : Fin s.rank → ℕ}
    (inb : ∀ a, off a + s.size a ≤ s.size a) :
    m.view.readAt (Elt F) (Rect.unit off s.size inb).toLoadRect (h.unread x) = x :=
  (View.readAt_full m.view (h.unread x) inb).trans (h.read_unread x)

/-- A load of one block of the transposed keys. -/
theorem ld_kt {m : Memref sig κ sp S8x128x512 .bf16} (h : m.IsWhole) (x : Vec F S8x128x512 .bf16) {off : Fin 3 → ℕ} {k : ℕ}
    (inb : ∀ a, off a + S1x128x512.size a ≤ S8x128x512.size a) (ho : off = ![k, 0, 0]) (hk : k < 8) :
    m.view.readAt (Elt F) (Rect.unit (s := S8x128x512) off S1x128x512.size inb).toLoadRect (h.unread x) = ktb x k := by
  subst ho
  funext j
  refine (h.readAt_unread x _ j).trans (congrArg x (funext fun a => Fin.ext ?_))
  have h0 : (j 0).val < 1 := (j 0).isLt
  fin_cases a
  · show k + 1 * (j 0).val = k % 8
    omega
  · show 0 + 1 * (j 1).val = (j 1).val
    omega
  · show 0 + 1 * (j 2).val = (j 2).val
    omega

/-- A load of 256 of a head's accumulated log forget values. -/
theorem ld_fr {m : Memref sig κ sp S1x1x2x4096 .f32} (h : m.IsWhole) (x : Vec F S1x1x2x4096 .f32) {off : Fin 4 → ℕ} {o : ℕ} (hd : Fin 2)
    (inb : ∀ a, off a + S1x1x1x256.size a ≤ S1x1x2x4096.size a) (ho : off = ![0, 0, hd.val, o]) (hk : o + 256 ≤ 4096) :
    m.view.readAt (Elt F) (Rect.unit (s := S1x1x2x4096) off S1x1x1x256.size inb).toLoadRect (h.unread x) = frb x hd o := by
  subst ho
  funext j
  refine (h.readAt_unread x _ j).trans (congrArg x (funext fun a => Fin.ext ?_))
  have h0 : (j 0).val < 1 := (j 0).isLt
  have h1 : (j 1).val < 1 := (j 1).isLt
  have h2 : (j 2).val < 1 := (j 2).isLt
  have h3 : (j 3).val < 256 := (j 3).isLt
  fin_cases a
  · show 0 + 1 * (j 0).val = 0
    omega
  · show 0 + 1 * (j 1).val = 0
    omega
  · show hd.val + 1 * (j 2).val = hd.val
    omega
  · show o + 1 * (j 3).val = (o + (j 3).val) % 4096
    omega

/-- A load of one block of rows of the values. -/
theorem ld_vb {m : Memref sig κ sp S4096x128 .bf16} (h : m.IsWhole) (x : Vec F S4096x128 .bf16) {off : Fin 2 → ℕ} {k : ℕ}
    (inb : ∀ a, off a + S512x128.size a ≤ S4096x128.size a) (ho : off = ![512 * k, 0]) (hk : k < 8) :
    m.view.readAt (Elt F) (Rect.unit (s := S4096x128) off S512x128.size inb).toLoadRect (h.unread x) = vbb x k := by
  subst ho
  funext j
  refine (h.readAt_unread x _ j).trans (congrArg x (funext fun a => Fin.ext ?_))
  have h0 : (j 0).val < 512 := (j 0).isLt
  fin_cases a
  · show 512 * k + 1 * (j 0).val = (512 * k + (j 0).val) % 4096
    omega
  · show 0 + 1 * (j 1).val = (j 1).val
    omega

/-- A load of one block of rows of the keys. -/
theorem ld_k {m : Memref sig κ sp S4096x128 .f32} (h : m.IsWhole) (x : Vec F S4096x128 .f32) {off : Fin 2 → ℕ} {k : ℕ}
    (inb : ∀ a, off a + S512x128.size a ≤ S4096x128.size a) (ho : off = ![512 * k, 0]) (hk : k < 8) :
    m.view.readAt (Elt F) (Rect.unit (s := S4096x128) off S512x128.size inb).toLoadRect (h.unread x) = kvb x k := by
  subst ho
  funext j
  refine (h.readAt_unread x _ j).trans (congrArg x (funext fun a => Fin.ext ?_))
  have h0 : (j 0).val < 512 := (j 0).isLt
  fin_cases a
  · show 512 * k + 1 * (j 0).val = (512 * k + (j 0).val) % 4096
    omega
  · show 0 + 1 * (j 1).val = (j 1).val
    omega

/-- A load of one head's block of the score buffer. -/
theorem ld_sc (m : Memref sig κ sp S2x8x512x512 .f32) (f : m.view.ty.Contents (Elt F)) {off : Fin 4 → ℕ} {hd k : ℕ}
    (inb : ∀ a, off a + S1x1x512x512.size a ≤ S2x8x512x512.size a) (ho : off = ![hd, k, 0, 0]) (hhd : hd < 2) (hk : k < 8)
    (G : Vec F S1x1x512x512 .f32)
    (hG : ∀ r j, m.view.read (Elt F) f (i4 ⟨hd, hhd⟩ ⟨k, hk⟩ r j) = G (i4 0 0 r j)) :
    m.view.readAt (Elt F) (Rect.unit (s := S2x8x512x512) off S1x1x512x512.size inb).toLoadRect f = G := by
  subst ho
  funext j
  have h0 : (j 0).val < 1 := (j 0).isLt
  have h1 : (j 1).val < 1 := (j 1).isLt
  have e : (Rect.unit (s := S2x8x512x512) ![hd, k, 0, 0] S1x1x512x512.size inb).toLoadRect.idx j = i4 ⟨hd, hhd⟩ ⟨k, hk⟩ (j 2) (j 3) := by
    funext a; apply Fin.ext
    fin_cases a
    · show hd + 1 * (j 0).val = hd
      omega
    · show k + 1 * (j 1).val = k
      omega
    · show 0 + 1 * (j 2).val = (j 2).val
      omega
    · show 0 + 1 * (j 3).val = (j 3).val
      omega
  have e' : i4 0 0 (j 2) (j 3) = j := by
    funext a; apply Fin.ext
    fin_cases a
    · show 0 = (j 0).val
      omega
    · show 0 = (j 1).val
      omega
    · rfl
    · rfl
  refine (congrArg (m.view.read (Elt F) f) e).trans ((hG (j 2) (j 3)).trans (congrArg G e'))

/-- After a store of the whole value scratch it reads what was stored. -/
theorem vb_read (v : View sig κ sp S4096x128 .bf16) (f : v.ty.Contents (Elt F)) (w : Vec F S4096x128 .bf16) :
    v.read (Elt F) (v.writes (Elt F) f [(⟨Rect.unit (s := S4096x128) ![0, 0] S4096x128.size inb_S4096x128_S4096x128_0_0, w⟩ : View.Piece (Elt F) S4096x128 .bf16)]) = w :=
  View.read_writes_full v f inb_S4096x128_S4096x128_0_0 w []

/-! ### Stores to the key scratch -/

/-- One piece of the key scratch: block `k`'s transposed keys, read back where the block lies. -/
theorem kt_cons (v : View sig κ sp S8x128x512 .bf16) (f : v.ty.Contents (Elt F)) (x1 : Vec F S4096x128 .f32) {k : ℕ}
    (inb : ∀ a, (![k, 0, 0] : Fin 3 → ℕ) a + S1x128x512.size a ≤ S8x128x512.size a)
    (L : List (View.Piece (Elt F) S8x128x512 .bf16)) (y : S8x128x512.Idx)
    (hL : (y 0).val < k → v.read (Elt F) (v.writes (Elt F) f L) y = ktOf x1 y) (hy : (y 0).val < k + 1) :
    v.read (Elt F) (v.writes (Elt F) f ((⟨Rect.unit (s := S8x128x512) ![k, 0, 0] S1x128x512.size inb, k0_pay1 (kvb x1 k)⟩ : View.Piece (Elt F) S8x128x512 .bf16) :: L)) y
      = ktOf x1 y := by
  by_cases e : (y 0).val = k
  · refine (View.read_writes_cons_unit_of_mem v f inb _ L y (i3 (0 : Fin 1) (y 1) (y 2)) rfl ?_).trans ?_
    · intro a
      fin_cases a
      · show (y 0).val = k + 0
        omega
      · show (y 1).val = 0 + (y 1).val
        omega
      · show (y 2).val = 0 + (y 2).val
        omega
    · unfold ktOf
      rw [e]
  · refine (View.read_writes_cons_unit_of_not_mem v f inb _ L y rfl (0 : Fin 3) ?_).trans (hL (by omega))
    show (y 0).val < k ∨ k + 1 ≤ (y 0).val
    omega

/-- After the eight stores the key scratch reads the transposed keys. -/
theorem kt_read (v : View sig κ sp S8x128x512 .bf16) (f : v.ty.Contents (Elt F)) (x1 : Vec F S4096x128 .f32) :
    v.read (Elt F) (v.writes (Elt F) f [(⟨Rect.unit (s := S8x128x512) ![7, 0, 0] S1x128x512.size inb_S8x128x512_S1x128x512_7_0_0, k0_pay20 (kvb x1 7)⟩ : View.Piece (Elt F) S8x128x512 .bf16),
        ⟨Rect.unit (s := S8x128x512) ![6, 0, 0] S1x128x512.size inb_S8x128x512_S1x128x512_6_0_0, k0_pay19 (kvb x1 6)⟩,
        ⟨Rect.unit (s := S8x128x512) ![5, 0, 0] S1x128x512.size inb_S8x128x512_S1x128x512_5_0_0, k0_pay18 (kvb x1 5)⟩,
        ⟨Rect.unit (s := S8x128x512) ![4, 0, 0] S1x128x512.size inb_S8x128x512_S1x128x512_4_0_0, k0_pay5 (kvb x1 4)⟩,
        ⟨Rect.unit (s := S8x128x512) ![3, 0, 0] S1x128x512.size inb_S8x128x512_S1x128x512_3_0_0, k0_pay4 (kvb x1 3)⟩,
        ⟨Rect.unit (s := S8x128x512) ![2, 0, 0] S1x128x512.size inb_S8x128x512_S1x128x512_2_0_0, k0_pay3 (kvb x1 2)⟩,
        ⟨Rect.unit (s := S8x128x512) ![1, 0, 0] S1x128x512.size inb_S8x128x512_S1x128x512_1_0_0, k0_pay2 (kvb x1 1)⟩,
        ⟨Rect.unit (s := S8x128x512) ![0, 0, 0] S1x128x512.size inb_S8x128x512_S1x128x512_0_0_0, k0_pay1 (kvb x1 0)⟩]) = ktOf x1 := by
  funext y
  have hy : (y 0).val < 8 := (y 0).isLt
  refine kt_cons v f x1 (k := 7) _ _ y (fun h7 => ?_) hy
  refine kt_cons v f x1 (k := 6) _ _ y (fun h6 => ?_) h7
  refine kt_cons v f x1 (k := 5) _ _ y (fun h5 => ?_) h6
  refine kt_cons v f x1 (k := 4) _ _ y (fun h4 => ?_) h5
  refine kt_cons v f x1 (k := 3) _ _ y (fun h3 => ?_) h4
  refine kt_cons v f x1 (k := 2) _ _ y (fun h2 => ?_) h3
  refine kt_cons v f x1 (k := 1) _ _ y (fun h1 => ?_) h2
  exact kt_cons v f x1 (k := 0) _ _ y (fun h0 => absurd h0 (Nat.not_lt_zero _)) h1

/-! ### Stores to the score buffer -/

/-- After a store of one head's columns `o` to `o + W` of a block, the score buffer reads the stored value there and what
it held elsewhere. -/
theorem rd_cons (v : View sig κ sp S2x8x512x512 .f32) (f : v.ty.Contents (Elt F)) {off : Fin 4 → ℕ} {W hd k o : ℕ}
    (inb : ∀ a, off a + (![1, 1, 512, W] : Fin 4 → ℕ) a ≤ S2x8x512x512.size a)
    (w : (⟨4, ![1, 1, 512, W]⟩ : Shape).Idx → Elt F .f32) (L : List (View.Piece (Elt F) S2x8x512x512 .f32)) (y : S2x8x512x512.Idx)
    (ho : off = ![hd, k, 0, o]) :
    v.read (Elt F) (v.writes (Elt F) f ((⟨Rect.unit (s := S2x8x512x512) off ![1, 1, 512, W] inb, w⟩ : View.Piece (Elt F) S2x8x512x512 .f32) :: L)) y
      = if hc : (y 0).val = hd ∧ (y 1).val = k ∧ o ≤ (y 3).val ∧ (y 3).val < o + W then
          w (i4 (0 : Fin 1) (0 : Fin 1) (y 2) ⟨(y 3).val - o, by omega⟩)
        else v.read (Elt F) (v.writes (Elt F) f L) y := by
  have h2 : (y 2).val < 512 := (y 2).isLt
  by_cases hc : (y 0).val = hd ∧ (y 1).val = k ∧ o ≤ (y 3).val ∧ (y 3).val < o + W
  · rw [dif_pos hc]
    refine View.read_writes_cons_unit_of_mem v f inb w L y (i4 (0 : Fin 1) (0 : Fin 1) (y 2) ⟨(y 3).val - o, by omega⟩) ho ?_
    intro a
    fin_cases a
    · show (y 0).val = hd + 0
      omega
    · show (y 1).val = k + 0
      omega
    · show (y 2).val = 0 + (y 2).val
      omega
    · show (y 3).val = o + ((y 3).val - o)
      omega
  · rw [dif_neg hc]
    by_cases h0 : (y 0).val = hd
    · by_cases h1 : (y 1).val = k
      · refine View.read_writes_cons_unit_of_not_mem v f inb w L y ho (3 : Fin 4) ?_
        show (y 3).val < o ∨ o + W ≤ (y 3).val
        omega
      · refine View.read_writes_cons_unit_of_not_mem v f inb w L y ho (1 : Fin 4) ?_
        show (y 1).val < k ∨ k + 1 ≤ (y 1).val
        omega
    · refine View.read_writes_cons_unit_of_not_mem v f inb w L y ho (0 : Fin 4) ?_
      show (y 0).val < hd ∨ hd + 1 ≤ (y 0).val
      omega

/-- After stores of both halves of one block of each head, the score buffer reads the two blocks there and what it held
elsewhere. -/
theorem rd_four (v : View sig κ sp S2x8x512x512 .f32) (f : v.ty.Contents (Elt F)) {o1 o2 o3 o4 : Fin 4 → ℕ} {k : ℕ}
    (inb1 : ∀ a, o1 a + S1x1x512x256.size a ≤ S2x8x512x512.size a) (inb2 : ∀ a, o2 a + S1x1x512x256.size a ≤ S2x8x512x512.size a)
    (inb3 : ∀ a, o3 a + S1x1x512x256.size a ≤ S2x8x512x512.size a) (inb4 : ∀ a, o4 a + S1x1x512x256.size a ≤ S2x8x512x512.size a)
    (w1 w2 w3 w4 : Vec F S1x1x512x256 .f32) (y : S2x8x512x512.Idx)
    (h1 : o1 = ![0, k, 0, 0]) (h2 : o2 = ![0, k, 0, 256]) (h3 : o3 = ![1, k, 0, 0]) (h4 : o4 = ![1, k, 0, 256]) :
    v.read (Elt F) (v.writes (Elt F) f [(⟨Rect.unit (s := S2x8x512x512) o4 S1x1x512x256.size inb4, w4⟩ : View.Piece (Elt F) S2x8x512x512 .f32),
        ⟨Rect.unit (s := S2x8x512x512) o3 S1x1x512x256.size inb3, w3⟩, ⟨Rect.unit (s := S2x8x512x512) o2 S1x1x512x256.size inb2, w2⟩,
        ⟨Rect.unit (s := S2x8x512x512) o1 S1x1x512x256.size inb1, w1⟩]) y
      = if (y 1).val = k then (if (y 0).val = 0 then halves w1 w2 (i4 0 0 (y 2) (y 3)) else halves w3 w4 (i4 0 0 (y 2) (y 3)))
        else v.read (Elt F) f y := by
  have b0 : (y 0).val < 2 := (y 0).isLt
  have b3 : (y 3).val < 512 := (y 3).isLt
  have E4 := fun L => rd_cons (F := F) v f inb4 w4 L y h4
  have E3 := fun L => rd_cons (F := F) v f inb3 w3 L y h3
  have E2 := fun L => rd_cons (F := F) v f inb2 w2 L y h2
  have E1 := fun L => rd_cons (F := F) v f inb1 w1 L y h1
  refine (E4 _).trans ?_
  split
  · next hc =>
    rw [if_pos hc.2.1, if_neg (by omega)]
    exact (halves_hi _ _ (y 2) (y 3) (by omega)).symm
  next hc4 =>
  refine (E3 _).trans ?_
  split
  · next hc =>
    rw [if_pos hc.2.1, if_neg (by omega)]
    exact (halves_lo _ _ (y 2) (y 3) (by omega)).symm
  next hc3 =>
  refine (E2 _).trans ?_
  split
  · next hc =>
    rw [if_pos hc.2.1, if_pos (by omega)]
    exact (halves_hi _ _ (y 2) (y 3) (by omega)).symm
  next hc2 =>
  refine (E1 _).trans ?_
  split
  · next hc =>
    rw [if_pos hc.2.1, if_pos (by omega)]
    exact (halves_lo _ _ (y 2) (y 3) (by omega)).symm
  next hc1 =>
  rw [if_neg (by omega)]
  rfl

/-- After stores of one whole block of each head, the score buffer reads the two blocks there and what it held
elsewhere. -/
theorem rd_two (v : View sig κ sp S2x8x512x512 .f32) (f : v.ty.Contents (Elt F)) {o1 o2 : Fin 4 → ℕ} {k : ℕ}
    (inb1 : ∀ a, o1 a + S1x1x512x512.size a ≤ S2x8x512x512.size a) (inb2 : ∀ a, o2 a + S1x1x512x512.size a ≤ S2x8x512x512.size a)
    (w1 w2 : Vec F S1x1x512x512 .f32) (y : S2x8x512x512.Idx) (h1 : o1 = ![0, k, 0, 0]) (h2 : o2 = ![1, k, 0, 0]) :
    v.read (Elt F) (v.writes (Elt F) f [(⟨Rect.unit (s := S2x8x512x512) o2 S1x1x512x512.size inb2, w2⟩ : View.Piece (Elt F) S2x8x512x512 .f32),
        ⟨Rect.unit (s := S2x8x512x512) o1 S1x1x512x512.size inb1, w1⟩]) y
      = if (y 1).val = k then (if (y 0).val = 0 then w1 (i4 0 0 (y 2) (y 3)) else w2 (i4 0 0 (y 2) (y 3)))
        else v.read (Elt F) f y := by
  have b0 : (y 0).val < 2 := (y 0).isLt
  have b3 : (y 3).val < 512 := (y 3).isLt
  have E2 := fun L => rd_cons (F := F) v f inb2 w2 L y h2
  have E1 := fun L => rd_cons (F := F) v f inb1 w1 L y h1
  refine (E2 _).trans ?_
  split
  · next hc =>
    rw [if_pos hc.2.1, if_neg (by omega)]
    rfl
  next hc2 =>
  refine (E1 _).trans ?_
  split
  · next hc =>
    rw [if_pos hc.2.1, if_pos (by omega)]
    rfl
  next hc1 =>
  rw [if_neg (by omega)]
  rfl

end

end Cert.KernelIdeal.Att

end
-- ==== Proof.PI.Trip1.lean ====
/-
  One trip of the score loop: it stores both heads' scores of one key block and carries the running maxima.
-/
module

public import proofs.«01_k».proof.Proof.PI.Pieces

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S2x8x512x512 .f32) (harg9 : arg9.IsWhole) (arg10 : Memref sig .tc .vmem S8x128x512 .bf16) (harg10 : arg10.IsWhole) (arg11 : Memref sig .tc .vmem S4096x128 .bf16) (harg11 : arg11.IsWhole)
    (x0 : Vec F S512x128 .f32) (x3 : Vec F S1x1x512x2 .f32) (x4 : Vec F S1x1x2x4096 .f32) (kt : Vec F S8x128x512 .bf16) (vb : Vec F S4096x128 .bf16)

/-- Before trip `k` of the score loop: the blocks before `k` hold their scores, the carried values are the running maxima. -/
def inv1 (k : ℕ) (a : FVec F S512x1 .f32 × FVec F S512x1 .f32) : sProp 𝕄 :=
  iprop((arg10.view.loc (c : Thread nD τ) ↦{fullShare} harg10.unread kt) ∗ (arg7.view.loc (c : Thread nD τ) ↦{fullShare} harg7.unread x4)
    ∗ (∃ f, (arg9.view.loc (c : Thread nD τ) ↦{fullShare} f) ∗ ⌜∀ y : S2x8x512x512.Idx, (y 1).val < k → arg9.view.read (Elt F) f y = scAll x0 x3 x4 kt (qb i) y⌝)
    ∗ ⌜a = mx x0 x3 x4 kt k⌝)

set_option maxHeartbeats 1000000 in
/-- A trip of the score loop keeps the invariant. -/
theorem trip1 (k : Fin (k0_t1_loop i).trips) (a : FVec F S512x1 .f32 × FVec F S512x1 .f32) (E : Set ℕ) :
    inv1 c i arg7 harg7 arg9 arg10 harg10 x0 x3 x4 kt k.val a
      ⊢ wp frame (wpE (defs₀ (F := F)) Variants.none c none) E (k0_t1_body i arg3 harg3 arg4 harg4 arg5 harg5 arg6 harg6 arg7 harg7 arg8 harg8 arg9 harg9 arg10 harg10 arg11 harg11 x0 x3 k a)
          (fun a' => inv1 c i arg7 harg7 arg9 arg10 harg10 x0 x3 x4 kt (k.val + 1) a') := by
  unfold inv1
  iintro ⟨H10, H7, ⟨%f, H9, %hf⟩, %ha⟩
  subst ha
  have hk := t1_lt i k
  have hq := qb_lt i
  have b3 : ∀ (inb : _), View.readAt (Elt F) arg10.view (Rect.unit (s := S8x128x512) (k0_off1 i k) S1x128x512.size inb).toLoadRect (harg10.unread kt) = ktb kt k.val :=
    fun inb => ld_kt harg10 kt inb (off1 i k) (by omega)
  have b20 : ∀ (inb : _), View.readAt (Elt F) arg7.view (Rect.unit (s := S1x1x2x4096) (k0_off2 i k 0#32) S1x1x1x256.size inb).toLoadRect (harg7.unread x4) = frb x4 0 (512 * k.val) :=
    fun inb => ld_fr harg7 x4 0 inb (off2_0 i k) (by omega)
  have b21 : ∀ (inb : _), View.readAt (Elt F) arg7.view (Rect.unit (s := S1x1x2x4096) (k0_off2 i k 256#32) S1x1x1x256.size inb).toLoadRect (harg7.unread x4) = frb x4 0 (512 * k.val + 256) :=
    fun inb => ld_fr harg7 x4 0 inb (off2_1 i k) (by omega)
  have b50 : ∀ (inb : _), View.readAt (Elt F) arg7.view (Rect.unit (s := S1x1x2x4096) (k0_off5 i k 0#32) S1x1x1x256.size inb).toLoadRect (harg7.unread x4) = frb x4 1 (512 * k.val) :=
    fun inb => ld_fr harg7 x4 1 inb (off5_0 i k) (by omega)
  have b51 : ∀ (inb : _), View.readAt (Elt F) arg7.view (Rect.unit (s := S1x1x2x4096) (k0_off5 i k 256#32) S1x1x1x256.size inb).toLoadRect (harg7.unread x4) = frb x4 1 (512 * k.val + 256) :=
    fun inb => ld_fr harg7 x4 1 inb (off5_1 i k) (by omega)
  sl_exec
  sl_step
  isplitl [H10]; · iexact H10
  isplitl [H7]; · iexact H7
  isplitl
  · iexists _
    isplitl
    · iexact H9
    · ipureintro
      intro y hy
      refine (rd_four (F := F) arg9.view f _ _ _ _ _ _ _ _ y (off3 i k) (off4 i k) (off6 i k) (off7 i k)).trans ?_
      unfold scAll
      by_cases e : (y 1).val = k.val
      · rw [if_pos e, e]
        unfold s0 s1
        rw [if_pos hk, if_pos hk]
        rfl
      · rw [if_neg e]
        exact hf y (by omega)
  · ipureintro
    rfl
end
end Cert.KernelIdeal.Att
end
-- ==== Proof.PI.Trip3.lean ====
/-
  One trip of the exponential loop: it replaces both heads' scores of one key block by their exponentials and carries the
  running sums.
-/
module

public import proofs.«01_k».proof.Proof.PI.Pieces

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S2x8x512x512 .f32) (harg9 : arg9.IsWhole) (arg10 : Memref sig .tc .vmem S8x128x512 .bf16) (harg10 : arg10.IsWhole) (arg11 : Memref sig .tc .vmem S4096x128 .bf16) (harg11 : arg11.IsWhole)
    (x0 : Vec F S512x128 .f32) (x3 : Vec F S1x1x512x2 .f32) (x4 : Vec F S1x1x2x4096 .f32) (kt : Vec F S8x128x512 .bf16) (vb : Vec F S4096x128 .bf16)

/-- Before trip `k` of the exponential loop: the blocks before `k` hold their exponentials, the others up to the diagonal
their scores, the carried values are the running sums. -/
def inv3 (k : ℕ) (a : FVec F S512x1 .f32 × FVec F S512x1 .f32) : sProp 𝕄 :=
  iprop((∃ f, (arg9.view.loc (c : Thread nD τ) ↦{fullShare} f)
      ∗ ⌜∀ y : S2x8x512x512.Idx, (y 1).val ≤ qb i → arg9.view.read (Elt F) f y = if (y 1).val < k then eAll x0 x3 x4 kt (qb i) y else scAll x0 x3 x4 kt (qb i) y⌝)
    ∗ ⌜a = ls x0 x3 x4 kt (qb i) k⌝)

set_option maxHeartbeats 1000000 in
/-- A trip of the exponential loop keeps the invariant. -/
theorem trip3 (k : Fin (k0_t3_loop i).trips) (a : FVec F S512x1 .f32 × FVec F S512x1 .f32) (E : Set ℕ) (w2 : BitVec 32) :
    inv3 c i arg9 x0 x3 x4 kt k.val a
      ⊢ wp frame (wpE (defs₀ (F := F)) Variants.none c none) E (k0_t3_body i arg3 harg3 arg4 harg4 arg5 harg5 arg6 harg6 arg7 harg7 arg8 harg8 arg9 harg9 arg10 harg10 arg11 harg11 w2 lanes rows cols
            (m0 x0 x3 x4 kt (qb i)) (m1 x0 x3 x4 kt (qb i)) (dg1 x0 x3 x4 kt (qb i)) k0_pay52 k a)
          (fun a' => inv3 c i arg9 x0 x3 x4 kt (k.val + 1) a') := by
  unfold inv3
  iintro ⟨⟨%f, H9, %hf⟩, %ha⟩
  subst ha
  have hk := t3_lt i k
  have hq := qb_lt i
  have b0 : ∀ (inb : _), View.readAt (Elt F) arg9.view (Rect.unit (s := S2x8x512x512) (k0_off22 i k) S1x1x512x512.size inb).toLoadRect f = s0 x0 x3 x4 kt (qb i) k.val :=
    fun inb => ld_sc arg9 f inb (off22 i k) (by omega) (by omega) _ fun r j => by
      rw [hf _ (show k.val ≤ qb i by omega), if_neg (show ¬ k.val < k.val by omega)]
      rfl
  have b1 : ∀ (inb : _), View.readAt (Elt F) arg9.view (Rect.unit (s := S2x8x512x512) (k0_off23 i k) S1x1x512x512.size inb).toLoadRect f = s1 x0 x3 x4 kt (qb i) k.val :=
    fun inb => ld_sc arg9 f inb (off23 i k) (by omega) (by omega) _ fun r j => by
      rw [hf _ (show k.val ≤ qb i by omega), if_neg (show ¬ k.val < k.val by omega)]
      rfl
  sl_exec
  sl_step
  isplitl
  · iexists _
    isplitl
    · iexact H9
    · ipureintro
      intro y hy
      refine (rd_two (F := F) arg9.view f _ _ _ _ y (off22 i k) (off23 i k)).trans ?_
      by_cases e : (y 1).val = k.val
      · rw [if_pos e, if_pos (show (y 1).val < k.val + 1 by omega)]
        unfold eAll e0 e1
        rw [e]
      · rw [if_neg e, hf y hy]
        by_cases e' : (y 1).val < k.val
        · rw [if_pos e', if_pos (by omega)]
        · rw [if_neg e', if_neg (by omega)]
  · ipureintro
    rfl
end
end Cert.KernelIdeal.Att
end
-- ==== Proof.PI.Trip5.lean ====
/-
  One trip of the value loop: it adds one key block's weighted values to both heads' sums.
-/
module

public import proofs.«01_k».proof.Proof.PI.Pieces

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S2x8x512x512 .f32) (harg9 : arg9.IsWhole) (arg10 : Memref sig .tc .vmem S8x128x512 .bf16) (harg10 : arg10.IsWhole) (arg11 : Memref sig .tc .vmem S4096x128 .bf16) (harg11 : arg11.IsWhole)
    (x0 : Vec F S512x128 .f32) (x3 : Vec F S1x1x512x2 .f32) (x4 : Vec F S1x1x2x4096 .f32) (kt : Vec F S8x128x512 .bf16) (vb : Vec F S4096x128 .bf16)

/-- Before trip `k` of the value loop: every block up to the diagonal holds its exponentials, the carried values are the
running weighted sums. -/
def inv5 (k : ℕ) (a : FVec F S512x128 .f32 × FVec F S512x128 .f32) : sProp 𝕄 :=
  iprop((arg11.view.loc (c : Thread nD τ) ↦{fullShare} harg11.unread vb)
    ∗ (∃ f, (arg9.view.loc (c : Thread nD τ) ↦{fullShare} f)
      ∗ ⌜∀ y : S2x8x512x512.Idx, (y 1).val ≤ qb i → arg9.view.read (Elt F) f y = eAll x0 x3 x4 kt (qb i) y⌝)
    ∗ ⌜a = acc x0 x3 x4 kt vb (qb i) k⌝)

set_option maxHeartbeats 1000000 in
/-- A trip of the value loop keeps the invariant. -/
theorem trip5 (k : Fin (k0_t5_loop i).trips) (a : FVec F S512x128 .f32 × FVec F S512x128 .f32) (E : Set ℕ) (w2 : BitVec 32)
    (v79 v101 : FVec F S512x1 .f32) (v111 : FVec F S512x256 .f32) (v112 : IVec S512x256 32) :
    inv5 c i arg9 arg11 harg11 x0 x3 x4 kt vb k.val a
      ⊢ wp frame (wpE (defs₀ (F := F)) Variants.none c none) E (k0_t5_body i arg3 harg3 arg4 harg4 arg5 harg5 arg6 harg6 arg7 harg7 arg8 harg8 arg9 harg9 arg10 harg10 arg11 harg11 w2 lanes rows cols
            v79 v101 v111 v112 (ls x0 x3 x4 kt (qb i) (qb i + 1)).1 (ls x0 x3 x4 kt (qb i) (qb i + 1)).2 k a)
          (fun a' => inv5 c i arg9 arg11 harg11 x0 x3 x4 kt vb (k.val + 1) a') := by
  unfold inv5
  iintro ⟨H11, ⟨%f, H9, %hf⟩, %ha⟩
  subst ha
  have hk := t5_lt i k
  have hq := qb_lt i
  have b0 : ∀ (inb : _), View.readAt (Elt F) arg9.view (Rect.unit (s := S2x8x512x512) (k0_off27 i k) S1x1x512x512.size inb).toLoadRect f = e0 x0 x3 x4 kt (qb i) k.val :=
    fun inb => ld_sc arg9 f inb (off27 i k) (by omega) (by omega) _ fun r j => by
      rw [hf _ (show k.val ≤ qb i by omega)]
      rfl
  have b1 : ∀ (inb : _), View.readAt (Elt F) arg9.view (Rect.unit (s := S2x8x512x512) (k0_off28 i k) S1x1x512x512.size inb).toLoadRect f = e1 x0 x3 x4 kt (qb i) k.val :=
    fun inb => ld_sc arg9 f inb (off28 i k) (by omega) (by omega) _ fun r j => by
      rw [hf _ (show k.val ≤ qb i by omega)]
      rfl
  have b2 : ∀ (inb : _), View.readAt (Elt F) arg11.view (Rect.unit (s := S4096x128) (k0_off26 i k) S512x128.size inb).toLoadRect (harg11.unread vb) = vbb vb k.val :=
    fun inb => ld_vb harg11 vb inb (off26 i k) (by omega)
  sl_exec
  sl_step
  isplitl [H11]; · iexact H11
  isplitl
  · iexists _
    isplitl
    · iexact H9
    · ipureintro
      exact hf
  · ipureintro
    rfl
end
end Cert.KernelIdeal.Att
end
-- ==== Proof.PI.BodyA.lean ====
/-
  The kernel body at the first grid point of a row of query blocks.
-/
module

public import proofs.«01_k».proof.Proof.PI.Trip1
public import proofs.«01_k».proof.Proof.PI.Trip3
public import proofs.«01_k».proof.Proof.PI.Trip5

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- At the first point of a row of query blocks the body reads its blocks, fills the scratch with the transposed keys and
the rounded values, and leaves the output block. -/
theorem bodyA (c : Dev nD) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S2x8x512x512 .f32) (harg9 : arg9.IsWhole) (arg10 : Memref sig .tc .vmem S8x128x512 .bf16) (harg10 : arg10.IsWhole) (arg11 : Memref sig .tc .vmem S4096x128 .bf16) (harg11 : arg11.IsWhole)
    (hc0 : (Scalar.cmpi .ne (Scalar.extui (Scalar.cmpi .eq (BitVec.ofNat 32 (i 2).val) 0#32)) 0#32) = 1#1)
    (x0 : Vec F S512x128 .f32) (x1 x2 : Vec F S4096x128 .f32) (x3 : Vec F S1x1x512x2 .f32) (x4 : Vec F S1x1x2x4096 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
           ∗ (∃ d, owns (c : Thread nD τ) arg9 fullShare d) ∗ (∃ d, owns (c : Thread nD τ) arg10 fullShare d) ∗ (∃ d, owns (c : Thread nD τ) arg11 fullShare d)
           ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x3 x4 (ktOf x1) (k0_pay21 x2) (qb i))
               ∗ (∃ d, owns (c : Thread nD τ) arg9 fullShare d) ∗ owns (c : Thread nD τ) arg10 fullShare (ktOf x1) ∗ owns (c : Thread nD τ) arg11 fullShare (k0_pay21 x2)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K := by
  have hq := qb_lt i
  simp only [cc0_attn_prompt_eq_skeleton]; unfold cc0_attn_prompt_skel
  unfold owns
  simp only [harg3.set_eq_univ, harg4.set_eq_univ, harg5.set_eq_univ, harg6.set_eq_univ, harg7.set_eq_univ, harg8.set_eq_univ, harg9.set_eq_univ, harg10.set_eq_univ, harg11.set_eq_univ]
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, ⟨%d11, %f11, -, H11⟩, HK⟩
  obtain rfl := harg3.eq_unread hf0; obtain rfl := harg4.eq_unread hf1; obtain rfl := harg5.eq_unread hf2; obtain rfl := harg6.eq_unread hf3; obtain rfl := harg7.eq_unread hf4
  have c3 : ∀ (inb : _), View.readAt (Elt F) arg3.view (Rect.unit (s := S512x128) ![0, 0] S512x128.size inb).toLoadRect (harg3.unread x0) = x0 := fun inb => ld_whole harg3 x0 inb
  have c6 : ∀ (inb : _), View.readAt (Elt F) arg6.view (Rect.unit (s := S1x1x512x2) ![0, 0, 0, 0] S1x1x512x2.size inb).toLoadRect (harg6.unread x3) = x3 := fun inb => ld_whole harg6 x3 inb
  have c4_0 : ∀ (inb : _), View.readAt (Elt F) arg4.view (Rect.unit (s := S4096x128) ![0, 0] S512x128.size inb).toLoadRect (harg4.unread x1) = kvb x1 0 := fun inb => ld_k harg4 x1 inb rfl (by omega)
  have c4_1 : ∀ (inb : _), View.readAt (Elt F) arg4.view (Rect.unit (s := S4096x128) ![512, 0] S512x128.size inb).toLoadRect (harg4.unread x1) = kvb x1 1 := fun inb => ld_k harg4 x1 inb rfl (by omega)
  have c4_2 : ∀ (inb : _), View.readAt (Elt F) arg4.view (Rect.unit (s := S4096x128) ![1024, 0] S512x128.size inb).toLoadRect (harg4.unread x1) = kvb x1 2 := fun inb => ld_k harg4 x1 inb rfl (by omega)
  have c4_3 : ∀ (inb : _), View.readAt (Elt F) arg4.view (Rect.unit (s := S4096x128) ![1536, 0] S512x128.size inb).toLoadRect (harg4.unread x1) = kvb x1 3 := fun inb => ld_k harg4 x1 inb rfl (by omega)
  have c4_4 : ∀ (inb : _), View.readAt (Elt F) arg4.view (Rect.unit (s := S4096x128) ![2048, 0] S512x128.size inb).toLoadRect (harg4.unread x1) = kvb x1 4 := fun inb => ld_k harg4 x1 inb rfl (by omega)
  have c4_5 : ∀ (inb : _), View.readAt (Elt F) arg4.view (Rect.unit (s := S4096x128) ![2560, 0] S512x128.size inb).toLoadRect (harg4.unread x1) = kvb x1 5 := fun inb => ld_k harg4 x1 inb rfl (by omega)
  have c4_6 : ∀ (inb : _), View.readAt (Elt F) arg4.view (Rect.unit (s := S4096x128) ![3072, 0] S512x128.size inb).toLoadRect (harg4.unread x1) = kvb x1 6 := fun inb => ld_k harg4 x1 inb rfl (by omega)
  have c4_7 : ∀ (inb : _), View.readAt (Elt F) arg4.view (Rect.unit (s := S4096x128) ![3584, 0] S512x128.size inb).toLoadRect (harg4.unread x1) = kvb x1 7 := fun inb => ld_k harg4 x1 inb rfl (by omega)
  have c5 : ∀ (inb : _), View.readAt (Elt F) arg5.view (Rect.unit (s := S4096x128) ![0, 0] S4096x128.size inb).toLoadRect (harg5.unread x2) = x2 := fun inb => ld_whole harg5 x2 inb
  have c10 : ∀ (inb : _), View.readAt (Elt F) arg10.view (Rect.unit (s := S8x128x512) (k0_off15 i) S1x128x512.size inb).toLoadRect (harg10.unread (ktOf x1)) = ktb (ktOf x1) (qb i) :=
    fun inb => ld_kt harg10 (ktOf x1) inb (off15 i) hq
  have d0 : ∀ (inb : _), View.readAt (Elt F) arg7.view (Rect.unit (s := S1x1x2x4096) (k0_off16 i 0#32) S1x1x1x256.size inb).toLoadRect (harg7.unread x4) = frb x4 0 (512 * qb i) :=
    fun inb => ld_fr harg7 x4 0 inb (off16_0 i) (by omega)
  have d1 : ∀ (inb : _), View.readAt (Elt F) arg7.view (Rect.unit (s := S1x1x2x4096) (k0_off16 i 256#32) S1x1x1x256.size inb).toLoadRect (harg7.unread x4) = frb x4 0 (512 * qb i + 256) :=
    fun inb => ld_fr harg7 x4 0 inb (off16_1 i) (by omega)
  have d2 : ∀ (inb : _), View.readAt (Elt F) arg7.view (Rect.unit (s := S1x1x2x4096) (k0_off19 i 0#32) S1x1x1x256.size inb).toLoadRect (harg7.unread x4) = frb x4 1 (512 * qb i) :=
    fun inb => ld_fr harg7 x4 1 inb (off19_0 i) (by omega)
  have d3 : ∀ (inb : _), View.readAt (Elt F) arg7.view (Rect.unit (s := S1x1x2x4096) (k0_off19 i 256#32) S1x1x1x256.size inb).toLoadRect (harg7.unread x4) = frb x4 1 (512 * qb i + 256) :=
    fun inb => ld_fr harg7 x4 1 inb (off19_1 i) (by omega)
  sl_exec (disch := first | sl_exact hc0)
  have e10 : arg10.view.writes (Elt F) arg10.view.junk (bodyA.sl.H10_8 x1) = harg10.unread (ktOf x1) := by
    delta bodyA.sl.H10_8 bodyA.sl.v179 bodyA.sl.v173 bodyA.sl.v167 bodyA.sl.v161 bodyA.sl.v155
    exact harg10.eq_unread (kt_read arg10.view _ x1)
  have e11 : arg11.view.writes (Elt F) arg11.view.junk (bodyA.sl.H11_1 x2) = harg11.unread (k0_pay21 x2) := by
    delta bodyA.sl.H11_1
    exact harg11.eq_unread (vb_read arg11.view _ (k0_pay21 x2))
  rw [e10, e11]
  sl_for (inv1 c i arg7 harg7 arg9 arg10 harg10 x0 x3 x4 (ktOf x1)) $$ [H4 H9 H10]
  case region => intro k a; exact trip1 c i arg3 harg3 arg4 harg4 arg5 harg5 arg6 harg6 arg7 harg7 arg8 harg8 arg9 harg9 arg10 harg10 arg11 harg11 x0 x3 x4 (ktOf x1) k a E
  · unfold inv1
    isplitl [H10]; · iexact H10
    isplitl [H4]; · iexact H4
    isplitl
    · iexists f9
      isplitl; · iexact H9
      ipureintro
      intro y hy; exact absurd hy (Nat.not_lt_zero _)
    · ipureintro; rfl
  iintro %a HI
  rw [show Scf.trips (k0_t1_loop i).lb (k0_t1_loop i).ub (k0_t1_loop i).st = qb i from trips1 i]
  unfold inv1
  icases HI with ⟨H10, H4, ⟨%g, H9, %hg⟩, %ha⟩
  subst ha
  sl_exec
  sl_for (fun (_ : ℕ) (a : FVec F S512x1 .f32 × FVec F S512x1 .f32) => (iprop(⌜a = mx x0 x3 x4 (ktOf x1) (qb i)⌝) : sProp 𝕄)) $$ []
  case region => intro k a; exact absurd (lt_of_lt_of_eq k.isLt (trips2 i)) (Nat.not_lt_zero _)
  · ipureintro; rfl
  iintro %a %ha
  subst ha
  sl_exec
  sl_for (inv3 c i arg9 x0 x3 x4 (ktOf x1)) $$ [H9]
  case region => intro k a; exact trip3 c i arg3 harg3 arg4 harg4 arg5 harg5 arg6 harg6 arg7 harg7 arg8 harg8 arg9 harg9 arg10 harg10 arg11 harg11 x0 x3 x4 (ktOf x1) k a E (BitVec.ofNat 32 (i 2).val)
  · unfold inv3
    isplitl
    · iexists _
      isplitl; · iexact H9
      ipureintro
      intro y hy
      refine (rd_four (F := F) arg9.view g _ _ _ _ _ _ _ _ y (off17 i) (off18 i) (off20 i) (off21 i)).trans ?_
      rw [if_neg (Nat.not_lt_zero _)]
      by_cases e : (y 1).val = qb i
      · rw [if_pos e]
        unfold scAll s0 s1
        rw [e, if_neg (Nat.lt_irrefl _), if_neg (Nat.lt_irrefl _)]
        rfl
      · rw [if_neg e]
        exact hg y (by omega)
    · ipureintro; rfl
  iintro %a HI
  rw [show Scf.trips (k0_t3_loop i).lb (k0_t3_loop i).ub (k0_t3_loop i).st = qb i + 1 from trips3 i]
  unfold inv3
  icases HI with ⟨⟨%g3, H9, %hg3⟩, %ha⟩
  subst ha
  sl_exec
  sl_for (fun (_ : ℕ) (a : FVec F S512x1 .f32 × FVec F S512x1 .f32) => (iprop(⌜a = ls x0 x3 x4 (ktOf x1) (qb i) (qb i + 1)⌝) : sProp 𝕄)) $$ []
  case region => intro k a; exact absurd (lt_of_lt_of_eq k.isLt (trips4 i)) (Nat.not_lt_zero _)
  · ipureintro; rfl
  iintro %a %ha
  subst ha
  sl_exec
  sl_for (inv5 c i arg9 arg11 harg11 x0 x3 x4 (ktOf x1) (k0_pay21 x2)) $$ [H9 H11]
  case region => intro k a; exact trip5 c i arg3 harg3 arg4 harg4 arg5 harg5 arg6 harg6 arg7 harg7 arg8 harg8 arg9 harg9 arg10 harg10 arg11 harg11 x0 x3 x4 (ktOf x1) (k0_pay21 x2) k a E (BitVec.ofNat 32 (i 2).val) (m0 x0 x3 x4 (ktOf x1) (qb i)) (m1 x0 x3 x4 (ktOf x1) (qb i)) (dg1 x0 x3 x4 (ktOf x1) (qb i)) k0_pay52
  · unfold inv5
    isplitl [H11]; · iexact H11
    isplitl
    · iexists g3
      isplitl; · iexact H9
      ipureintro
      intro y hy
      rw [hg3 y hy, if_pos (by omega)]
    · ipureintro; rfl
  iintro %a HI
  rw [show Scf.trips (k0_t5_loop i).lb (k0_t5_loop i).ub (k0_t5_loop i).st = qb i + 1 from trips5 i]
  unfold inv5
  icases HI with ⟨H11, ⟨%g5, H9, %hg5⟩, %ha⟩
  subst ha
  sl_exec
  sl_for (fun (_ : ℕ) (a : FVec F S512x128 .f32 × FVec F S512x128 .f32) => (iprop(⌜a = acc x0 x3 x4 (ktOf x1) (k0_pay21 x2) (qb i) (qb i + 1)⌝) : sProp 𝕄)) $$ []
  case region => intro k a; exact absurd (lt_of_lt_of_eq k.isLt (trips6 i)) (Nat.not_lt_zero _)
  · ipureintro; rfl
  iintro %a %ha
  subst ha
  sl_exec
  sl_step
  iapply HK
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    · ipureintro; refine (View.read_writes_full arg8.view f5 inb_S512x128_S512x128_0_0 (outBlk x0 x3 x4 (ktOf x1) (k0_pay21 x2) (qb i)) [])
    iexact H5
  isplitl [H9]
  · iexists _; iexists g5; isplitr; · ipureintro; rfl
    iexact H9
  isplitl [H10]
  · iexists _; isplitr; · ipureintro; exact harg10.read_unread _
    iexact H10
  · iexists _; isplitr; · ipureintro; exact harg11.read_unread _
    iexact H11
end Cert.KernelIdeal.Att
end
-- ==== Proof.PI.BodyB.lean ====
/-
  The kernel body at a grid point that is not the first of its row of query blocks.
-/
module

public import proofs.«01_k».proof.Proof.PI.Trip1
public import proofs.«01_k».proof.Proof.PI.Trip3
public import proofs.«01_k».proof.Proof.PI.Trip5

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- At a point that is not the first of its row of query blocks the body reads its blocks, finds the transposed keys and
the rounded values in the scratch, and leaves the output block. -/
theorem bodyB (c : Dev nD) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S2x8x512x512 .f32) (harg9 : arg9.IsWhole) (arg10 : Memref sig .tc .vmem S8x128x512 .bf16) (harg10 : arg10.IsWhole) (arg11 : Memref sig .tc .vmem S4096x128 .bf16) (harg11 : arg11.IsWhole)
    (hc0 : ¬ (Scalar.cmpi .ne (Scalar.extui (Scalar.cmpi .eq (BitVec.ofNat 32 (i 2).val) 0#32)) 0#32) = 1#1)
    (x0 : Vec F S512x128 .f32) (x3 : Vec F S1x1x512x2 .f32) (x4 : Vec F S1x1x2x4096 .f32) (kt : Vec F S8x128x512 .bf16) (vb : Vec F S4096x128 .bf16)
    (E : Set ℕ) (K : PUnit → sProp 𝕄) :
        iprop(owns (c : Thread nD τ) arg3 fullShare x0 ∗ owns (c : Thread nD τ) arg6 fullShare x3 ∗ owns (c : Thread nD τ) arg7 fullShare x4 ∗ (∃ d, owns (c : Thread nD τ) arg8 fullShare d)
           ∗ (∃ d, owns (c : Thread nD τ) arg9 fullShare d) ∗ owns (c : Thread nD τ) arg10 fullShare kt ∗ owns (c : Thread nD τ) arg11 fullShare vb
           ∗ (iprop(owns (c : Thread nD τ) arg3 fullShare x0 ∗ owns (c : Thread nD τ) arg6 fullShare x3 ∗ owns (c : Thread nD τ) arg7 fullShare x4 ∗ owns (c : Thread nD τ) arg8 fullShare (outBlk x0 x3 x4 kt vb (qb i))
               ∗ (∃ d, owns (c : Thread nD τ) arg9 fullShare d) ∗ owns (c : Thread nD τ) arg10 fullShare kt ∗ owns (c : Thread nD τ) arg11 fullShare vb) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K := by
  have hq := qb_lt i
  simp only [cc0_attn_prompt_eq_skeleton]; unfold cc0_attn_prompt_skel
  unfold owns
  simp only [harg3.set_eq_univ, harg6.set_eq_univ, harg7.set_eq_univ, harg8.set_eq_univ, harg9.set_eq_univ, harg10.set_eq_univ, harg11.set_eq_univ]
  iintro ⟨⟨%f0, %hf0, H0⟩, ⟨%f3, %hf3, H3⟩, ⟨%f4, %hf4, H4⟩, ⟨%d5, %f5, -, H5⟩, ⟨%d9, %f9, -, H9⟩, ⟨%f10, %hf10, H10⟩, ⟨%f11, %hf11, H11⟩, HK⟩
  obtain rfl := harg3.eq_unread hf0; obtain rfl := harg6.eq_unread hf3; obtain rfl := harg7.eq_unread hf4; obtain rfl := harg10.eq_unread hf10; obtain rfl := harg11.eq_unread hf11
  have c3 : ∀ (inb : _), View.readAt (Elt F) arg3.view (Rect.unit (s := S512x128) ![0, 0] S512x128.size inb).toLoadRect (harg3.unread x0) = x0 := fun inb => ld_whole harg3 x0 inb
  have c6 : ∀ (inb : _), View.readAt (Elt F) arg6.view (Rect.unit (s := S1x1x512x2) ![0, 0, 0, 0] S1x1x512x2.size inb).toLoadRect (harg6.unread x3) = x3 := fun inb => ld_whole harg6 x3 inb
  have c10 : ∀ (inb : _), View.readAt (Elt F) arg10.view (Rect.unit (s := S8x128x512) (k0_off15 i) S1x128x512.size inb).toLoadRect (harg10.unread kt) = ktb kt (qb i) :=
    fun inb => ld_kt harg10 kt inb (off15 i) hq
  have d0 : ∀ (inb : _), View.readAt (Elt F) arg7.view (Rect.unit (s := S1x1x2x4096) (k0_off16 i 0#32) S1x1x1x256.size inb).toLoadRect (harg7.unread x4) = frb x4 0 (512 * qb i) :=
    fun inb => ld_fr harg7 x4 0 inb (off16_0 i) (by omega)
  have d1 : ∀ (inb : _), View.readAt (Elt F) arg7.view (Rect.unit (s := S1x1x2x4096) (k0_off16 i 256#32) S1x1x1x256.size inb).toLoadRect (harg7.unread x4) = frb x4 0 (512 * qb i + 256) :=
    fun inb => ld_fr harg7 x4 0 inb (off16_1 i) (by omega)
  have d2 : ∀ (inb : _), View.readAt (Elt F) arg7.view (Rect.unit (s := S1x1x2x4096) (k0_off19 i 0#32) S1x1x1x256.size inb).toLoadRect (harg7.unread x4) = frb x4 1 (512 * qb i) :=
    fun inb => ld_fr harg7 x4 1 inb (off19_0 i) (by omega)
  have d3 : ∀ (inb : _), View.readAt (Elt F) arg7.view (Rect.unit (s := S1x1x2x4096) (k0_off19 i 256#32) S1x1x1x256.size inb).toLoadRect (harg7.unread x4) = frb x4 1 (512 * qb i + 256) :=
    fun inb => ld_fr harg7 x4 1 inb (off19_1 i) (by omega)
  sl_exec (disch := first | sl_exact hc0)
  sl_for (inv1 c i arg7 harg7 arg9 arg10 harg10 x0 x3 x4 kt) $$ [H4 H9 H10]
  case region => intro k a; exact trip1 c i arg3 harg3 arg4 harg4 arg5 harg5 arg6 harg6 arg7 harg7 arg8 harg8 arg9 harg9 arg10 harg10 arg11 harg11 x0 x3 x4 kt k a E
  · unfold inv1
    isplitl [H10]; · iexact H10
    isplitl [H4]; · iexact H4
    isplitl
    · iexists f9
      isplitl; · iexact H9
      ipureintro
      intro y hy; exact absurd hy (Nat.not_lt_zero _)
    · ipureintro; rfl
  iintro %a HI
  rw [show Scf.trips (k0_t1_loop i).lb (k0_t1_loop i).ub (k0_t1_loop i).st = qb i from trips1 i]
  unfold inv1
  icases HI with ⟨H10, H4, ⟨%g, H9, %hg⟩, %ha⟩
  subst ha
  sl_exec
  sl_for (fun (_ : ℕ) (a : FVec F S512x1 .f32 × FVec F S512x1 .f32) => (iprop(⌜a = mx x0 x3 x4 kt (qb i)⌝) : sProp 𝕄)) $$ []
  case region => intro k a; exact absurd (lt_of_lt_of_eq k.isLt (trips2 i)) (Nat.not_lt_zero _)
  · ipureintro; rfl
  iintro %a %ha
  subst ha
  sl_exec
  sl_for (inv3 c i arg9 x0 x3 x4 kt) $$ [H9]
  case region => intro k a; exact trip3 c i arg3 harg3 arg4 harg4 arg5 harg5 arg6 harg6 arg7 harg7 arg8 harg8 arg9 harg9 arg10 harg10 arg11 harg11 x0 x3 x4 kt k a E (BitVec.ofNat 32 (i 2).val)
  · unfold inv3
    isplitl
    · iexists _
      isplitl; · iexact H9
      ipureintro
      intro y hy
      refine (rd_four (F := F) arg9.view g _ _ _ _ _ _ _ _ y (off17 i) (off18 i) (off20 i) (off21 i)).trans ?_
      rw [if_neg (Nat.not_lt_zero _)]
      by_cases e : (y 1).val = qb i
      · rw [if_pos e]
        unfold scAll s0 s1
        rw [e, if_neg (Nat.lt_irrefl _), if_neg (Nat.lt_irrefl _)]
        rfl
      · rw [if_neg e]
        exact hg y (by omega)
    · ipureintro; rfl
  iintro %a HI
  rw [show Scf.trips (k0_t3_loop i).lb (k0_t3_loop i).ub (k0_t3_loop i).st = qb i + 1 from trips3 i]
  unfold inv3
  icases HI with ⟨⟨%g3, H9, %hg3⟩, %ha⟩
  subst ha
  sl_exec
  sl_for (fun (_ : ℕ) (a : FVec F S512x1 .f32 × FVec F S512x1 .f32) => (iprop(⌜a = ls x0 x3 x4 kt (qb i) (qb i + 1)⌝) : sProp 𝕄)) $$ []
  case region => intro k a; exact absurd (lt_of_lt_of_eq k.isLt (trips4 i)) (Nat.not_lt_zero _)
  · ipureintro; rfl
  iintro %a %ha
  subst ha
  sl_exec
  sl_for (inv5 c i arg9 arg11 harg11 x0 x3 x4 kt vb) $$ [H9 H11]
  case region => intro k a; exact trip5 c i arg3 harg3 arg4 harg4 arg5 harg5 arg6 harg6 arg7 harg7 arg8 harg8 arg9 harg9 arg10 harg10 arg11 harg11 x0 x3 x4 kt vb k a E (BitVec.ofNat 32 (i 2).val) (m0 x0 x3 x4 kt (qb i)) (m1 x0 x3 x4 kt (qb i)) (dg1 x0 x3 x4 kt (qb i)) k0_pay52
  · unfold inv5
    isplitl [H11]; · iexact H11
    isplitl
    · iexists g3
      isplitl; · iexact H9
      ipureintro
      intro y hy
      rw [hg3 y hy, if_pos (by omega)]
    · ipureintro; rfl
  iintro %a HI
  rw [show Scf.trips (k0_t5_loop i).lb (k0_t5_loop i).ub (k0_t5_loop i).st = qb i + 1 from trips5 i]
  unfold inv5
  icases HI with ⟨H11, ⟨%g5, H9, %hg5⟩, %ha⟩
  subst ha
  sl_exec
  sl_for (fun (_ : ℕ) (a : FVec F S512x128 .f32 × FVec F S512x128 .f32) => (iprop(⌜a = acc x0 x3 x4 kt vb (qb i) (qb i + 1)⌝) : sProp 𝕄)) $$ []
  case region => intro k a; exact absurd (lt_of_lt_of_eq k.isLt (trips6 i)) (Nat.not_lt_zero _)
  · ipureintro; rfl
  iintro %a %ha
  subst ha
  sl_exec
  sl_step
  iapply HK
  isplitl [H0]
  · iexists _; isplitr; · ipureintro; exact hf0
    iexact H0
  isplitl [H3]
  · iexists _; isplitr; · ipureintro; exact hf3
    iexact H3
  isplitl [H4]
  · iexists _; isplitr; · ipureintro; exact hf4
    iexact H4
  isplitl [H5]
  · iexists _; isplitr
    · ipureintro; refine (View.read_writes_full arg8.view f5 inb_S512x128_S512x128_0_0 (outBlk x0 x3 x4 kt vb (qb i)) [])
    iexact H5
  isplitl [H9]
  · iexists _; iexists g5; isplitr; · ipureintro; rfl
    iexact H9
  isplitl [H10]
  · iexists _; isplitr; · ipureintro; exact hf10
    iexact H10
  · iexists _; isplitr; · ipureintro; exact hf11
    iexact H11
end Cert.KernelIdeal.Att
end
-- ==== Proof.PI.Launch.lean ====
/-
  The launch of the attention: what every buffer holds after each grid point, the body at a generic point, the run and
  the frame.
-/
module

public import proofs.«01_k».proof.Proof.Gen.KernelIdeal.Frame
public import proofs.«01_k».proof.Proof.PI.BodyA
public import proofs.«01_k».proof.Proof.PI.BodyB
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Points and buffers -/

/-- The three scratch buffers, whole. -/
abbrev sS : Memref sig .tc .vmem S2x8x512x512 .f32 := Memref.whole cc0_scratch0
abbrev sK : Memref sig .tc .vmem S8x128x512 .bf16 := Memref.whole cc0_scratch1
abbrev sV : Memref sig .tc .vmem S4096x128 .bf16 := Memref.whole cc0_scratch2

/-- The scoped rest before the region: the three scratch buffers at anything, the generator at some state. -/
theorem phiA_eq (c : Dev nD) :
    (Pipeline.ΦA spec0 c : sProp 𝕄)
      = iprop(iprop((∃ d, owns (c : Thread nD τ) sS fullShare d) ∗ (∃ d, owns (c : Thread nD τ) sK fullShare d)
        ∗ (∃ d, owns (c : Thread nD τ) sV fullShare d)) ∗ (∃ r, prngReg c r)) := by
  unfold Pipeline.ΦA; rw [scopedRest0_eq]; simp only [sS, sK, sV, owns_whole]; try rfl

/-- The query block of a point is its position in its row of eight. -/
theorem coords2 (t : Fin cfg0.N) : (grid0.coords t 2).val = t.val % 8 := by
  have e2 : (grid0.coords t 2).val = t.val / 1 % 8 := Pipeline.Grid.coords_val t 2 (by decide) rfl
  rw [e2, Nat.div_one]

/-- The body's condition holds exactly at the first point of a row. -/
theorem cond_iff (t : Fin cfg0.N) :
    (Scalar.cmpi .ne (Scalar.extui (Scalar.cmpi .eq (BitVec.ofNat 32 (grid0.coords t 2).val) 0#32)) 0#32) = 1#1
      ↔ t.val % 8 = 0 := by
  have ht : t.val < 128 := Nat.lt_of_lt_of_eq t.isLt N_0
  rw [coords2]
  word_cmp

/-- The first point of the row of position `n`. -/
def row (n : ℕ) (hn : n < cfg0.N) : Fin cfg0.N := ⟨8 * (n / 8), lt_of_le_of_lt (Nat.mul_div_le n 8) hn⟩

theorem row_self (t : Fin cfg0.N) (h : t.val % 8 = 0) : row t.val t.isLt = t :=
  Fin.ext (show 8 * (t.val / 8) = t.val by omega)

theorem row_prev (t : Fin cfg0.N) (h : ¬ t.val % 8 = 0) (h' : t.val - 1 < cfg0.N) :
    row (t.val - 1) h' = row t.val t.isLt :=
  Fin.ext (show 8 * ((t.val - 1) / 8) = 8 * (t.val / 8) by omega)

/-- The transposed keys and the rounded values carried through the row of position `n`. -/
def ktAt (c : Dev nD) (n : ℕ) (hn : n < cfg0.N) : Vec F S8x128x512 .bf16 := ktOf (X0_1 m c (row n hn))
def vbAt (c : Dev nD) (n : ℕ) (hn : n < cfg0.N) : Vec F S4096x128 .bf16 := k0_pay21 (X0_2 m c (row n hn))

/-- The output block after point `t`. -/
def outAt (c : Dev nD) (t : Fin cfg0.N) : Vec F S512x128 .f32 :=
  outBlk (X0_0 m c t) (iblk m c 3 t) (iblk m c 4 t) (ktAt m c t.val t.isLt) (vbAt m c t.val t.isLt) (qb (grid0.coords t))

/-! ## The invariant and the proof data -/

/-- What is held after position `n`: the score scratch at anything, the keys and values of the row, the generator. -/
def PhiN (c : Dev nD) (n : ℕ) (hn : n < cfg0.N) : sProp 𝕄 :=
  iprop(iprop((∃ d, owns (c : Thread nD τ) sS fullShare d) ∗ owns (c : Thread nD τ) sK fullShare (ktAt m c n hn)
        ∗ owns (c : Thread nD τ) sV fullShare (vbAt m c n hn)) ∗ (∃ r, prngReg c r))

/-- The region's invariant before position `n`. -/
def PhiS (c : Dev nD) : (n : ℕ) → n ≤ cfg0.N → sProp 𝕄
  | 0, _ => Pipeline.ΦA spec0 c
  | n + 1, hn => PhiN m c n hn

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = PhiN m c n hn := rfl

theorem PhiS_pos (c : Dev nD) (n : ℕ) (h : n ≤ cfg0.N) (hz : n ≠ 0) :
    PhiS m c n h = PhiN m c (n - 1) (by omega) := by
  cases n with
  | zero => exact absurd rfl hz
  | succ n => rfl

/-- The invariant always gives back the scratch buffers at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ m c n h, phiA_eq]; unfold PhiN
    iintro ⟨⟨HS, HK, HV⟩, Hg⟩
    isplitl [HS HK HV]
    · isplitl [HS]; · iexact HS
      isplitl [HK]; · iexists _; iexact HK
      iexists _; iexact HV
    iexact Hg

/-- The proof data: the arrays as the region finds them; each input's buffer keeps its block, the output's ends at `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
/-- The body at any point: at the first point of a row it refills the keys and values, elsewhere it finds those of the row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc m c t]
  unfold outAt PhiN
  by_cases h0 : t.val % 8 = 0
  · have ek : ktAt m c t.val t.isLt = ktOf (X0_1 m c t) := by unfold ktAt; rw [row_self t h0]
    have ev : vbAt m c t.val t.isLt = k0_pay21 (X0_2 m c t) := by unfold vbAt; rw [row_self t h0]
    rw [ek, ev]
    refine (BIClass.sep_mono (PhiS_any m c t.val (Nat.le_of_lt t.isLt)) (Idealize.SL.BI.Entails.refl _)).trans ?_
    rw [phiA_eq]
    iintro ⟨⟨⟨HS, HK, HV⟩, Hg⟩, Ho, ⟨%d0, H0⟩, ⟨%d1, H1⟩, ⟨%d2, H2⟩, ⟨%d3, H3⟩, ⟨%d4, H4⟩, ⟨%d5, H5⟩⟩
    iapply (bodyA c (grid0.coords t) _ _ _ _ _ _ _ _ _ _ _ _ sS (Memref.isWhole_whole _) sK (Memref.isWhole_whole _) sV (Memref.isWhole_whole _) ((cond_iff t).mpr h0) (X0_0 m c t) (X0_1 m c t) (X0_2 m c t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    isplitl [HK]; · iexact HK
    isplitl [HV]; · iexact HV
    iintro ⟨H0, H1, H2, H3, H4, H5, HS, HK, HV⟩
    isplitl [HS HK HV Hg]
    · isplitl [HS HK HV]
      · isplitl [HS]; · iexact HS
        isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have ek : ∀ h, ktAt m c (t.val - 1) h = ktAt m c t.val t.isLt := fun h => by unfold ktAt; rw [row_prev t h0]
    have ev : ∀ h, vbAt m c (t.val - 1) h = vbAt m c t.val t.isLt := fun h => by unfold vbAt; rw [row_prev t h0]
    rw [PhiS_pos m c _ _ hz]; unfold PhiN
    rw [ek, ev]
    iintro ⟨⟨⟨HS, HK, HV⟩, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ sS (Memref.isWhole_whole _) sK (Memref.isWhole_whole _) sV (Memref.isWhole_whole _) (fun h => h0 ((cond_iff t).mp h)) (X0_0 m c t) (iblk m c 3 t) (iblk m c 4 t) (ktAt m c t.val t.isLt) (vbAt m c t.val t.isLt) Set.univ _)
    isplitl [H0]; · iexact H0
    isplitl [H3]; · iexact H3
    isplitl [H4]; · iexact H4
    isplitl [H5]; · iexists _; iexact H5
    isplitl [HS]; · iexact HS
    isplitl [HK]; · iexact HK
    isplitl [HV]; · iexact HV
    iintro ⟨H0, H3, H4, H5, HS, HK, HV⟩
    isplitl [HS HK HV Hg]
    · isplitl [HS HK HV]
      · isplitl [HS]; · iexact HS
        isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
/-- Every execution ends with the arrays at what the proof data gives and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Att

end
-- ==== Proof.Q.Spec.lean ====
/-
  What one grid point of the prompt group's recurrence computes, as a pure function of the block of rows, of what the
  points before it left behind (the last eight rows and the state) and of the weights.
-/
module

public import proofs.«01_k».proof.Proof.Gen.RecPIdeal.Frame
public import proofs.«01_k».proof.Proof.Gen.RecPIdeal.Loops
public import Idealize.ShloMosaic.Lib.VecWindow
public import Idealize.ShloMosaic.Lib.WritesUnit
public import Idealize.ShloMosaic.Lib.WholeRead

@[expose] public section

set_option maxRecDepth 16384

noncomputable section

namespace Cert.RecPIdeal.Seq

open Cert.RecPIdeal Cert.RecPIdeal.Gen Idealize.ShloMosaic Idealize.ShloMosaic.TcCoe

variable {F : FTy → Type} [FloatOps F]

/-- The index of a rank-2 buffer with the given coordinates. -/
abbrev i2 {a b : ℕ} (x : Fin a) (y : Fin b) : (⟨2, ![a, b]⟩ : Shape).Idx := fun
  | ⟨0, _⟩ => x | ⟨1, _⟩ => y

/-- The row buffer: eight carried rows, then the block's. -/
def xb (cx : Vec F S8x512 .f32) (x : Vec F S512x512 .f32) : Vec F S520x512 .f32 := fun j =>
  if h : (j 0).val < 8 then cx (i2 ⟨(j 0).val, h⟩ (j 1))
  else x (i2 ⟨(j 0).val - 8, by have h0 : (j 0).val < 520 := (j 0).isLt; omega⟩ (j 1))
/-- The 512 rows of the row buffer that start at row `o`. -/
def win (o : ℕ) (b : Vec F S520x512 .f32) : Vec F S512x512 .f32 := fun j =>
  b (i2 ⟨(o + (j 0).val) % 520, by omega⟩ (j 1))
/-- The filter's coefficients of one distance. -/
def tap (n : Fin 4) (w : Vec F S4x512 .f32) : Vec F S1x512 .f32 := fun j => w (i2 n (j 1))
/-- A block's last eight rows. -/
def tail (x : Vec F S512x512 .f32) : Vec F S8x512 .f32 := fun j =>
  x (i2 ⟨(504 + (j 0).val) % 512, by omega⟩ (j 1))
/-- The eight rows before a sequence: five of zeros and the three carried ones. -/
def first (s : Vec F S1x3x512 .f32) : Vec F S8x512 .f32 := fun j =>
  if h : (j 0).val < 5 then k0_pay15 j
  else k0_pay16 s (i2 ⟨(j 0).val - 5, by have h0 : (j 0).val < 8 := (j 0).isLt; omega⟩ (j 1))
/-- Group `k` of eight rows. -/
def grp (k : ℕ) (v : Vec F S512x512 .f32) : Vec F S8x512 .f32 := fun j =>
  v (i2 ⟨(8 * k + (j 0).val) % 512, by omega⟩ (j 1))

section
variable (cx : Vec F S8x512 .f32) (x : Vec F S512x512 .f32) (cw : Vec F S4x512 .f32) (cb : Vec F S1x512 .f32)
  (wg : Vec F S512x1024 .bf16) (bg : Vec F S1x1024 .f32) (lam : Vec F S1x512 .f32)

/-- The filtered rows. -/
def xc : FVec F S512x512 .f32 :=
  k0_pay19 x cb (win 5 (xb cx x)) (tap 0 cw) (win 6 (xb cx x)) (tap 1 cw) (win 7 (xb cx x)) (tap 2 cw) (tap 3 cw)
/-- The decays. -/
def ab : FVec F S512x512 .f32 := k0_pay25 (xc cx x cw cb) wg bg lam
/-- The increments. -/
def bb : FVec F S512x512 .f32 :=
  k0_pay1 (xc cx x cw cb) (k0_pay22 (xc cx x cw cb) wg bg) (k0_pay26 (xc cx x cw cb) wg bg lam)
end

/-- The state after `k` groups of eight rows. -/
def hs (a b : Vec F S512x512 .f32) (h : Vec F S1x512 .f32) : ℕ → Vec F S1x512 .f32
  | 0 => h
  | k + 1 => k0_pay9 (hs a b h k) (grp k a) (grp k b)
/-- The states of all rows. -/
def hb (a b : Vec F S512x512 .f32) (h : Vec F S1x512 .f32) : Vec F S512x512 .f32 := fun j =>
  k0_pay10 (hs a b h ((j 0).val / 8)) (grp ((j 0).val / 8) a) (grp ((j 0).val / 8) b) (i2 ⟨(j 0).val % 8, by omega⟩ (j 1))

end Cert.RecPIdeal.Seq

end
-- ==== Proof.Q.Reads.lean ====
/-
  The row buffer of one grid point of the prompt group's recurrence: what its stores leave in it and what its loads read.
-/
module

public import proofs.«01_k».proof.Proof.Q.Spec
public import Idealize.ShloMosaic.Lib.Pointwise

@[expose] public section

set_option maxRecDepth 16384

noncomputable section

namespace Cert.RecPIdeal.Seq

open Cert.RecPIdeal Cert.RecPIdeal.Gen
open Idealize.ShloMosaic Idealize.ShloMosaic.TcCoe

variable {F : FTy → Type} [FloatOps F] {κ : Kind} {sp : Space}

/-- A store of `n` rows at row `o` of the row buffer, read back at an index. -/
theorem rd_rows (v : View sig κ sp S520x512 .f32) (f : v.ty.Contents (Elt F)) {o n : ℕ}
    (inb : ∀ a, (![o, 0] : Fin 2 → ℕ) a + (⟨2, ![n, 512]⟩ : Shape).size a ≤ S520x512.size a)
    (w : Vec F ⟨2, ![n, 512]⟩ .f32) (L : List (View.Piece (Elt F) S520x512 .f32)) (y : S520x512.Idx) :
    v.read (Elt F) (v.writes (Elt F) f ((⟨Rect.unit (s := S520x512) ![o, 0] (⟨2, ![n, 512]⟩ : Shape).size inb, w⟩ : View.Piece (Elt F) S520x512 .f32) :: L)) y
      = if h : o ≤ (y 0).val ∧ (y 0).val < o + n then w (i2 ⟨(y 0).val - o, by omega⟩ (y 1)) else v.read (Elt F) (v.writes (Elt F) f L) y := by
  split
  · next h =>
    refine View.read_writes_cons_unit_of_mem v f inb w L y (i2 ⟨(y 0).val - o, by omega⟩ (y 1)) rfl fun a => ?_
    fin_cases a
    · show (y 0).val = o + ((y 0).val - o)
      omega
    · show (y 1).val = 0 + (y 1).val
      omega
  · next h =>
    refine View.read_writes_cons_unit_of_not_mem v f inb w L y rfl (0 : Fin 2) ?_
    show (y 0).val < o ∨ o + n ≤ (y 0).val
    omega

/-- At a sequence's first block: zeros, the carried rows, the block. -/
theorem rd_first (v : View sig κ sp S520x512 .f32) (f : v.ty.Contents (Elt F)) (s : Vec F S1x3x512 .f32) (x : Vec F S512x512 .f32) :
    v.read (Elt F) (v.writes (Elt F) f [(⟨Rect.unit (s := S520x512) ![8, 0] S512x512.size inb_S520x512_S512x512_8_0, k0_pay18 x⟩ : View.Piece (Elt F) S520x512 .f32),
        ⟨Rect.unit (s := S520x512) ![5, 0] S3x512.size inb_S520x512_S3x512_5_0, k0_pay16 s⟩,
        ⟨Rect.unit (s := S520x512) ![0, 0] S8x512.size inb_S520x512_S8x512_0_0, k0_pay15⟩]) = xb (first s) x := by
  funext y
  have hy : (y 0).val < 520 := (y 0).isLt
  unfold xb first
  refine (rd_rows v f (n := 512) inb_S520x512_S512x512_8_0 (k0_pay18 x) _ y).trans ?_
  split
  · next h =>
    rw [dif_neg (by omega)]
    unfold k0_pay18
    simp only [shapeCast_id]
  · next h =>
    rw [dif_pos (by omega)]
    refine (rd_rows v f (n := 3) inb_S520x512_S3x512_5_0 (k0_pay16 s) _ y).trans ?_
    split
    · next h5 =>
      rw [dif_neg (by show ¬ (y 0).val < 5; omega)]
    · next h5 =>
      rw [dif_pos (by show (y 0).val < 5; omega)]
      refine (rd_rows v f (n := 8) inb_S520x512_S8x512_0_0 (k0_pay15 (F := F)) _ y).trans ?_
      rw [dif_pos (by omega)]
      rfl

/-- At a later block: the carried rows, then the block. -/
theorem rd_next {m : Memref sig κ sp S520x512 .f32} (h : m.IsWhole) (cx : Vec F S8x512 .f32) (x' x : Vec F S512x512 .f32) :
    m.view.read (Elt F) (m.view.writes (Elt F) (h.unread (xb cx x')) [(⟨Rect.unit (s := S520x512) ![8, 0] S512x512.size inb_S520x512_S512x512_8_0, k0_pay18 x⟩ : View.Piece (Elt F) S520x512 .f32)]) = xb cx x := by
  funext y
  have hy : (y 0).val < 520 := (y 0).isLt
  refine (rd_rows m.view _ (n := 512) inb_S520x512_S512x512_8_0 (k0_pay18 x) _ y).trans ?_
  split
  · next e =>
    unfold xb
    rw [dif_neg (by omega)]
    unfold k0_pay18
    simp only [shapeCast_id]
  · next e =>
    refine (congrFun (h.read_unread (xb cx x')) y).trans ?_
    unfold xb
    rw [dif_pos (by omega), dif_pos (by omega)]

/-- After the point: the block's last eight rows, then the block. -/
theorem rd_last (v : View sig κ sp S520x512 .f32) (f : v.ty.Contents (Elt F)) (x : Vec F S512x512 .f32)
    (L : List (View.Piece (Elt F) S520x512 .f32)) :
    v.read (Elt F) (v.writes (Elt F) f ((⟨Rect.unit (s := S520x512) ![0, 0] S8x512.size inb_S520x512_S8x512_0_0, k0_pay20 (tail x)⟩ : View.Piece (Elt F) S520x512 .f32)
        :: ⟨Rect.unit (s := S520x512) ![8, 0] S512x512.size inb_S520x512_S512x512_8_0, k0_pay18 x⟩ :: L)) = xb (tail x) x := by
  funext y
  have hy : (y 0).val < 520 := (y 0).isLt
  unfold xb
  refine (rd_rows v f (n := 8) inb_S520x512_S8x512_0_0 (k0_pay20 (tail x)) _ y).trans ?_
  split
  · next e =>
    rw [dif_pos (by omega)]
    unfold k0_pay20
    simp only [shapeCast_id]
    rfl
  · next e =>
    rw [dif_neg (by omega)]
    refine (rd_rows v f (n := 512) inb_S520x512_S512x512_8_0 (k0_pay18 x) _ y).trans ?_
    rw [dif_pos (by omega)]
    unfold k0_pay18
    simp only [shapeCast_id]

/-- A load of 512 rows of the row buffer. -/
theorem ld_win {m : Memref sig κ sp S520x512 .f32} (h : m.IsWhole) (b : Vec F S520x512 .f32) (o : ℕ) (ho : o ≤ 8)
    (inb : ∀ a, (![o, 0] : Fin 2 → ℕ) a + S512x512.size a ≤ S520x512.size a) :
    m.view.readAt (Elt F) (Rect.unit (s := S520x512) ![o, 0] S512x512.size inb).toLoadRect (h.unread b) = win o b := by
  funext j
  refine (h.readAt_unread b _ j).trans (congrArg b (funext fun a => Fin.ext ?_))
  have h0 : (j 0).val < 512 := (j 0).isLt
  fin_cases a
  · show o + 1 * (j 0).val = (o + (j 0).val) % 520
    omega
  · show 0 + 1 * (j 1).val = (j 1).val
    omega

/-- A load of the row buffer's last eight rows, once the block is stored. -/
theorem ld_tail (v : View sig κ sp S520x512 .f32) (f : v.ty.Contents (Elt F)) (x : Vec F S512x512 .f32)
    (L : List (View.Piece (Elt F) S520x512 .f32))
    (inb : ∀ a, (![512, 0] : Fin 2 → ℕ) a + S8x512.size a ≤ S520x512.size a) :
    v.readAt (Elt F) (Rect.unit (s := S520x512) ![512, 0] S8x512.size inb).toLoadRect
      (v.writes (Elt F) f ((⟨Rect.unit (s := S520x512) ![8, 0] S512x512.size inb_S520x512_S512x512_8_0, k0_pay18 x⟩ : View.Piece (Elt F) S520x512 .f32) :: L)) = tail x := by
  funext j
  have h0 : (j 0).val < 8 := (j 0).isLt
  have e : ∀ k : S520x512.Idx, (k 0).val = 512 + (j 0).val → (k 1).val = (j 1).val →
      v.read (Elt F) (v.writes (Elt F) f ((⟨Rect.unit (s := S520x512) ![8, 0] S512x512.size inb_S520x512_S512x512_8_0, k0_pay18 x⟩ : View.Piece (Elt F) S520x512 .f32) :: L)) k = tail x j := by
    intro k hk hk1
    refine (rd_rows v f (n := 512) inb_S520x512_S512x512_8_0 (k0_pay18 x) _ k).trans ?_
    rw [dif_pos (by omega)]
    unfold k0_pay18
    simp only [shapeCast_id]
    refine congrArg x (funext fun a => Fin.ext ?_)
    fin_cases a
    · show (k 0).val - 8 = (504 + (j 0).val) % 512
      omega
    · exact hk1
  refine e ((Rect.unit (s := S520x512) ![512, 0] S8x512.size inb).toLoadRect.idx j) ?_ ?_
  · show 512 + 1 * (j 0).val = 512 + (j 0).val
    omega
  · show 0 + 1 * (j 1).val = (j 1).val
    omega

/-- A load of the carried state, once it is stored whole. -/
theorem ld_carry (v : View sig κ sp S1x512 .f32) (f : v.ty.Contents (Elt F)) (h : Vec F S1x512 .f32)
    (inb : ∀ a, (![0, 0] : Fin 2 → ℕ) a + S1x512.size a ≤ S1x512.size a) :
    v.readAt (Elt F) (Rect.unit (s := S1x512) ![0, 0] S1x512.size inb).toLoadRect
      (v.writes (Elt F) f [(⟨Rect.unit (s := S1x512) ![0, 0] S1x512.size inb_S1x512_S1x512_0_0, h⟩ : View.Piece (Elt F) S1x512 .f32)]) = h :=
  (View.readAt_full v _ inb).trans (View.read_writes_full v f inb_S1x512_S1x512_0_0 h [])

end Cert.RecPIdeal.Seq
end
-- ==== Proof.Q.Trip.lean ====
/-
  Reading the buffers of one grid point of the prompt group's recurrence, and one trip of its loop: it stores the states
  of eight rows and carries the last one.
-/
module

public import proofs.«01_k».proof.Proof.Q.Spec

@[expose] public section

set_option maxRecDepth 16384

noncomputable section

namespace Cert.RecPIdeal.Seq

open Cert.RecPIdeal Cert.RecPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop runs once per group of eight rows. -/
theorem trips : k0_t1_loop.trips = 64 := by decide +kernel

/-- A trip's first row. -/
theorem off1 (k : Fin k0_t1_loop.trips) : k0_off1 k = ![8 * k.val, 0] := by
  have h : k.val < 64 := lt_of_lt_of_eq k.isLt trips
  exact congrArg (fun n : ℕ => (![n, 0] : Fin 2 → ℕ))
    ((by decide +kernel : ∀ n : Fin 64, (Scalar.muli (Scf.iv 0#32 1#32 n.val : BitVec 32) 8#32).toNat = 8 * n.val) ⟨k.val, h⟩)

section
variable {κ : Kind} {sp : Space}

/-- A load of a whole buffer reads what the buffer holds. -/
theorem ld_whole {s : Shape} {e : EltTy} {m : Memref sig κ sp s e} (h : m.IsWhole) (x : Vec F s e) {off : Fin s.rank → ℕ}
    (inb : ∀ a, off a + s.size a ≤ s.size a) :
    m.view.readAt (Elt F) (Rect.unit off s.size inb).toLoadRect (h.unread x) = x :=
  (View.readAt_full m.view (h.unread x) inb).trans (h.read_unread x)

/-- A load of one group of eight rows. -/
theorem ld_grp {m : Memref sig κ sp S512x512 .f32} (h : m.IsWhole) (x : Vec F S512x512 .f32) {off : Fin 2 → ℕ} {k : ℕ}
    (inb : ∀ a, off a + S8x512.size a ≤ S512x512.size a) (ho : off = ![8 * k, 0]) (hk : k < 64) :
    m.view.readAt (Elt F) (Rect.unit (s := S512x512) off S8x512.size inb).toLoadRect (h.unread x) = grp k x := by
  subst ho
  funext j
  refine (h.readAt_unread x _ j).trans (congrArg x (funext fun a => Fin.ext ?_))
  have h0 : (j 0).val < 8 := (j 0).isLt
  fin_cases a
  · show 8 * k + 1 * (j 0).val = (8 * k + (j 0).val) % 512
    omega
  · show 0 + 1 * (j 1).val = (j 1).val
    omega

/-- A load of the filter's coefficients of one distance. -/
theorem ld_tap {m : Memref sig κ sp S4x512 .f32} (h : m.IsWhole) (x : Vec F S4x512 .f32) (n : Fin 4)
    (inb : ∀ a, (![n.val, 0] : Fin 2 → ℕ) a + S1x512.size a ≤ S4x512.size a) :
    m.view.readAt (Elt F) (Rect.unit (s := S4x512) ![n.val, 0] S1x512.size inb).toLoadRect (h.unread x) = tap n x := by
  funext j
  refine (h.readAt_unread x _ j).trans (congrArg x (funext fun a => Fin.ext ?_))
  have h0 : (j 0).val < 1 := (j 0).isLt
  fin_cases a
  · show n.val + 1 * (j 0).val = n.val
    omega
  · show 0 + 1 * (j 1).val = (j 1).val
    omega
end

section
variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S520x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole)
    (a b : Vec F S512x512 .f32) (h : Vec F S1x512 .f32)

/-- Before trip `k`: the groups before `k` hold their states, the carried value is the last one. -/
def inv (k : ℕ) (s : Vec F S1x512 .f32) : sProp 𝕄 :=
  iprop((arg15.view.loc (c : Thread nD τ) ↦{fullShare} harg15.unread a) ∗ (arg16.view.loc (c : Thread nD τ) ↦{fullShare} harg16.unread b)
    ∗ (∃ f, (arg17.view.loc (c : Thread nD τ) ↦{fullShare} f) ∗ ⌜∀ y : S512x512.Idx, (y 0).val < 8 * k → arg17.view.read (Elt F) f y = hb a b h y⌝)
    ∗ ⌜s = hs a b h k⌝)

set_option maxHeartbeats 1000000 in
/-- A trip of the loop keeps the invariant. -/
theorem trip (k : Fin k0_t1_loop.trips) (s : Vec F S1x512 .f32) (E : Set ℕ) :
    inv c arg15 harg15 arg16 harg16 arg17 a b h k.val s
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k s)
          (fun s' => inv c arg15 harg15 arg16 harg16 arg17 a b h (k.val + 1) s') := by
  unfold inv
  iintro ⟨H15, H16, ⟨%f, H17, %hf⟩, %hs⟩
  subst hs
  have hk : k.val < 64 := lt_of_lt_of_eq k.isLt trips
  have b15 : ∀ (inb : _), View.readAt (Elt F) arg15.view (Rect.unit (s := S512x512) (k0_off1 k) S8x512.size inb).toLoadRect (harg15.unread a) = grp k.val a :=
    fun inb => ld_grp harg15 a inb (off1 k) hk
  have b16 : ∀ (inb : _), View.readAt (Elt F) arg16.view (Rect.unit (s := S512x512) (k0_off1 k) S8x512.size inb).toLoadRect (harg16.unread b) = grp k.val b :=
    fun inb => ld_grp harg16 b inb (off1 k) hk
  unfold k0_t1_body
  sl_exec
  sl_step
  isplitl [H15]; · iexact H15
  isplitl [H16]; · iexact H16
  isplitl
  · iexists _
    isplitl
    · iexact H17
    · ipureintro
      intro y hy
      by_cases e : (y 0).val < 8 * k.val
      · refine (View.read_writes_cons_unit_of_not_mem arg17.view f _ _ _ y (off1 k) (0 : Fin 2) ?_).trans (hf y e)
        show (y 0).val < 8 * k.val ∨ 8 * k.val + 8 ≤ (y 0).val
        omega
      · have hd : (y 0).val / 8 = k.val := by omega
        refine (View.read_writes_cons_unit_of_mem arg17.view f _ _ _ y (i2 ⟨(y 0).val % 8, by omega⟩ (y 1)) (off1 k) ?_).trans ?_
        · intro a
          fin_cases a
          · show (y 0).val = 8 * k.val + (y 0).val % 8
            omega
          · show (y 1).val = 0 + (y 1).val
            omega
        · unfold hb
          rw [hd]
          rfl
  · ipureintro
    rfl
end
end Cert.RecPIdeal.Seq
end
-- ==== Proof.Q.BodyA.lean ====
/-
  The kernel body at the first block of a sequence.
-/
module

public import proofs.«01_k».proof.Proof.Q.Reads
public import proofs.«01_k».proof.Proof.Q.Trip

@[expose] public section

set_option maxRecDepth 16384

noncomputable section

namespace Cert.RecPIdeal.Seq

open Cert.RecPIdeal Cert.RecPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A store of the whole carried state, read back. -/
theorem rd_carry {κ : Kind} {sp : Space} (v : View sig κ sp S1x512 .f32) (f : v.ty.Contents (Elt F)) (w : Vec F S1x512 .f32)
    (L : List (View.Piece (Elt F) S1x512 .f32)) :
    v.read (Elt F) (v.writes (Elt F) f ((⟨Rect.unit (s := S1x512) ![0, 0] S1x512.size inb_S1x512_S1x512_0_0, w⟩ : View.Piece (Elt F) S1x512 .f32) :: L)) = w :=
  View.read_writes_full v f inb_S1x512_S1x512_0_0 w L

set_option maxHeartbeats 4000000 in
/-- At a sequence's first block the body fills the carried rows and the state from the two carried arrays. -/
theorem bodyA (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S520x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole)
    (hc0 : (Scalar.cmpi .ne (Scalar.extui (Scalar.cmpi .eq (BitVec.ofNat 32 (i 1).val) 0#32)) 0#32) = 1#1)
    (hc2 : ¬ k0_cond2 i = 1#1)
    (s : Vec F S1x3x512 .f32) (h0 : Vec F S1x1x512 .f32)
    (x g : Vec F S512x512 .f32) (cw : Vec F S4x512 .f32) (cb : Vec F S1x512 .f32) (wg : Vec F S512x1024 .bf16) (bg : Vec F S1x1024 .f32) (lam : Vec F S1x512 .f32)
    (E : Set ℕ) (K : PUnit → sProp 𝕄) :
    iprop(owns (c : Thread nD τ) arg2 fullShare x ∗ owns (c : Thread nD τ) arg3 fullShare g ∗ owns (c : Thread nD τ) arg4 fullShare s ∗ owns (c : Thread nD τ) arg5 fullShare h0 ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ (∃ d, owns (c : Thread nD τ) arg11 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg2 fullShare x ∗ owns (c : Thread nD τ) arg3 fullShare g ∗ owns (c : Thread nD τ) arg4 fullShare s ∗ owns (c : Thread nD τ) arg5 fullShare h0 ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ owns (c : Thread nD τ) arg11 fullShare (k0_pay12 (hb (ab (first s) x cw cb wg bg lam) (bb (first s) x cw cb wg bg lam) (k0_pay17 h0)) g) ∗ owns (c : Thread nD τ) arg14 fullShare (xb (tail x) x) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay11 (hs (ab (first s) x cw cb wg bg lam) (bb (first s) x cw cb wg bg lam) (k0_pay17 h0) 64))) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_eq_skeleton]; unfold cc0_rglru_skel
  simp only [k0_part1_eq_skeleton, k0_part2_eq_skeleton]; unfold k0_part1_skel k0_part2_skel
  unfold owns
  simp only [harg2.set_eq_univ, harg3.set_eq_univ, harg4.set_eq_univ, harg5.set_eq_univ, harg6.set_eq_univ, harg7.set_eq_univ, harg8.set_eq_univ, harg9.set_eq_univ, harg10.set_eq_univ, harg11.set_eq_univ, harg14.set_eq_univ, harg15.set_eq_univ, harg16.set_eq_univ, harg17.set_eq_univ, harg18.set_eq_univ]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d14, %f14, -, H14⟩, ⟨%d15, %f15, -, H15⟩, ⟨%d16, %f16, -, H16⟩, ⟨%d17, %f17, -, H17⟩, ⟨%d18, %f18, -, H18⟩, HK⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  have c2 : ∀ (inb : _), View.readAt (Elt F) arg2.view (Rect.unit (s := S512x512) ![0, 0] S512x512.size inb).toLoadRect (harg2.unread x) = x := fun inb => ld_whole harg2 x inb
  have c3 : ∀ (inb : _), View.readAt (Elt F) arg3.view (Rect.unit (s := S512x512) ![0, 0] S512x512.size inb).toLoadRect (harg3.unread g) = g := fun inb => ld_whole harg3 g inb
  have c4 : ∀ (inb : _), View.readAt (Elt F) arg4.view (Rect.unit (s := S1x3x512) ![0, 0, 0] S1x3x512.size inb).toLoadRect (harg4.unread s) = s := fun inb => ld_whole harg4 s inb
  have c5 : ∀ (inb : _), View.readAt (Elt F) arg5.view (Rect.unit (s := S1x1x512) ![0, 0, 0] S1x1x512.size inb).toLoadRect (harg5.unread h0) = h0 := fun inb => ld_whole harg5 h0 inb
  have c7 : ∀ (inb : _), View.readAt (Elt F) arg7.view (Rect.unit (s := S1x512) ![0, 0] S1x512.size inb).toLoadRect (harg7.unread cb) = cb := fun inb => ld_whole harg7 cb inb
  have c8 : ∀ (inb : _), View.readAt (Elt F) arg8.view (Rect.unit (s := S512x1024) ![0, 0] S512x1024.size inb).toLoadRect (harg8.unread wg) = wg := fun inb => ld_whole harg8 wg inb
  have c9 : ∀ (inb : _), View.readAt (Elt F) arg9.view (Rect.unit (s := S1x1024) ![0, 0] S1x1024.size inb).toLoadRect (harg9.unread bg) = bg := fun inb => ld_whole harg9 bg inb
  have c10 : ∀ (inb : _), View.readAt (Elt F) arg10.view (Rect.unit (s := S1x512) ![0, 0] S1x512.size inb).toLoadRect (harg10.unread lam) = lam := fun inb => ld_whole harg10 lam inb
  have c6_0 : ∀ (inb : _), View.readAt (Elt F) arg6.view (Rect.unit (s := S4x512) ![0, 0] S1x512.size inb).toLoadRect (harg6.unread cw) = tap 0 cw := fun inb => ld_tap harg6 cw 0 inb
  have c6_1 : ∀ (inb : _), View.readAt (Elt F) arg6.view (Rect.unit (s := S4x512) ![1, 0] S1x512.size inb).toLoadRect (harg6.unread cw) = tap 1 cw := fun inb => ld_tap harg6 cw 1 inb
  have c6_2 : ∀ (inb : _), View.readAt (Elt F) arg6.view (Rect.unit (s := S4x512) ![2, 0] S1x512.size inb).toLoadRect (harg6.unread cw) = tap 2 cw := fun inb => ld_tap harg6 cw 2 inb
  have c6_3 : ∀ (inb : _), View.readAt (Elt F) arg6.view (Rect.unit (s := S4x512) ![3, 0] S1x512.size inb).toLoadRect (harg6.unread cw) = tap 3 cw := fun inb => ld_tap harg6 cw 3 inb
  sl_exec (disch := first | sl_exact hc0 | sl_exact hc2)
  have e1 : ∀ f, arg14.view.writes (Elt F) f (bodyA.sl.H14_3 s x) = harg14.unread (xb (first s) x) := fun f => by
    delta bodyA.sl.H14_3
    exact harg14.eq_unread (rd_first arg14.view f s x)
  have e14 : arg14.view.writes (Elt F) arg14.view.junk (bodyA.sl.H14_4 i arg14 s x cw cb) = harg14.unread (xb (tail x) x) := by
    refine harg14.eq_unread ?_
    delta bodyA.sl.H14_4 bodyA.sl.v29 bodyA.sl.H14_3
    have et := ld_tail arg14.view arg14.view.junk x [⟨Rect.unit (s := S520x512) ![5, 0] S3x512.size inb_S520x512_S3x512_5_0, k0_pay16 s⟩, ⟨Rect.unit (s := S520x512) ![0, 0] S8x512.size inb_S520x512_S8x512_0_0, k0_pay15⟩] inb_S520x512_S8x512_512_0
    refine Eq.trans ?_ (rd_last arg14.view arg14.view.junk x [⟨Rect.unit (s := S520x512) ![5, 0] S3x512.size inb_S520x512_S3x512_5_0, k0_pay16 s⟩, ⟨Rect.unit (s := S520x512) ![0, 0] S8x512.size inb_S520x512_S8x512_0_0, k0_pay15⟩])
    exact congrArg (fun t => arg14.view.read (Elt F) (arg14.view.writes (Elt F) arg14.view.junk ((⟨Rect.unit (s := S520x512) ![0, 0] S8x512.size inb_S520x512_S8x512_0_0, k0_pay20 t⟩ : View.Piece (Elt F) S520x512 .f32)
        :: ⟨Rect.unit (s := S520x512) ![8, 0] S512x512.size inb_S520x512_S512x512_8_0, k0_pay18 x⟩ :: [⟨Rect.unit (s := S520x512) ![5, 0] S3x512.size inb_S520x512_S3x512_5_0, k0_pay16 s⟩, ⟨Rect.unit (s := S520x512) ![0, 0] S8x512.size inb_S520x512_S8x512_0_0, k0_pay15⟩]))) et
  have w5 : arg14.view.readCov (bodyA.sl.H14_3 s x) (Rect.unit (s := S520x512) ![5, 0] S512x512.size inb_S520x512_S512x512_5_0).toLoadRect = win 5 (xb (first s) x) :=
    (congrArg (fun f => arg14.view.readAt (Elt F) (Rect.unit (s := S520x512) ![5, 0] S512x512.size inb_S520x512_S512x512_5_0).toLoadRect f) (e1 arg14.view.junk)).trans (ld_win harg14 (xb (first s) x) 5 (by omega) inb_S520x512_S512x512_5_0)
  have w6 : arg14.view.readCov (bodyA.sl.H14_3 s x) (Rect.unit (s := S520x512) ![6, 0] S512x512.size inb_S520x512_S512x512_6_0).toLoadRect = win 6 (xb (first s) x) :=
    (congrArg (fun f => arg14.view.readAt (Elt F) (Rect.unit (s := S520x512) ![6, 0] S512x512.size inb_S520x512_S512x512_6_0).toLoadRect f) (e1 arg14.view.junk)).trans (ld_win harg14 (xb (first s) x) 6 (by omega) inb_S520x512_S512x512_6_0)
  have w7 : arg14.view.readCov (bodyA.sl.H14_3 s x) (Rect.unit (s := S520x512) ![7, 0] S512x512.size inb_S520x512_S512x512_7_0).toLoadRect = win 7 (xb (first s) x) :=
    (congrArg (fun f => arg14.view.readAt (Elt F) (Rect.unit (s := S520x512) ![7, 0] S512x512.size inb_S520x512_S512x512_7_0).toLoadRect f) (e1 arg14.view.junk)).trans (ld_win harg14 (xb (first s) x) 7 (by omega) inb_S520x512_S512x512_7_0)
  have e15 : arg15.view.writes (Elt F) arg15.view.junk (bodyA.sl.H15_1 i arg14 s x cw cb wg bg lam) = harg15.unread (ab (first s) x cw cb wg bg lam) := by
    refine harg15.eq_unread ?_
    delta bodyA.sl.H15_1
    refine (View.read_writes_full arg15.view _ inb_S512x512_S512x512_0_0 _ []).trans ?_
    unfold ab xc
    delta bodyA.sl.v9 bodyA.sl.v15 bodyA.sl.v20
    rw [← w5, ← w6, ← w7]
  have e16 : arg16.view.writes (Elt F) arg16.view.junk (bodyA.sl.H16_1 i arg14 s x cw cb wg bg lam) = harg16.unread (bb (first s) x cw cb wg bg lam) := by
    refine harg16.eq_unread ?_
    delta bodyA.sl.H16_1
    refine (View.read_writes_full arg16.view _ inb_S512x512_S512x512_0_0 _ []).trans ?_
    unfold bb xc
    delta bodyA.sl.v9 bodyA.sl.v15 bodyA.sl.v20
    rw [← w5, ← w6, ← w7]
  rw [e14, e15, e16]
  sl_for (inv c arg15 harg15 arg16 harg16 arg17 (ab (first s) x cw cb wg bg lam) (bb (first s) x cw cb wg bg lam) (k0_pay17 h0)) $$ [H15 H16 H17]
  case region => intro k a; exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (ab (first s) x cw cb wg bg lam) (bb (first s) x cw cb wg bg lam) (k0_pay17 h0) k a E
  · unfold inv
    isplitl [H15]; · iexact H15
    isplitl [H16]; · iexact H16
    isplitl
    · iexists f17
      isplitl; · iexact H17
      ipureintro
      intro y hy; exact absurd hy (Nat.not_lt_zero _)
    · ipureintro
      exact ld_carry arg18.view arg18.view.junk (k0_pay17 h0) _
  iintro %a HI
  rw [show Scf.trips k0_t1_loop.lb k0_t1_loop.ub k0_t1_loop.st = 64 from trips]
  unfold inv
  icases HI with ⟨H15, H16, ⟨%g17, H17, %hg⟩, %ha⟩
  subst ha
  obtain rfl := harg17.eq_unread (f := g17) (funext fun y => hg y (y 0).isLt)
  have c17 : ∀ (inb : _), View.readAt (Elt F) arg17.view (Rect.unit (s := S512x512) ![0, 0] S512x512.size inb).toLoadRect (harg17.unread (hb (ab (first s) x cw cb wg bg lam) (bb (first s) x cw cb wg bg lam) (k0_pay17 h0))) = (hb (ab (first s) x cw cb wg bg lam) (bb (first s) x cw cb wg bg lam) (k0_pay17 h0)) := fun inb => ld_whole harg17 _ inb
  sl_exec (disch := first | sl_exact hc0 | sl_exact hc2)
  sl_step
  iapply HK
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    · ipureintro; exact View.read_writes_full arg11.view f11 inb_S512x512_S512x512_0_0 (k0_pay12 (hb (ab (first s) x cw cb wg bg lam) (bb (first s) x cw cb wg bg lam) (k0_pay17 h0)) g) []
    iexact H11
  isplitl [H14]
  · iexists _; isplitr; · ipureintro; exact harg14.read_unread _
    iexact H14
  isplitl [H15]
  · iexists (ab (first s) x cw cb wg bg lam); iexists _; isplitr; · ipureintro; exact harg15.read_unread _
    iexact H15
  isplitl [H16]
  · iexists (bb (first s) x cw cb wg bg lam); iexists _; isplitr; · ipureintro; exact harg16.read_unread _
    iexact H16
  isplitl [H17]
  · iexists (hb (ab (first s) x cw cb wg bg lam) (bb (first s) x cw cb wg bg lam) (k0_pay17 h0)); iexists _; isplitr; · ipureintro; exact harg17.read_unread _
    iexact H17
  · iexists _; isplitr
    rotate_left
    · iexact H18
    · ipureintro; exact rd_carry arg18.view _ (k0_pay11 (hs (ab (first s) x cw cb wg bg lam) (bb (first s) x cw cb wg bg lam) (k0_pay17 h0) 64)) _
end Cert.RecPIdeal.Seq
end
-- ==== Proof.Q.BodyB.lean ====
/-
  The kernel body at a middle block of a sequence.
-/
module

public import proofs.«01_k».proof.Proof.Q.Reads
public import proofs.«01_k».proof.Proof.Q.Trip

@[expose] public section

set_option maxRecDepth 16384

noncomputable section

namespace Cert.RecPIdeal.Seq

open Cert.RecPIdeal Cert.RecPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At a middle block the body goes on from the carried rows and state. -/
theorem bodyB (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S520x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole)
    (hc0 : ¬ (Scalar.cmpi .ne (Scalar.extui (Scalar.cmpi .eq (BitVec.ofNat 32 (i 1).val) 0#32)) 0#32) = 1#1)
    (hc2 : ¬ k0_cond2 i = 1#1)
    (cx : Vec F S8x512 .f32) (h : Vec F S1x512 .f32)
    (x g : Vec F S512x512 .f32) (cw : Vec F S4x512 .f32) (cb : Vec F S1x512 .f32) (wg : Vec F S512x1024 .bf16) (bg : Vec F S1x1024 .f32) (lam : Vec F S1x512 .f32)
    (E : Set ℕ) (K : PUnit → sProp 𝕄) :
    iprop(owns (c : Thread nD τ) arg2 fullShare x ∗ owns (c : Thread nD τ) arg3 fullShare g ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ (∃ d, owns (c : Thread nD τ) arg11 fullShare d) ∗ (∃ x', owns (c : Thread nD τ) arg14 fullShare (xb cx x')) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h
      ∗ (iprop(owns (c : Thread nD τ) arg2 fullShare x ∗ owns (c : Thread nD τ) arg3 fullShare g ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ owns (c : Thread nD τ) arg11 fullShare (k0_pay12 (hb (ab cx x cw cb wg bg lam) (bb cx x cw cb wg bg lam) h) g) ∗ owns (c : Thread nD τ) arg14 fullShare (xb (tail x) x) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay11 (hs (ab cx x cw cb wg bg lam) (bb cx x cw cb wg bg lam) h 64))) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_eq_skeleton]; unfold cc0_rglru_skel
  simp only [k0_part1_eq_skeleton, k0_part2_eq_skeleton]; unfold k0_part1_skel k0_part2_skel
  unfold owns
  simp only [harg2.set_eq_univ, harg3.set_eq_univ, harg6.set_eq_univ, harg7.set_eq_univ, harg8.set_eq_univ, harg9.set_eq_univ, harg10.set_eq_univ, harg11.set_eq_univ, harg14.set_eq_univ, harg15.set_eq_univ, harg16.set_eq_univ, harg17.set_eq_univ, harg18.set_eq_univ]
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%d11, %f11, -, H11⟩, ⟨%x', %f14, %hf14, H14⟩, ⟨%d15, %f15, -, H15⟩, ⟨%d16, %f16, -, H16⟩, ⟨%d17, %f17, -, H17⟩, ⟨%f18, %hf18, H18⟩, HK⟩
  obtain rfl := harg2.eq_unread hf2; obtain rfl := harg3.eq_unread hf3; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg18.eq_unread hf18
  have c2 : ∀ (inb : _), View.readAt (Elt F) arg2.view (Rect.unit (s := S512x512) ![0, 0] S512x512.size inb).toLoadRect (harg2.unread x) = x := fun inb => ld_whole harg2 x inb
  have c3 : ∀ (inb : _), View.readAt (Elt F) arg3.view (Rect.unit (s := S512x512) ![0, 0] S512x512.size inb).toLoadRect (harg3.unread g) = g := fun inb => ld_whole harg3 g inb
  have c7 : ∀ (inb : _), View.readAt (Elt F) arg7.view (Rect.unit (s := S1x512) ![0, 0] S1x512.size inb).toLoadRect (harg7.unread cb) = cb := fun inb => ld_whole harg7 cb inb
  have c8 : ∀ (inb : _), View.readAt (Elt F) arg8.view (Rect.unit (s := S512x1024) ![0, 0] S512x1024.size inb).toLoadRect (harg8.unread wg) = wg := fun inb => ld_whole harg8 wg inb
  have c9 : ∀ (inb : _), View.readAt (Elt F) arg9.view (Rect.unit (s := S1x1024) ![0, 0] S1x1024.size inb).toLoadRect (harg9.unread bg) = bg := fun inb => ld_whole harg9 bg inb
  have c10 : ∀ (inb : _), View.readAt (Elt F) arg10.view (Rect.unit (s := S1x512) ![0, 0] S1x512.size inb).toLoadRect (harg10.unread lam) = lam := fun inb => ld_whole harg10 lam inb
  have c6_0 : ∀ (inb : _), View.readAt (Elt F) arg6.view (Rect.unit (s := S4x512) ![0, 0] S1x512.size inb).toLoadRect (harg6.unread cw) = tap 0 cw := fun inb => ld_tap harg6 cw 0 inb
  have c6_1 : ∀ (inb : _), View.readAt (Elt F) arg6.view (Rect.unit (s := S4x512) ![1, 0] S1x512.size inb).toLoadRect (harg6.unread cw) = tap 1 cw := fun inb => ld_tap harg6 cw 1 inb
  have c6_2 : ∀ (inb : _), View.readAt (Elt F) arg6.view (Rect.unit (s := S4x512) ![2, 0] S1x512.size inb).toLoadRect (harg6.unread cw) = tap 2 cw := fun inb => ld_tap harg6 cw 2 inb
  have c6_3 : ∀ (inb : _), View.readAt (Elt F) arg6.view (Rect.unit (s := S4x512) ![3, 0] S1x512.size inb).toLoadRect (harg6.unread cw) = tap 3 cw := fun inb => ld_tap harg6 cw 3 inb
  sl_exec (disch := first | sl_exact hc0 | sl_exact hc2)
  have e1 : arg14.view.writes (Elt F) (harg14.unread (xb cx x')) (bodyB.sl.H14_1 x) = harg14.unread (xb cx x) := by
    delta bodyB.sl.H14_1
    exact harg14.eq_unread (rd_next harg14 cx x' x)
  have e14 : arg14.view.writes (Elt F) arg14.view.junk (bodyB.sl.H14_2 i arg14 harg14 cx x cw cb x') = harg14.unread (xb (tail x) x) := by
    refine harg14.eq_unread ?_
    delta bodyB.sl.H14_2 bodyB.sl.v29 bodyB.sl.H14_1
    have et := ld_tail arg14.view arg14.view.junk x [] inb_S520x512_S8x512_512_0
    refine Eq.trans ?_ (rd_last arg14.view arg14.view.junk x [])
    exact congrArg (fun t => arg14.view.read (Elt F) (arg14.view.writes (Elt F) arg14.view.junk ((⟨Rect.unit (s := S520x512) ![0, 0] S8x512.size inb_S520x512_S8x512_0_0, k0_pay20 t⟩ : View.Piece (Elt F) S520x512 .f32)
        :: ⟨Rect.unit (s := S520x512) ![8, 0] S512x512.size inb_S520x512_S512x512_8_0, k0_pay18 x⟩ :: _))) et
  have e15 : arg15.view.writes (Elt F) arg15.view.junk (bodyB.sl.H15_1 i arg14 harg14 cx x cw cb wg bg lam x') = harg15.unread (ab cx x cw cb wg bg lam) := by
    refine harg15.eq_unread ?_
    delta bodyB.sl.H15_1
    refine (View.read_writes_full arg15.view _ inb_S512x512_S512x512_0_0 _ []).trans ?_
    unfold ab xc
    rw [e1, ← ld_win harg14 (xb cx x) 5 (by omega) inb_S520x512_S512x512_5_0, ← ld_win harg14 (xb cx x) 6 (by omega) inb_S520x512_S512x512_6_0, ← ld_win harg14 (xb cx x) 7 (by omega) inb_S520x512_S512x512_7_0]
  have e16 : arg16.view.writes (Elt F) arg16.view.junk (bodyB.sl.H16_1 i arg14 harg14 cx x cw cb wg bg lam x') = harg16.unread (bb cx x cw cb wg bg lam) := by
    refine harg16.eq_unread ?_
    delta bodyB.sl.H16_1
    refine (View.read_writes_full arg16.view _ inb_S512x512_S512x512_0_0 _ []).trans ?_
    unfold bb xc
    rw [e1, ← ld_win harg14 (xb cx x) 5 (by omega) inb_S520x512_S512x512_5_0, ← ld_win harg14 (xb cx x) 6 (by omega) inb_S520x512_S512x512_6_0, ← ld_win harg14 (xb cx x) 7 (by omega) inb_S520x512_S512x512_7_0]
  rw [e14, e15, e16]
  sl_for (inv c arg15 harg15 arg16 harg16 arg17 (ab cx x cw cb wg bg lam) (bb cx x cw cb wg bg lam) h) $$ [H15 H16 H17]
  case region => intro k a; exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (ab cx x cw cb wg bg lam) (bb cx x cw cb wg bg lam) h k a E
  · unfold inv
    isplitl [H15]; · iexact H15
    isplitl [H16]; · iexact H16
    isplitl
    · iexists f17
      isplitl; · iexact H17
      ipureintro
      intro y hy; exact absurd hy (Nat.not_lt_zero _)
    · ipureintro
      exact ld_whole harg18 h _
  iintro %a HI
  rw [show Scf.trips k0_t1_loop.lb k0_t1_loop.ub k0_t1_loop.st = 64 from trips]
  unfold inv
  icases HI with ⟨H15, H16, ⟨%g17, H17, %hg⟩, %ha⟩
  subst ha
  obtain rfl := harg17.eq_unread (f := g17) (funext fun y => hg y (y 0).isLt)
  have c17 : ∀ (inb : _), View.readAt (Elt F) arg17.view (Rect.unit (s := S512x512) ![0, 0] S512x512.size inb).toLoadRect (harg17.unread (hb (ab cx x cw cb wg bg lam) (bb cx x cw cb wg bg lam) h)) = (hb (ab cx x cw cb wg bg lam) (bb cx x cw cb wg bg lam) h) := fun inb => ld_whole harg17 _ inb
  sl_exec (disch := first | sl_exact hc0 | sl_exact hc2)
  sl_step
  iapply HK
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    · ipureintro; exact View.read_writes_full arg11.view f11 inb_S512x512_S512x512_0_0 (k0_pay12 (hb (ab cx x cw cb wg bg lam) (bb cx x cw cb wg bg lam) h) g) []
    iexact H11
  isplitl [H14]
  · iexists _; isplitr; · ipureintro; exact harg14.read_unread _
    iexact H14
  isplitl [H15]
  · iexists (ab cx x cw cb wg bg lam); iexists _; isplitr; · ipureintro; exact harg15.read_unread _
    iexact H15
  isplitl [H16]
  · iexists (bb cx x cw cb wg bg lam); iexists _; isplitr; · ipureintro; exact harg16.read_unread _
    iexact H16
  isplitl [H17]
  · iexists (hb (ab cx x cw cb wg bg lam) (bb cx x cw cb wg bg lam) h); iexists _; isplitr; · ipureintro; exact harg17.read_unread _
    iexact H17
  · iexists _; isplitr
    · ipureintro; exact View.read_writes_full arg18.view (harg18.unread h) inb_S1x512_S1x512_0_0 (k0_pay11 (hs (ab cx x cw cb wg bg lam) (bb cx x cw cb wg bg lam) h 64)) []
    iexact H18
end Cert.RecPIdeal.Seq
end
-- ==== Proof.Q.BodyC.lean ====
/-
  The kernel body at the last block of a sequence.
-/
module

public import proofs.«01_k».proof.Proof.Q.Reads
public import proofs.«01_k».proof.Proof.Q.Trip

@[expose] public section

set_option maxRecDepth 16384

noncomputable section

namespace Cert.RecPIdeal.Seq

open Cert.RecPIdeal Cert.RecPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At the last block the body also leaves the last state and the last three rows. -/
theorem bodyC (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S520x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole)
    (hc0 : ¬ (Scalar.cmpi .ne (Scalar.extui (Scalar.cmpi .eq (BitVec.ofNat 32 (i 1).val) 0#32)) 0#32) = 1#1)
    (hc2 : k0_cond2 i = 1#1)
    (cx : Vec F S8x512 .f32) (h : Vec F S1x512 .f32)
    (x g : Vec F S512x512 .f32) (cw : Vec F S4x512 .f32) (cb : Vec F S1x512 .f32) (wg : Vec F S512x1024 .bf16) (bg : Vec F S1x1024 .f32) (lam : Vec F S1x512 .f32)
    (E : Set ℕ) (K : PUnit → sProp 𝕄) :
    iprop(owns (c : Thread nD τ) arg2 fullShare x ∗ owns (c : Thread nD τ) arg3 fullShare g ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ (∃ d, owns (c : Thread nD τ) arg11 fullShare d) ∗ (∃ d, owns (c : Thread nD τ) arg12 fullShare d) ∗ (∃ d, owns (c : Thread nD τ) arg13 fullShare d) ∗ (∃ x', owns (c : Thread nD τ) arg14 fullShare (xb cx x')) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h
      ∗ (iprop(owns (c : Thread nD τ) arg2 fullShare x ∗ owns (c : Thread nD τ) arg3 fullShare g ∗ owns (c : Thread nD τ) arg6 fullShare cw ∗ owns (c : Thread nD τ) arg7 fullShare cb ∗ owns (c : Thread nD τ) arg8 fullShare wg ∗ owns (c : Thread nD τ) arg9 fullShare bg ∗ owns (c : Thread nD τ) arg10 fullShare lam ∗ owns (c : Thread nD τ) arg11 fullShare (k0_pay12 (hb (ab cx x cw cb wg bg lam) (bb cx x cw cb wg bg lam) h) g) ∗ owns (c : Thread nD τ) arg12 fullShare (k0_pay13 (hs (ab cx x cw cb wg bg lam) (bb cx x cw cb wg bg lam) h 64)) ∗ owns (c : Thread nD τ) arg13 fullShare (k0_pay14 x) ∗ owns (c : Thread nD τ) arg14 fullShare (xb (tail x) x) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay11 (hs (ab cx x cw cb wg bg lam) (bb cx x cw cb wg bg lam) h 64))) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_eq_skeleton]; unfold cc0_rglru_skel
  simp only [k0_part1_eq_skeleton, k0_part2_eq_skeleton]; unfold k0_part1_skel k0_part2_skel
  unfold owns
  simp only [harg2.set_eq_univ, harg3.set_eq_univ, harg6.set_eq_univ, harg7.set_eq_univ, harg8.set_eq_univ, harg9.set_eq_univ, harg10.set_eq_univ, harg11.set_eq_univ, harg12.set_eq_univ, harg13.set_eq_univ, harg14.set_eq_univ, harg15.set_eq_univ, harg16.set_eq_univ, harg17.set_eq_univ, harg18.set_eq_univ]
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%x', %f14, %hf14, H14⟩, ⟨%d15, %f15, -, H15⟩, ⟨%d16, %f16, -, H16⟩, ⟨%d17, %f17, -, H17⟩, ⟨%f18, %hf18, H18⟩, HK⟩
  obtain rfl := harg2.eq_unread hf2; obtain rfl := harg3.eq_unread hf3; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg18.eq_unread hf18
  have c2 : ∀ (inb : _), View.readAt (Elt F) arg2.view (Rect.unit (s := S512x512) ![0, 0] S512x512.size inb).toLoadRect (harg2.unread x) = x := fun inb => ld_whole harg2 x inb
  have c3 : ∀ (inb : _), View.readAt (Elt F) arg3.view (Rect.unit (s := S512x512) ![0, 0] S512x512.size inb).toLoadRect (harg3.unread g) = g := fun inb => ld_whole harg3 g inb
  have c7 : ∀ (inb : _), View.readAt (Elt F) arg7.view (Rect.unit (s := S1x512) ![0, 0] S1x512.size inb).toLoadRect (harg7.unread cb) = cb := fun inb => ld_whole harg7 cb inb
  have c8 : ∀ (inb : _), View.readAt (Elt F) arg8.view (Rect.unit (s := S512x1024) ![0, 0] S512x1024.size inb).toLoadRect (harg8.unread wg) = wg := fun inb => ld_whole harg8 wg inb
  have c9 : ∀ (inb : _), View.readAt (Elt F) arg9.view (Rect.unit (s := S1x1024) ![0, 0] S1x1024.size inb).toLoadRect (harg9.unread bg) = bg := fun inb => ld_whole harg9 bg inb
  have c10 : ∀ (inb : _), View.readAt (Elt F) arg10.view (Rect.unit (s := S1x512) ![0, 0] S1x512.size inb).toLoadRect (harg10.unread lam) = lam := fun inb => ld_whole harg10 lam inb
  have c6_0 : ∀ (inb : _), View.readAt (Elt F) arg6.view (Rect.unit (s := S4x512) ![0, 0] S1x512.size inb).toLoadRect (harg6.unread cw) = tap 0 cw := fun inb => ld_tap harg6 cw 0 inb
  have c6_1 : ∀ (inb : _), View.readAt (Elt F) arg6.view (Rect.unit (s := S4x512) ![1, 0] S1x512.size inb).toLoadRect (harg6.unread cw) = tap 1 cw := fun inb => ld_tap harg6 cw 1 inb
  have c6_2 : ∀ (inb : _), View.readAt (Elt F) arg6.view (Rect.unit (s := S4x512) ![2, 0] S1x512.size inb).toLoadRect (harg6.unread cw) = tap 2 cw := fun inb => ld_tap harg6 cw 2 inb
  have c6_3 : ∀ (inb : _), View.readAt (Elt F) arg6.view (Rect.unit (s := S4x512) ![3, 0] S1x512.size inb).toLoadRect (harg6.unread cw) = tap 3 cw := fun inb => ld_tap harg6 cw 3 inb
  sl_exec (disch := first | sl_exact hc0 | sl_exact hc2)
  have e1 : arg14.view.writes (Elt F) (harg14.unread (xb cx x')) (bodyC.sl.H14_1 x) = harg14.unread (xb cx x) := by
    delta bodyC.sl.H14_1
    exact harg14.eq_unread (rd_next harg14 cx x' x)
  have e14 : arg14.view.writes (Elt F) arg14.view.junk (bodyC.sl.H14_2 i arg14 harg14 cx x cw cb x') = harg14.unread (xb (tail x) x) := by
    refine harg14.eq_unread ?_
    delta bodyC.sl.H14_2 bodyC.sl.v29 bodyC.sl.H14_1
    have et := ld_tail arg14.view arg14.view.junk x [] inb_S520x512_S8x512_512_0
    refine Eq.trans ?_ (rd_last arg14.view arg14.view.junk x [])
    exact congrArg (fun t => arg14.view.read (Elt F) (arg14.view.writes (Elt F) arg14.view.junk ((⟨Rect.unit (s := S520x512) ![0, 0] S8x512.size inb_S520x512_S8x512_0_0, k0_pay20 t⟩ : View.Piece (Elt F) S520x512 .f32)
        :: ⟨Rect.unit (s := S520x512) ![8, 0] S512x512.size inb_S520x512_S512x512_8_0, k0_pay18 x⟩ :: _))) et
  have e15 : arg15.view.writes (Elt F) arg15.view.junk (bodyC.sl.H15_1 i arg14 harg14 cx x cw cb wg bg lam x') = harg15.unread (ab cx x cw cb wg bg lam) := by
    refine harg15.eq_unread ?_
    delta bodyC.sl.H15_1
    refine (View.read_writes_full arg15.view _ inb_S512x512_S512x512_0_0 _ []).trans ?_
    unfold ab xc
    rw [e1, ← ld_win harg14 (xb cx x) 5 (by omega) inb_S520x512_S512x512_5_0, ← ld_win harg14 (xb cx x) 6 (by omega) inb_S520x512_S512x512_6_0, ← ld_win harg14 (xb cx x) 7 (by omega) inb_S520x512_S512x512_7_0]
  have e16 : arg16.view.writes (Elt F) arg16.view.junk (bodyC.sl.H16_1 i arg14 harg14 cx x cw cb wg bg lam x') = harg16.unread (bb cx x cw cb wg bg lam) := by
    refine harg16.eq_unread ?_
    delta bodyC.sl.H16_1
    refine (View.read_writes_full arg16.view _ inb_S512x512_S512x512_0_0 _ []).trans ?_
    unfold bb xc
    rw [e1, ← ld_win harg14 (xb cx x) 5 (by omega) inb_S520x512_S512x512_5_0, ← ld_win harg14 (xb cx x) 6 (by omega) inb_S520x512_S512x512_6_0, ← ld_win harg14 (xb cx x) 7 (by omega) inb_S520x512_S512x512_7_0]
  rw [e14, e15, e16]
  sl_for (inv c arg15 harg15 arg16 harg16 arg17 (ab cx x cw cb wg bg lam) (bb cx x cw cb wg bg lam) h) $$ [H15 H16 H17]
  case region => intro k a; exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (ab cx x cw cb wg bg lam) (bb cx x cw cb wg bg lam) h k a E
  · unfold inv
    isplitl [H15]; · iexact H15
    isplitl [H16]; · iexact H16
    isplitl
    · iexists f17
      isplitl; · iexact H17
      ipureintro
      intro y hy; exact absurd hy (Nat.not_lt_zero _)
    · ipureintro
      exact ld_whole harg18 h _
  iintro %a HI
  rw [show Scf.trips k0_t1_loop.lb k0_t1_loop.ub k0_t1_loop.st = 64 from trips]
  unfold inv
  icases HI with ⟨H15, H16, ⟨%g17, H17, %hg⟩, %ha⟩
  subst ha
  obtain rfl := harg17.eq_unread (f := g17) (funext fun y => hg y (y 0).isLt)
  have c17 : ∀ (inb : _), View.readAt (Elt F) arg17.view (Rect.unit (s := S512x512) ![0, 0] S512x512.size inb).toLoadRect (harg17.unread (hb (ab cx x cw cb wg bg lam) (bb cx x cw cb wg bg lam) h)) = (hb (ab cx x cw cb wg bg lam) (bb cx x cw cb wg bg lam) h) := fun inb => ld_whole harg17 _ inb
  sl_exec (disch := first | sl_exact hc0 | sl_exact hc2)
  sl_step
  iapply HK
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    · ipureintro; exact View.read_writes_full arg11.view f11 inb_S512x512_S512x512_0_0 (k0_pay12 (hb (ab cx x cw cb wg bg lam) (bb cx x cw cb wg bg lam) h) g) []
    iexact H11
  isplitl [H12]
  · iexists _; isplitr
    · ipureintro; exact View.read_writes_full arg12.view f12 inb_S1x1x512_S1x1x512_0_0_0 (k0_pay13 (hs (ab cx x cw cb wg bg lam) (bb cx x cw cb wg bg lam) h 64)) []
    iexact H12
  isplitl [H13]
  · iexists _; isplitr
    · ipureintro; exact View.read_writes_full arg13.view f13 inb_S1x3x512_S1x3x512_0_0_0 (k0_pay14 x) []
    iexact H13
  isplitl [H14]
  · iexists _; isplitr; · ipureintro; exact harg14.read_unread _
    iexact H14
  isplitl [H15]
  · iexists (ab cx x cw cb wg bg lam); iexists _; isplitr; · ipureintro; exact harg15.read_unread _
    iexact H15
  isplitl [H16]
  · iexists (bb cx x cw cb wg bg lam); iexists _; isplitr; · ipureintro; exact harg16.read_unread _
    iexact H16
  isplitl [H17]
  · iexists (hb (ab cx x cw cb wg bg lam) (bb cx x cw cb wg bg lam) h); iexists _; isplitr; · ipureintro; exact harg17.read_unread _
    iexact H17
  · iexists _; isplitr
    · ipureintro; exact View.read_writes_full arg18.view (harg18.unread h) inb_S1x512_S1x512_0_0 (k0_pay11 (hs (ab cx x cw cb wg bg lam) (bb cx x cw cb wg bg lam) h 64)) []
    iexact H18
end Cert.RecPIdeal.Seq
end
-- ==== Proof.Q.Launch.lean ====
/-
  The launch of the prompt group's recurrence: what every buffer holds after each grid point, the body at a generic
  point, the run and the frame.
-/
module

public import proofs.«01_k».proof.Proof.Gen.RecPIdeal.Frame
public import proofs.«01_k».proof.Proof.Q.BodyA
public import proofs.«01_k».proof.Proof.Q.BodyB
public import proofs.«01_k».proof.Proof.Q.BodyC
public import Idealize.ShloMosaic.Lib.Claim

@[expose] public section

set_option maxRecDepth 16384

noncomputable section

namespace Cert.RecPIdeal.Seq

open Cert.RecPIdeal Cert.RecPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Points and buffers -/

/-- The five scratch buffers, whole. -/
abbrev s0 : Memref sig .tc .vmem S520x512 .f32 := Memref.whole cc0_scratch0
abbrev s1 : Memref sig .tc .vmem S512x512 .f32 := Memref.whole cc0_scratch1
abbrev s2 : Memref sig .tc .vmem S512x512 .f32 := Memref.whole cc0_scratch2
abbrev s3 : Memref sig .tc .vmem S512x512 .f32 := Memref.whole cc0_scratch3
abbrev s4 : Memref sig .tc .vmem S1x512 .f32 := Memref.whole cc0_scratch4

/-- The scoped rest before the region: the five scratch buffers at anything, the generator at some state. -/
theorem phiA_eq (c : Dev nD) :
    (Pipeline.ΦA spec0 c : sProp 𝕄)
      = iprop(iprop((∃ d, owns (c : Thread nD τ) s0 fullShare d) ∗ (∃ d, owns (c : Thread nD τ) s1 fullShare d)
        ∗ (∃ d, owns (c : Thread nD τ) s2 fullShare d) ∗ (∃ d, owns (c : Thread nD τ) s3 fullShare d)
        ∗ (∃ d, owns (c : Thread nD τ) s4 fullShare d)) ∗ (∃ r, prngReg c r)) := by
  unfold Pipeline.ΦA; rw [scopedRest0_eq]; simp only [s0, s1, s2, s3, s4, owns_whole]; try rfl

/-- The block of a point is its position in its sequence's eight. -/
theorem coords1 (t : Fin cfg0.N) : (grid0.coords t 1).val = t.val % 8 := by
  have e2 : (grid0.coords t 1).val = t.val / 1 % 8 := Pipeline.Grid.coords_val t 1 (by decide) rfl
  rw [e2, Nat.div_one]

/-- The body's first condition holds exactly at a sequence's first block, -/
theorem cond_first (t : Fin cfg0.N) :
    (Scalar.cmpi .ne (Scalar.extui (Scalar.cmpi .eq (BitVec.ofNat 32 (grid0.coords t 1).val) 0#32)) 0#32) = 1#1
      ↔ t.val % 8 = 0 := by
  have ht : t.val < 32 := Nat.lt_of_lt_of_eq t.isLt N_0
  rw [coords1]
  word_cmp

/-- the second one exactly at its last. -/
theorem cond_last (t : Fin cfg0.N) : k0_cond2 (grid0.coords t) = 1#1 ↔ t.val % 8 = 7 := by
  have ht : t.val < 32 := Nat.lt_of_lt_of_eq t.isLt N_0
  unfold k0_cond2
  rw [coords1]
  word_cmp

/-- A point's decays and increments, from the rows carried to it. -/
def aAt (c : Dev nD) (t : Fin cfg0.N) (cx : Vec F S8x512 .f32) : Vec F S512x512 .f32 :=
  ab cx (X0_0 m c t) (iblk m c 4 t) (iblk m c 5 t) (iblk m c 6 t) (iblk m c 7 t) (iblk m c 8 t)
def bAt (c : Dev nD) (t : Fin cfg0.N) (cx : Vec F S8x512 .f32) : Vec F S512x512 .f32 :=
  bb cx (X0_0 m c t) (iblk m c 4 t) (iblk m c 5 t) (iblk m c 6 t) (iblk m c 7 t) (iblk m c 8 t)

/-- The rows carried to point `n`: its sequence's own at the first block, else the last ones of the block before. -/
def cxAt (c : Dev nD) : (n : ℕ) → n < cfg0.N → Vec F S8x512 .f32
  | 0, hn => first (iblk m c 2 ⟨0, hn⟩)
  | n + 1, hn => if (n + 1) % 8 = 0 then first (iblk m c 2 ⟨n + 1, hn⟩) else tail (X0_0 m c ⟨n, Nat.lt_of_succ_lt hn⟩)

/-- The state carried to point `n`. -/
def hAt (c : Dev nD) : (n : ℕ) → n < cfg0.N → Vec F S1x512 .f32
  | 0, hn => k0_pay17 (iblk m c 3 ⟨0, hn⟩)
  | n + 1, hn => if (n + 1) % 8 = 0 then k0_pay17 (iblk m c 3 ⟨n + 1, hn⟩)
      else k0_pay11 (hs (aAt m c ⟨n, Nat.lt_of_succ_lt hn⟩ (cxAt m c n (Nat.lt_of_succ_lt hn))) (bAt m c ⟨n, Nat.lt_of_succ_lt hn⟩ (cxAt m c n (Nat.lt_of_succ_lt hn))) (hAt c n (Nat.lt_of_succ_lt hn)) 64)

theorem cxAt_first (c : Dev nD) (t : Fin cfg0.N) (h : t.val % 8 = 0) : cxAt m c t.val t.isLt = first (iblk m c 2 t) := by
  obtain ⟨n, hn⟩ := t
  cases n with
  | zero => rfl
  | succ n => exact if_pos h

theorem hAt_first (c : Dev nD) (t : Fin cfg0.N) (h : t.val % 8 = 0) : hAt m c t.val t.isLt = k0_pay17 (iblk m c 3 t) := by
  obtain ⟨n, hn⟩ := t
  cases n with
  | zero => rfl
  | succ n => exact if_pos h

/-- A point's decays, increments and the state after `k` of its groups. -/
abbrev av (c : Dev nD) (t : Fin cfg0.N) : Vec F S512x512 .f32 := aAt m c t (cxAt m c t.val t.isLt)
abbrev bv (c : Dev nD) (t : Fin cfg0.N) : Vec F S512x512 .f32 := bAt m c t (cxAt m c t.val t.isLt)
def hEnd (c : Dev nD) (t : Fin cfg0.N) : Vec F S1x512 .f32 := hs (av m c t) (bv m c t) (hAt m c t.val t.isLt) 64

theorem cxAt_next (c : Dev nD) (t : Fin cfg0.N) (h : ¬ t.val % 8 = 0) (h' : t.val - 1 < cfg0.N) :
    cxAt m c t.val t.isLt = tail (X0_0 m c ⟨t.val - 1, h'⟩) := by
  obtain ⟨n, hn⟩ := t
  cases n with
  | zero => exact absurd rfl h
  | succ n => exact if_neg h

theorem hAt_next (c : Dev nD) (t : Fin cfg0.N) (h : ¬ t.val % 8 = 0) (h' : t.val - 1 < cfg0.N) :
    hAt m c t.val t.isLt = k0_pay11 (hEnd m c ⟨t.val - 1, h'⟩) := by
  obtain ⟨n, hn⟩ := t
  cases n with
  | zero => exact absurd rfl h
  | succ n => exact if_neg h

/-- The three output blocks after point `t`: the branch's rows, the state, the last three rows. -/
def out0 (c : Dev nD) (t : Fin cfg0.N) : Vec F S512x512 .f32 :=
  k0_pay12 (hb (av m c t) (bv m c t) (hAt m c t.val t.isLt)) (X0_1 m c t)
def out1 (c : Dev nD) (t : Fin cfg0.N) : Vec F S1x1x512 .f32 := k0_pay13 (hEnd m c t)
def out2 (c : Dev nD) (t : Fin cfg0.N) : Vec F S1x3x512 .f32 := k0_pay14 (X0_0 m c t)

/-! ## The invariant and the proof data -/

/-- What is held after position `n`: the carried rows and state, the other scratch at anything, the generator. -/
def PhiN (c : Dev nD) (n : ℕ) (hn : n < cfg0.N) : sProp 𝕄 :=
  iprop(iprop(owns (c : Thread nD τ) s0 fullShare (xb (tail (X0_0 m c ⟨n, hn⟩)) (X0_0 m c ⟨n, hn⟩)) ∗ (∃ d, owns (c : Thread nD τ) s1 fullShare d)
        ∗ (∃ d, owns (c : Thread nD τ) s2 fullShare d) ∗ (∃ d, owns (c : Thread nD τ) s3 fullShare d)
        ∗ owns (c : Thread nD τ) s4 fullShare (k0_pay11 (hEnd m c ⟨n, hn⟩))) ∗ (∃ r, prngReg c r))

/-- The region's invariant before position `n`. -/
def PhiS (c : Dev nD) : (n : ℕ) → n ≤ cfg0.N → sProp 𝕄
  | 0, _ => Pipeline.ΦA spec0 c
  | n + 1, hn => PhiN m c n hn

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = PhiN m c n hn := rfl

theorem PhiS_pos (c : Dev nD) (n : ℕ) (h : n ≤ cfg0.N) (hz : n ≠ 0) :
    PhiS m c n h = PhiN m c (n - 1) (by omega) := by
  cases n with
  | zero => exact absurd rfl hz
  | succ n => rfl

/-- The invariant always gives back the scratch buffers at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ m c n h, phiA_eq]; unfold PhiN
    iintro ⟨⟨H0, H1, H2, H3, H4⟩, Hg⟩
    isplitl [H0 H1 H2 H3 H4]
    · isplitl [H0]; · iexists _; iexact H0
      isplitl [H1]; · iexact H1
      isplitl [H2]; · iexact H2
      isplitl [H3]; · iexact H3
      iexists _; iexact H4
    iexact Hg

/-- The proof data: the arrays as the region finds them; each input's buffer keeps its block, the outputs' end at theirs. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0 m c t
    | ⟨10, _⟩ => out1 m c t
    | ⟨11, _⟩ => out2 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0 m c t := by dsimp only [dats]
theorem after0_10 (c : Dev nD) (t : Fin cfg0.N) : (dats m 0 c).after 10 t = out1 m c t := by dsimp only [dats]
theorem after0_11 (c : Dev nD) (t : Fin cfg0.N) : (dats m 0 c).after 11 t = out2 m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- One of the two last outputs' buffers after the body: untouched before a sequence's last block, there at its value. -/
def lastPost (c : Dev nD) (t : Fin cfg0.N) (w : Fin cfg0.W) : sProp 𝕄 :=
  if t.val % 8 = 7 then owns (c : Thread nD τ) ((cfg0.win w).stage (cfg0.slots t w)) fullShare ((dats m 0 c).after w t)
  else iprop(∃ d, owns (c : Thread nD τ) ((cfg0.win w).stage (cfg0.slots t w)) fullShare ((dats m 0 c).before w t d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ lastPost m c t 10 ∗ lastPost m c t 11)

set_option maxHeartbeats 3200000 in
/-- The body at any point: at a sequence's first block it starts from the sequence's own rows and state, elsewhere from
those the block before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ, PhiS_castSucc m c t]
  unfold out0 PhiN hEnd lastPost
  simp only [Fin.eta]
  by_cases h0 : t.val % 8 = 0
  · have h7 : ¬ t.val % 8 = 7 := by omega
    rw [if_neg h7, if_neg h7]
    unfold av bv aAt bAt
    rw [cxAt_first m c t h0, hAt_first m c t h0]
    refine (BIClass.sep_mono (PhiS_any m c t.val (Nat.le_of_lt t.isLt)) (Idealize.SL.BI.Entails.refl _)).trans ?_
    rw [phiA_eq]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyA c (grid0.coords t) _ _ _ _ _ _ _ _ _ _ _ _ _ _ _ _ _ _ _ _ _ _ _ _ s0 (Memref.isWhole_whole _) s1 (Memref.isWhole_whole _) s2 (Memref.isWhole_whole _) s3 (Memref.isWhole_whole _) s4 (Memref.isWhole_whole _) ((cond_first t).mpr h0) (fun h => h7 ((cond_last t).mp h)) (iblk m c 2 t) (iblk m c 3 t) (X0_0 m c t) (X0_1 m c t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    isplitl [S3]; · iexact S3
    isplitl [S4]; · iexact S4
    iintro ⟨H0, H1, H2, H3, H4, H5, H6, H7, H8, H9, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    iexists d11; iexact H11
  · have hz : t.val ≠ 0 := fun h => h0 (by rw [h])
    have ex : ∀ h, tail (X0_0 m c ⟨t.val - 1, h⟩) = cxAt m c t.val t.isLt := fun h => (cxAt_next m c t h0 h).symm
    have eh : ∀ h, k0_pay11 (hEnd m c ⟨t.val - 1, h⟩) = hAt m c t.val t.isLt := fun h => (hAt_next m c t h0 h).symm
    rw [PhiS_pos m c _ _ hz]; unfold PhiN
    rw [ex, eh]
    unfold av bv aAt bAt
    by_cases h7 : t.val % 8 = 7
    · rw [if_pos h7, if_pos h7, after0_10, after0_11]
      unfold out1 out2 hEnd av bv aAt bAt
      iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (bodyC c (grid0.coords t) _ _ _ _ _ _ _ _ _ _ _ _ _ _ _ _ _ _ _ _ _ _ _ _ s0 (Memref.isWhole_whole _) s1 (Memref.isWhole_whole _) s2 (Memref.isWhole_whole _) s3 (Memref.isWhole_whole _) s4 (Memref.isWhole_whole _) (fun h => h0 ((cond_first t).mp h)) ((cond_last t).mpr h7) (cxAt m c t.val t.isLt) (hAt m c t.val t.isLt) (X0_0 m c t) (X0_1 m c t) (iblk m c 4 t) (iblk m c 5 t) (iblk m c 6 t) (iblk m c 7 t) (iblk m c 8 t) Set.univ _)
      isplitl [H0]; · iexact H0
      isplitl [H1]; · iexact H1
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [S0]; · iexists _; iexact S0
      isplitl [S1]; · iexact S1
      isplitl [S2]; · iexact S2
      isplitl [S3]; · iexact S3
      isplitl [S4]; · iexact S4
      iintro ⟨H0, H1, H4, H5, H6, H7, H8, H9, H10, H11, S0, S1, S2, S3, S4⟩
      isplitl [S0 S1 S2 S3 S4 Hg]
      · isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [if_neg h7, if_neg h7]
      iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (bodyB c (grid0.coords t) _ _ _ _ _ _ _ _ _ _ _ _ _ _ _ _ _ _ _ _ _ _ _ _ s0 (Memref.isWhole_whole _) s1 (Memref.isWhole_whole _) s2 (Memref.isWhole_whole _) s3 (Memref.isWhole_whole _) s4 (Memref.isWhole_whole _) (fun h => h0 ((cond_first t).mp h)) (fun h => h7 ((cond_last t).mp h)) (cxAt m c t.val t.isLt) (hAt m c t.val t.isLt) (X0_0 m c t) (X0_1 m c t) (iblk m c 4 t) (iblk m c 5 t) (iblk m c 6 t) (iblk m c 7 t) (iblk m c 8 t) Set.univ _)
      isplitl [H0]; · iexact H0
      isplitl [H1]; · iexact H1
      isplitl [H4]; · iexact H4
      isplitl [H5]; · iexact H5
      isplitl [H6]; · iexact H6
      isplitl [H7]; · iexact H7
      isplitl [H8]; · iexact H8
      isplitl [H9]; · iexists _; iexact H9
      isplitl [S0]; · iexists _; iexact S0
      isplitl [S1]; · iexact S1
      isplitl [S2]; · iexact S2
      isplitl [S3]; · iexact S3
      isplitl [S4]; · iexact S4
      iintro ⟨H0, H1, H4, H5, H6, H7, H8, H9, S0, S1, S2, S3, S4⟩
      isplitl [S0 S1 S2 S3 S4 Hg]
      · isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists d10; iexact H10
      iexists d11; iexact H11

/-- The obligation's postcondition, its idle windows split at a sequence's last block. -/
theorem post_last (c : Dev nD) (t : Fin cfg0.N) (w : Fin cfg0.W) (hi : cfg0.idle w (cfg0.grid.coords t) = !(decide (t.val % 8 = 7)))
    (hf : (cfg0.win w).flush t = true ↔ t.val % 8 = 7) :
    lastPost m c t w ⊢ (match cfg0.idle w (cfg0.grid.coords t) with
      | true => match (cfg0.win w).flush t with
        | false => iprop(∃ d, owns (c : Thread nD τ) ((cfg0.win w).stage (cfg0.slots t w)) fullShare ((dats m 0 c).before w t d))
        | true => owns (c : Thread nD τ) ((cfg0.win w).stage (cfg0.slots t w)) fullShare ((dats m 0 c).after w t)
      | false => owns (c : Thread nD τ) ((cfg0.win w).stage (cfg0.slots t w)) fullShare ((dats m 0 c).after w t) : sProp 𝕄) := by
  unfold lastPost
  rw [hi]
  by_cases h : t.val % 8 = 7
  · rw [if_pos h, decide_eq_true h]
    exact Idealize.SL.BI.Entails.refl _
  · rw [if_neg h, decide_eq_false h, Bool.eq_false_iff.mpr (fun e => h (hf.mp e))]
    exact Idealize.SL.BI.Entails.refl _

/-- The first condition's failure is where the two last outputs are idle. -/
theorem idle_last (t : Fin cfg0.N) (w : Fin cfg0.W) (hw : w = 10 ∨ w = 11) :
    cfg0.idle w (cfg0.grid.coords t) = !(decide (t.val % 8 = 7)) := by
  have e := cond_last t
  rcases hw with rfl | rfl
  · show (!(k0_cond2 (grid0.coords t) == 1#1)) = _
    by_cases h : t.val % 8 = 7
    · rw [e.mpr h, decide_eq_true h]; rfl
    · rw [decide_eq_false h, beq_eq_false_iff_ne.mpr (fun x => h (e.mp x))]
  · show (!(k0_cond2 (grid0.coords t) == 1#1)) = _
    by_cases h : t.val % 8 = 7
    · rw [e.mpr h, decide_eq_true h]; rfl
    · rw [decide_eq_false h, beq_eq_false_iff_ne.mpr (fun x => h (e.mp x))]

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (Idealize.SL.BI.Entails.refl _) (BIClass.sep_mono (post_last m c t 10 (idle_last t 10 (.inl rfl)) (flush0_10 t)) (post_last m c t 11 (idle_last t 11 (.inr rfl)) (flush0_11 t)))))))))))))))

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
/-- Every execution ends with the arrays at what the proof data gives and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the arguments unchanged and every counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.RecPIdeal.Seq

end
-- ==== Proof.V.InProj.lean ====
/-
  The projection: what the kernel's blocks hold, what the reference computes, and that they are the same.
-/
module

public import proofs.«01_k».proof.Proof.Gen.InProjIdeal.Value
public import proofs.«01_k».proof.Proof.Gen.InProjRefIdeal.Run
public import Idealize.ShloMosaic.Lib.Pipeline.Value
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- A product of two matrices, entry by entry. -/
def prod (x : FVec Ideal S16640x1024 .f32) (w : FVec Ideal S1024x2560 .bf16) (i : S16640x2560.Idx) : EReal :=
  ∑ k : Fin 1024, x (ix2 (i 0) k) * w (ix2 k (i 1))

theorem zeros : (![0, 0] : Fin 2 → ℕ) = fun _ => 0 := funext fun a => by fin_cases a <;> rfl

/-- A block's payload is its product, entry by entry. -/
theorem pay_apply (x : Vec Ideal S1280x1024 .f32) (w : Vec Ideal S1024x640 .bf16) (y : S1280x640.Idx) :
    k0_pay1 (F := Ideal) x w y
      = ∑ k : Fin 1024, x (ix2 (y 0) k) * w (ix2 k (y 1)) := by
  unfold k0_pay1
  simp only [pointwise]
  exact zero_add _

/-- Where each window's block lies at a point. -/
theorem idx : ∀ t : Fin grid0.N, win0_0.index t 0 = win0_2.index t 0 ∧ win0_0.index t 1 = 0
    ∧ win0_1.index t 0 = 0 ∧ win0_1.index t 1 = win0_2.index t 1 := by decide +kernel

/-- The projection's result array. -/
theorem final (c : Dev nD) :
    (dats m 0 c).arrAt 2 cfg0.N = prod (V m c main_arg0) (V m c main_v3) := by
  refine Dat.arrAt_eq_of_covers _ 2 _ (by decide +kernel) fun t _ y => ?_
  rw [after0_2]
  unfold out0_2
  rw [View.canon_unit_zero zeros, View.ld_unit_zero zeros, View.ld_unit_zero zeros]
  refine (pay_apply _ _ _).trans ?_
  obtain ⟨h00, h01, h10, h11⟩ := idx t
  refine Finset.sum_congr rfl fun k _ => congrArg₂ (· * ·) ?_ ?_
  · refine congrArg (V m c main_arg0) (funext fun a => Fin.ext ?_)
    match a with
    | ⟨0, _⟩ =>
      refine (ValueKit.view_emb_slice_whole_unit_val main_arg0 _ _ _ _ _).trans
        (Eq.trans ?_ (ValueKit.view_emb_slice_whole_unit_val main_v4 _ _ _ y 0).symm)
      show win0_0.index t 0 * 1280 + (y 0).val = win0_2.index t 0 * 1280 + (y 0).val
      rw [h00]
    | ⟨1, _⟩ =>
      refine (ValueKit.view_emb_slice_whole_unit_val main_arg0 _ _ _ _ _).trans ?_
      show win0_0.index t 1 * 1024 + k.val = k.val
      rw [h01]; omega
  · refine congrArg (V m c main_v3) (funext fun a => Fin.ext ?_)
    match a with
    | ⟨0, _⟩ =>
      refine (ValueKit.view_emb_slice_whole_unit_val main_v3 _ _ _ _ _).trans ?_
      show win0_1.index t 0 * 1024 + k.val = k.val
      rw [h10]; omega
    | ⟨1, _⟩ =>
      refine (ValueKit.view_emb_slice_whole_unit_val main_v3 _ _ _ _ _).trans
        (Eq.trans ?_ (ValueKit.view_emb_slice_whole_unit_val main_v4 _ _ _ y 1).symm)
      show win0_1.index t 1 * 640 + (y 1).val = win0_2.index t 1 * 640 + (y 1).val
      rw [h11]

/-- The projection's matrix as the kernel receives it: the columns but the eight of the forget logits. -/
theorem weights (c : Dev nD) (k : Fin 1024) (j : Fin 2560) :
    V m c main_v3 (ix2 k j) = m ((c : Thread nD τ).loc main_arg1)
      (ix2 k ⟨if j.val < 1536 then j.val else j.val + 8, by split <;> omega⟩) := by
  have e : V m c main_v3 = (truncf .bf16 (concatenate S1024x2560 1
      [⟨S1024x1536, extractStridedSlice S1024x1536 ![0, 0] (m ((c : Thread nD τ).loc main_arg1) : FVec Ideal S1024x2568 .f32) slices_S1024x2568_S1024x1536_0_0⟩,
       ⟨S1024x1024, extractStridedSlice S1024x1024 ![0, 1544] (m ((c : Thread nD τ).loc main_arg1) : FVec Ideal S1024x2568 .f32) slices_S1024x2568_S1024x1024_0_1544⟩]
      concatenates_S1024x1536_S1024x1024_S1024x2560_d1) bitsLt_bf16_f32 : FVec Ideal S1024x2560 .bf16) := by
    show StableHlo.after hostOps0 (fun b => m (c, b)) main_v3 = _
    after_results
  rw [e]
  simp only [pointwise]
  by_cases hlt : j.val < 1536
  · rw [dif_pos hlt]
    exact congrArg (m ((c : Thread nD τ).loc main_arg1)) (congrArg₂ ix2 (Fin.ext (Nat.zero_add _))
      (Fin.ext ((Nat.zero_add _).trans (if_pos hlt).symm)))
  · rw [dif_neg hlt]
    exact congrArg (m ((c : Thread nD τ).loc main_arg1)) (congrArg₂ ix2 (Fin.ext (Nat.zero_add _))
      (Fin.ext ((show 1544 + (j.val - 1536) = j.val + 8 by omega).trans (if_neg hlt).symm)))

/-- The reference's result, entry by entry. -/
theorem ref_apply (x : FVec Ideal S16640x1024 .f32) (w : FVec Ideal Cert.InProjRefIdeal.S1024x2568 .f32) (i : S16640x2560.Idx) :
    concatenate Cert.InProjRefIdeal.S16640x2560 1 [⟨Cert.InProjRefIdeal.S16640x1536, (extractStridedSlice Cert.InProjRefIdeal.S16640x1536 ![0, 0] (Host.dotGeneral Cert.InProjRefIdeal.dot_S16640x1024_S1024x2568_S16640x2568_1_0_0_1_n_n none x w) Cert.InProjRefIdeal.Gen.slices_S16640x2568_S16640x1536_0_0)⟩, ⟨Cert.InProjRefIdeal.S16640x1024, (extractStridedSlice Cert.InProjRefIdeal.S16640x1024 ![0, 1544] (Host.dotGeneral Cert.InProjRefIdeal.dot_S16640x1024_S1024x2568_S16640x2568_1_0_0_1_n_n none x w) Cert.InProjRefIdeal.Gen.slices_S16640x2568_S16640x1024_0_1544)⟩] Cert.InProjRefIdeal.Gen.concatenates_S16640x1536_S16640x1024_S16640x2560_d1 i
      = ∑ k : Fin 1024, x (ix2 (i 0) k) * w (ix2 k ⟨if (i 1).val < 1536 then (i 1).val else (i 1).val + 8, by have : (i 1).val < 2560 := (i 1).isLt; split <;> omega⟩) := by
  simp only [pointwise]
  have h1 : (i 1).val < 2560 := (i 1).isLt
  by_cases hlt : (i 1).val < 1536
  · rw [dif_pos hlt]
    refine (zero_add _).trans (Finset.sum_congr rfl fun k _ => congrArg₂ (· * ·) (congrArg x ?_) (congrArg w ?_))
    · exact congrArg (fun a => ix2 a k) (Fin.ext (Nat.zero_add _))
    · exact congrArg (ix2 k) (Fin.ext ((Nat.zero_add _).trans (if_pos hlt).symm))
  · rw [dif_neg hlt]
    refine (zero_add _).trans (Finset.sum_congr rfl fun k _ => congrArg₂ (· * ·) (congrArg x ?_) (congrArg w ?_))
    · exact congrArg (fun a => ix2 a k) (Fin.ext (Nat.zero_add _))
    · exact congrArg (ix2 k) (Fin.ext ((show 1544 + ((i 1).val - 1536) = (i 1).val + 8 by omega).trans (if_neg hlt).symm))

/-- The projection of the rows by the matrix but for its forget columns, entry by entry. -/
def proj (x : FVec Ideal S16640x1024 .f32) (w : FVec Ideal S1024x2568 .f32) (i : S16640x2560.Idx) : EReal :=
  ∑ k : Fin 1024, x (ix2 (i 0) k) * w (ix2 k ⟨if (i 1).val < 1536 then (i 1).val else (i 1).val + 8, by have : (i 1).val < 2560 := (i 1).isLt; split <;> omega⟩)

/-- The kernel's result is the projection of its arguments. -/
theorem result (c : Dev nD) :
    (dats m 0 c).arrAt 2 cfg0.N = proj (m ((c : Thread nD τ).loc main_arg0)) (m ((c : Thread nD τ).loc main_arg1)) := by
  rw [final]
  funext i
  unfold prod proj
  exact Finset.sum_congr rfl fun k _ => congrArg₂ (· * ·) (congrFun (V_main_arg0 m c) _) (weights m c k (i 1))

end Cert.InProjIdeal.Val

end
-- ==== Proof.V.ForgetRef.lean ====
/-
  The log forget values: the reference, entry by entry.
-/
module

public import proofs.«01_k».proof.Proof.Gen.ForgetRefIdeal.Run
public import Idealize.ShloMosaic.Lib.Pointwise

@[expose] public section

set_option maxRecDepth 16384

noncomputable section

namespace Cert.ForgetRefIdeal.Val

open Cert.ForgetRefIdeal Cert.ForgetRefIdeal.Gen Idealize.ShloMosaic Idealize.ShloMosaic.TcCoe Idealize.SL.Sem
open scoped BigOperators

/-- The logarithm of the sigmoid as the kernel writes it. -/
def logsig (z : EReal) : EReal := min z 0 - Ideal.log1p (Ideal.exp (0 - (FloatOps.absf (F := Ideal) (φ := .f32) z : EReal)))

/-- The logarithm of a real number. -/
theorem log_coe (r : ℝ) : Ideal.log (r : EReal) = if r ≤ 0 then ⊥ else (Real.log r : EReal) := rfl

/-- The logarithm of one plus an exponential is not minus infinity. -/
theorem log1p_exp_ne_bot (y : EReal) : Ideal.log1p (Ideal.exp y) ≠ ⊥ := by
  unfold Ideal.log1p
  induction y with
  | bot =>
    show Ideal.log (1 + 0) ≠ ⊥
    rw [add_zero]
    show Ideal.log ((1 : ℝ) : EReal) ≠ ⊥
    rw [log_coe, if_neg (by norm_num)]
    exact EReal.coe_ne_bot _
  | top =>
    show Ideal.log (1 + ⊤) ≠ ⊥
    rw [EReal.add_top_of_ne_bot (by exact_mod_cast EReal.coe_ne_bot 1)]
    exact top_ne_bot
  | coe r =>
    show Ideal.log (((1 : ℝ) : EReal) + ((Real.exp r : ℝ) : EReal)) ≠ ⊥
    rw [← EReal.coe_add, log_coe, if_neg (by have := Real.exp_pos r; linarith)]
    exact EReal.coe_ne_bot _

/-- The absolute value of a negated number. -/
theorem absf_neg (z : EReal) : (FloatOps.absf (F := Ideal) (φ := .f32) (-z) : EReal) = FloatOps.absf (F := Ideal) (φ := .f32) z := by
  show max (-z) (- -z) = max z (-z)
  rw [neg_neg, max_comm]

/-- Minus the softplus of the negated logit is the logarithm of the sigmoid. -/
theorem neg_softplus (z : EReal) :
    -(max (-z) 0 + Ideal.log1p (Ideal.exp (-(FloatOps.absf (F := Ideal) (φ := .f32) (-z - 0) : EReal)))) = logsig z := by
  unfold logsig
  rw [sub_zero, absf_neg, zero_sub]
  have h1 : max (-z) 0 ≠ ⊥ := fun h => absurd (h ▸ le_max_right (-z) 0 : (0 : EReal) ≤ ⊥) (by simp)
  rw [EReal.neg_add (.inl h1) (.inr (log1p_exp_ne_bot _))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The logits in the first lanes, zeros after. -/
def logits (x : FVec Ideal S16640x1024 .f32) (w : FVec Ideal S1024x2568 .f32) (b : FVec Ideal S8 .f32) : FVec Ideal S16640x128 .f32 :=
  pad S16640x128 ![0, 0] ![0, 120] ![0, 0] (addf (extractStridedSlice S16640x8 ![0, 1536] (Host.dotGeneral dot_S16640x1024_S1024x2568_S16640x2568_1_0_0_1_n_n none x w) slices_S16640x2568_S16640x8_0_1536) (broadcastInDim S16640x8 ![0, 1] bcast_S1x8_S16640x8_0_1 (broadcastInDim S1x8 ![1] bcast_S8_S1x8_1 b))) (sitofp .f32 (constantI S_ 32 0#32)) pads_S16640x8_S16640x128_000_01200 h_S_

/-- The reference's result. -/
def res (z : FVec Ideal S16640x128 .f32) : FVec Ideal S16640x128 .f32 :=
  Host.negf (select (cmpf .une (subf (Host.negf z) (broadcastInDim S16640x128 ![] bcast_S_S16640x128 (constant S_ .f32 0x00000000#32))) (subf (Host.negf z) (broadcastInDim S16640x128 ![] bcast_S_S16640x128 (constant S_ .f32 0x00000000#32)))) (addf (Host.negf z) (broadcastInDim S16640x128 ![] bcast_S_S16640x128 (constant S_ .f32 0x00000000#32))) (addf (maximumf (Host.negf z) (broadcastInDim S16640x128 ![] bcast_S_S16640x128 (constant S_ .f32 0x00000000#32))) (Host.log1p (Host.exp (Host.negf (Host.absf (subf (Host.negf z) (broadcastInDim S16640x128 ![] bcast_S_S16640x128 (constant S_ .f32 0x00000000#32)))))))))

/-- The reference's result, entry by entry. -/
theorem res_apply (z : FVec Ideal S16640x128 .f32) (i : S16640x128.Idx) : res z i = logsig (z i) := by
  unfold res
  simp only [pointwise]
  rw [if_neg (fun h => h rfl)]
  exact neg_softplus _

/-- A logit: the row times a forget column plus its offset; zero past the eighth lane. -/
def logit (x : FVec Ideal S16640x1024 .f32) (w : FVec Ideal S1024x2568 .f32) (b : FVec Ideal S8 .f32) (r : Fin 16640) (j : Fin 128) : EReal :=
  if h : j.val < 8 then (∑ k : Fin 1024, x (ix2 r k) * w (ix2 k ⟨1536 + j.val, by omega⟩)) + b (ix1 ⟨j.val, h⟩) else 0

/-- The logits, entry by entry. -/
theorem logits_apply (x : FVec Ideal S16640x1024 .f32) (w : FVec Ideal S1024x2568 .f32) (b : FVec Ideal S8 .f32) (r : Fin 16640)
    (j : Fin 128) : logits x w b (ix2 r j) = logit x w b r j := by
  unfold logits logit
  simp only [pointwise, zero_add]
  by_cases h : j.val < 8
  · rw [dif_pos h, dif_pos (by
      intro a
      match a with
      | ⟨0, _⟩ => exact ⟨Nat.zero_le _, Nat.mod_one _, by show (r.val - 0) / 1 < 16640; omega⟩
      | ⟨1, _⟩ => exact ⟨Nat.zero_le _, Nat.mod_one _, by show (j.val - 0) / 1 < 8; omega⟩)]
    refine congrArg₂ (fun s t : EReal => s + t) (Finset.sum_congr rfl fun k _ => congrArg₂ (· * ·) (congrArg (fun q => x (ix2 q k)) (Fin.ext ?_))
      (congrArg (fun q => w (ix2 k q)) (Fin.ext ?_))) (congrArg (fun q => b (ix1 q)) (Fin.ext ?_))
    · show 0 + (r.val - 0) / 1 = r.val
      omega
    · show 1536 + (j.val - 0) / 1 = 1536 + j.val
      omega
    · show (j.val - 0) / 1 = j.val
      omega
  · rw [dif_neg h, dif_neg (fun hin => h (by have := (hin ⟨1, by decide⟩).2.2; change (j.val - 0) / 1 < 8 at this; omega))]
    show (((0#32 : BitVec 32).toInt : ℝ) : EReal) = 0
    simp

end Cert.ForgetRefIdeal.Val

end
-- ==== Proof.V.Forget.lean ====
/-
  The log forget values: what the kernel's result array holds.
-/
module

public import proofs.«01_k».proof.Proof.V.ForgetRef
public import proofs.«01_k».proof.Proof.Gen.ForgetIdeal.Value
public import Idealize.ShloMosaic.Lib.Pipeline.Value
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.ForgetIdeal.Val

open Cert.ForgetIdeal Cert.ForgetIdeal.Gen Idealize.ShloMosaic Idealize.ShloMosaic.TcCoe Idealize.SL.Sem
open Idealize.ShloMosaic.Pipeline (Dat)
open Cert.ForgetRefIdeal.Val (logsig logit)
open scoped BigOperators

variable (m : (ℓ : Loc nD τ sig) → Buf (Elt Ideal) ℓ)

theorem zeros : (![0, 0] : Fin 2 → ℕ) = fun _ => 0 := funext fun a => by fin_cases a <;> rfl

/-- A block's payload, entry by entry. -/
theorem pay1_apply (x : Vec Ideal S1280x1024 .f32) (w : Vec Ideal S1024x128 .bf16) (b : Vec Ideal S1x128 .f32) (q : Fin 1280) (j : Fin 128) :
    k0_pay1 (F := Ideal) x w b (ix2 q j) = logsig ((∑ k : Fin 1024, x (ix2 q k) * w (ix2 k j)) + b (ix2 0 j)) := by
  unfold k0_pay1 logsig
  simp only [pointwise, zero_add]
  rfl

/-- Where each window's block lies at a point. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) := by decide +kernel

/-- The row of the arrays that a point's block has at `q`. -/
def at_ (t : Fin cfg0.N) (q : Fin 1280) : Fin 16640 := ⟨t.val * 1280 + q.val, by have := t.isLt; have : t.val < 13 := this; omega⟩

/-- The block of the rows. -/
theorem blk0 (c : Dev nD) (t : Fin cfg0.N) (q : Fin 1280) (k : Fin 1024) :
    (iblk m c 0 t : Vec Ideal S1280x1024 .f32) (ix2 q k) = (V m c main_arg0 : FVec Ideal S16640x1024 .f32) (ix2 (at_ t q) k) := by
  obtain ⟨⟨h0, h1⟩, -⟩ := idx t
  refine congrArg (V m c main_arg0) (funext fun a => Fin.ext ?_)
  match a with
  | ⟨0, _⟩ =>
    refine (ValueKit.view_emb_slice_whole_unit_val main_arg0 _ _ _ _ _).trans ?_
    show win0_0.index t 0 * 1280 + q.val = t.val * 1280 + q.val
    rw [h0]
  | ⟨1, _⟩ =>
    refine (ValueKit.view_emb_slice_whole_unit_val main_arg0 _ _ _ _ _).trans ?_
    show win0_0.index t 1 * 1024 + k.val = k.val
    rw [h1]; omega

/-- The forget columns. -/
theorem blk1 (c : Dev nD) (t : Fin cfg0.N) (z : Fin 1024) (k : Fin 128) :
    (iblk m c 1 t : Vec Ideal S1024x128 .bf16) (ix2 z k) = (V m c main_v2 : FVec Ideal S1024x128 .bf16) (ix2 z k) := by
  obtain ⟨-, ⟨h0, h1⟩, -⟩ := idx t
  refine congrArg (V m c main_v2) (funext fun a => Fin.ext ?_)
  match a with
  | ⟨0, _⟩ =>
    refine (ValueKit.view_emb_slice_whole_unit_val main_v2 _ _ _ _ _).trans ?_
    show win0_1.index t 0 * 1024 + z.val = z.val
    rw [h0]; omega
  | ⟨1, _⟩ =>
    refine (ValueKit.view_emb_slice_whole_unit_val main_v2 _ _ _ _ _).trans ?_
    show win0_1.index t 1 * 128 + k.val = k.val
    rw [h1]; omega

/-- The offsets. -/
theorem blk2 (c : Dev nD) (t : Fin cfg0.N) (z : Fin 1) (k : Fin 128) :
    (iblk m c 2 t : Vec Ideal S1x128 .f32) (ix2 z k) = (V m c main_v4 : FVec Ideal S1x128 .f32) (ix2 z k) := by
  obtain ⟨-, -, ⟨h0, h1⟩, -⟩ := idx t
  refine congrArg (V m c main_v4) (funext fun a => Fin.ext ?_)
  match a with
  | ⟨0, _⟩ =>
    refine (ValueKit.view_emb_slice_whole_unit_val main_v4 _ _ _ _ _).trans ?_
    show win0_2.index t 0 * 1 + z.val = z.val
    rw [h0]; omega
  | ⟨1, _⟩ =>
    refine (ValueKit.view_emb_slice_whole_unit_val main_v4 _ _ _ _ _).trans ?_
    show win0_2.index t 1 * 128 + k.val = k.val
    rw [h1]; omega

/-- The padding is zero. -/
theorem pad_zero : (FloatOps.sitofp (F := Ideal) FTy.f32 (0#32 : BitVec 32) : EReal) = 0 := by
  show (((0#32 : BitVec 32).toInt : ℝ) : EReal) = 0
  simp

/-- The forget columns as the region finds them: zero past the eighth lane. -/
theorem V_v2 (c : Dev nD) (k : Fin 1024) (j : Fin 128) : (V m c main_v2 : FVec Ideal S1024x128 .bf16) (ix2 k j)
    = if h : j.val < 8 then (m ((c : Thread nD τ).loc main_arg1) : FVec Ideal S1024x2568 .f32) (ix2 k ⟨1536 + j.val, by omega⟩) else (0 : EReal) := by
  have e : V m c main_v2 = (truncf .bf16 (pad S1024x128 ![0, 0] ![0, 120] ![0, 0] (extractStridedSlice S1024x8 ![0, 1536] (m ((c : Thread nD τ).loc main_arg1) : FVec Ideal S1024x2568 .f32) slices_S1024x2568_S1024x8_0_1536) (sitofp .f32 (constantI S_ 32 0#32)) pads_S1024x8_S1024x128_000_01200 h_S_) bitsLt_bf16_f32 : FVec Ideal S1024x128 .bf16) := by
    show StableHlo.after (List.flatten [hostOps0, hostOps0_1, hostOps0_2, hostOps0_3, hostOps0_4]) (fun b => m (c, b)) main_v2 = _
    simp only [hostOps0, hostOps0_1, hostOps0_2, hostOps0_3, hostOps0_4, List.flatten_cons, List.flatten_nil, List.append_nil,
      List.cons_append, List.nil_append, StableHlo.TRef.binary, StableHlo.TRef.unary, StableHlo.TRef.toBuf, StableHlo.TRef.ofBuf, cast_eq]
    after_results
  rw [e]
  simp only [pointwise]
  by_cases h : j.val < 8
  · rw [dif_pos h, dif_pos (by
      intro a
      match a with
      | ⟨0, _⟩ => exact ⟨Nat.zero_le _, Nat.mod_one _, by show (k.val - 0) / 1 < 1024; omega⟩
      | ⟨1, _⟩ => exact ⟨Nat.zero_le _, Nat.mod_one _, by show (j.val - 0) / 1 < 8; omega⟩)]
    refine congrArg (m ((c : Thread nD τ).loc main_arg1)) (congrArg₂ ix2 (Fin.ext ?_) (Fin.ext ?_))
    · show 0 + (k.val - 0) / 1 = k.val
      omega
    · show 1536 + (j.val - 0) / 1 = 1536 + j.val
      omega
  · rw [dif_neg h, dif_neg (fun hin => h (by have := (hin ⟨1, by decide⟩).2.2; change (j.val - 0) / 1 < 8 at this; omega))]
    exact pad_zero

/-- The offsets as the region finds them: zero past the eighth lane. -/
theorem V_v4 (c : Dev nD) (z : Fin 1) (j : Fin 128) : (V m c main_v4 : FVec Ideal S1x128 .f32) (ix2 z j)
    = if h : j.val < 8 then (m ((c : Thread nD τ).loc main_arg2) : FVec Ideal S8 .f32) (ix1 ⟨j.val, h⟩) else (0 : EReal) := by
  have e : V m c main_v4 = (shapeCast S1x128 (pad S128 ![0] ![120] ![0] (m ((c : Thread nD τ).loc main_arg2) : FVec Ideal S8 .f32) (sitofp .f32 (constantI S_ 32 0#32)) pads_S8_S128_01200 h_S_) shapeCasts_S128_S1x128 : FVec Ideal S1x128 .f32) := by
    show StableHlo.after (List.flatten [hostOps0, hostOps0_1, hostOps0_2, hostOps0_3, hostOps0_4]) (fun b => m (c, b)) main_v4 = _
    simp only [hostOps0, hostOps0_1, hostOps0_2, hostOps0_3, hostOps0_4, List.flatten_cons, List.flatten_nil, List.append_nil,
      List.cons_append, List.nil_append, StableHlo.TRef.binary, StableHlo.TRef.unary, StableHlo.TRef.toBuf, StableHlo.TRef.ofBuf, cast_eq]
    after_results
    rfl
  rw [e]
  simp only [pointwise]
  by_cases h : j.val < 8
  · rw [dif_pos h, dif_pos (by
      intro a
      match a with
      | ⟨0, _⟩ => exact ⟨Nat.zero_le _, Nat.mod_one _, by show (j.val - 0) / 1 < 8; omega⟩)]
    refine congrArg (m ((c : Thread nD τ).loc main_arg2)) (congrArg ix1 (Fin.ext ?_))
    show (j.val - 0) / 1 = j.val
    omega
  · rw [dif_neg h, dif_neg (fun hin => h (by have := (hin (0 : Fin 1)).2.2; change (j.val - 0) / 1 < 8 at this; omega))]
    exact pad_zero

/-- The result the arguments call for. -/
def want (c : Dev nD) (i : S16640x128.Idx) : EReal :=
  logsig (logit (m ((c : Thread nD τ).loc main_arg0)) (m ((c : Thread nD τ).loc main_arg1)) (m ((c : Thread nD τ).loc main_arg2)) (i 0) (i 1))

/-- A block of the result in the blocks it is computed of, entry by entry. -/
theorem out_apply (x : Vec Ideal S1280x1024 .f32) (w : Vec Ideal S1024x128 .bf16) (b : Vec Ideal S1x128 .f32) (q : Fin 1280) (j : Fin 128)
    (x' w' : Fin 1024 → EReal) (b' : EReal) (h0 : ∀ k, x (ix2 q k) = x' k) (h1 : ∀ k, w (ix2 k j) = w' k) (h2 : b (ix2 0 j) = b') :
    out0_3 (F := Ideal) x w b (ix2 q j) = logsig ((∑ k : Fin 1024, x' k * w' k) + b') := by
  unfold out0_3
  rw [View.canon_unit_zero zeros]
  repeat rw [View.ld_unit_zero zeros]
  refine (pay1_apply _ _ _ q j).trans ?_
  simp only [h0, h1, h2]

/-- What a point leaves in its block of the result, entry by entry. -/
theorem block (c : Dev nD) (t : Fin cfg0.N) (q : Fin 1280) (j : Fin 128) :
    out0_3 (F := Ideal) (iblk m c 0 t) (iblk m c 1 t) (iblk m c 2 t) (ix2 q j) = want m c (ix2 (at_ t q) j) := by
  refine (out_apply _ _ _ q j _ _ _ (fun k => (blk0 m c t q k).trans (congrFun (V_main_arg0 m c) _))
    (fun k => (blk1 m c t k j).trans (V_v2 m c k j)) ((blk2 m c t 0 j).trans (V_v4 m c 0 j))).trans (congrArg logsig ?_)
  show _ = logit _ _ _ (at_ t q) j
  unfold logit
  by_cases h : j.val < 8
  · simp only [dif_pos h]
  · simp only [dif_neg h, mul_zero, Finset.sum_const_zero, add_zero]

/-- The kernel's result array. -/
theorem result (c : Dev nD) : (dats m 0 c).arrAt 3 cfg0.N = want m c := by
  refine Dat.arrAt_eq_of_covers _ 3 _ (by decide +kernel) fun t _ y => ?_
  rw [after0_3]
  obtain ⟨q, j, hy⟩ : ∃ (q : Fin 1280) (j : Fin 128), y = ix2 q j := ⟨y 0, y 1, funext fun a => by
    match a with
    | ⟨0, _⟩ => rfl
    | ⟨1, _⟩ => rfl⟩
  subst hy
  have hb := block m c t q j
  generalize out0_3 (F := Ideal) (iblk m c 0 t) (iblk m c 1 t) (iblk m c 2 t) = o at hb ⊢
  refine hb.trans ?_
  obtain ⟨-, -, -, h0, h1⟩ := idx t
  refine congrArg (want m c) (funext fun a => Fin.ext ?_)
  match a with
  | ⟨0, _⟩ =>
    refine Eq.trans ?_ (ValueKit.view_emb_slice_whole_unit_val main_v5 _ _ _ _ 0).symm
    show t.val * 1280 + q.val = win0_3.index t 0 * 1280 + q.val
    rw [h0]
  | ⟨1, _⟩ =>
    refine Eq.trans ?_ (ValueKit.view_emb_slice_whole_unit_val main_v5 _ _ _ _ 1).symm
    show j.val = win0_3.index t 1 * 128 + j.val
    rw [h1]; omega

end Cert.ForgetIdeal.Val

end
-- ==== Proof.V.Norm.lean ====
/-
  Norms of rows over the extended reals: what both programs of the output projection compute, a row at a time.
-/
module

public import Idealize.ShloMosaic.Lib.Pointwise

@[expose] public section

noncomputable section

namespace Cert.Norm

open Idealize.ShloMosaic
open scoped BigOperators

/-- A row of 512 divided by the root of its mean square (a small constant added), times the gains. -/
def rms (x g : Fin 512 → EReal) (k : Fin 512) : EReal :=
  x k * Ideal.rsqrt (Ideal.div (∑ j, x j * x j) (Ideal.ofBits FTy.f32 0x44000000#32) + Ideal.ofBits FTy.f32 0x3727C5AC#32) * g k

/-- The mean of a row of 1024. -/
def mean (v : Fin 1024 → EReal) : EReal := Ideal.div (∑ k, v k) (Ideal.ofBits FTy.f32 0x44800000#32)

/-- A row of 1024 less its mean, divided by the root of its variance (a small constant added), times the gains, plus the
    offsets. -/
def layer (v g b : Fin 1024 → EReal) (j : Fin 1024) : EReal :=
  (v j - mean v) * Ideal.rsqrt (mean (fun k => (v k - mean v) * (v k - mean v)) + Ideal.ofBits FTy.f32 0x3727C5AC#32) * g j + b j

/-- The two normed branches times the halves of the output matrix. -/
def mix (a r ga gr : Fin 512 → EReal) (w : Fin 1024 → Fin 1024 → EReal) (j : Fin 1024) : EReal :=
  (∑ k : Fin 512, rms a ga k * w (Fin.castAdd 512 k) j) + ∑ k : Fin 512, rms r gr k * w (Fin.natAdd 512 k) j

/-- A row of the result: the scaled row that entered plus the projected branches, normed. -/
def row (a r ga gr : Fin 512 → EReal) (x : Fin 1024 → EReal) (w : Fin 1024 → Fin 1024 → EReal) (g b : Fin 1024 → EReal)
    (j : Fin 1024) : EReal :=
  layer (fun k => Ideal.ofBits FTy.f32 0x3FB504F3#32 * x k + mix a r ga gr w k) g b j

end Cert.Norm

end
-- ==== Proof.V.OutRef.lean ====
/-
  The output projection's reference, entry by entry.
-/
module

public import proofs.«01_k».proof.Proof.V.Norm
public import proofs.«01_k».proof.Proof.Gen.OutProjRefIdeal.Run

@[expose] public section

set_option maxRecDepth 16384

noncomputable section

namespace Cert.OutProjRefIdeal.Val

open Cert.OutProjRefIdeal Cert.OutProjRefIdeal.Gen Idealize.ShloMosaic Idealize.ShloMosaic.TcCoe Idealize.SL.Sem
open scoped BigOperators

/-- A branch's rows, normed. -/
def normed (x : FVec Ideal S16640x512 .f32) (g : FVec Ideal S512 .f32) : FVec Ideal S16640x512 .f32 :=
  mulf (mulf x (broadcastInDim S16640x512 ![0, 1] bcast_S16640x1_S16640x512_0_1 (Host.rsqrt (addf (Host.divf (broadcastInDim S16640x1 ![0] bcast_S16640_S16640x1_0 (Host.reduceAdd (mulf x x) (constant S_ .f32 0x00000000#32) reducesTo_S16640x512_S16640_d1 h_S_)) (broadcastInDim S16640x1 ![] bcast_S_S16640x1 (constant S_ .f32 0x44000000#32))) (broadcastInDim S16640x1 ![] bcast_S_S16640x1 (constant S_ .f32 0x3727C5AC#32)))))) (broadcastInDim S16640x512 ![0, 1] bcast_S1x512_S16640x512_0_1 (broadcastInDim S1x512 ![1] bcast_S512_S1x512_1 g))

/-- The branches side by side, times the output matrix. -/
def mixed (a b : FVec Ideal S16640x512 .f32) (w : FVec Ideal S1024x1024 .f32) : FVec Ideal S16640x1024 .f32 :=
  Host.dotGeneral dot_S16640x1024_S1024x1024_S16640x1024_1_0_0_1_n_n none (concatenate S16640x1024 1 [⟨S16640x512, a⟩, ⟨S16640x512, b⟩] concatenates_S16640x512_S16640x512_S16640x1024_d1) w

/-- The scaled rows plus the projected branches. -/
def summed (x : FVec Ideal S16640x1024 .f32) (y : FVec Ideal S16640x1024 .f32) : FVec Ideal S16640x1024 .f32 :=
  addf (mulf (broadcastInDim S16640x1024 ![] bcast_S_S16640x1024 (constant S_ .f32 0x3FB504F3#32)) x) y

/-- The means of the rows, one to a row. -/
def means (v : FVec Ideal S16640x1024 .f32) : FVec Ideal S16640x1 .f32 :=
  Host.divf (broadcastInDim S16640x1 ![0] bcast_S16640_S16640x1_0 (Host.reduceAdd v (constant S_ .f32 0x00000000#32) reducesTo_S16640x1024_S16640_d1 h_S_)) (broadcastInDim S16640x1 ![] bcast_S_S16640x1 (constant S_ .f32 0x44800000#32))

/-- The rows less their means. -/
def centred (v : FVec Ideal S16640x1024 .f32) : FVec Ideal S16640x1024 .f32 :=
  subf v (broadcastInDim S16640x1024 ![0, 1] bcast_S16640x1_S16640x1024_0_1 (means v))

/-- The rows normed, scaled and offset. -/
def layered (v : FVec Ideal S16640x1024 .f32) (g b : FVec Ideal S1024 .f32) : FVec Ideal S16640x1024 .f32 :=
  addf (mulf (mulf (centred v) (broadcastInDim S16640x1024 ![0, 1] bcast_S16640x1_S16640x1024_0_1 (Host.rsqrt (addf (means (mulf (centred v) (centred v))) (broadcastInDim S16640x1 ![] bcast_S_S16640x1 (constant S_ .f32 0x3727C5AC#32)))))) (broadcastInDim S16640x1024 ![0, 1] bcast_S1x1024_S16640x1024_0_1 (broadcastInDim S1x1024 ![1] bcast_S1024_S1x1024_1 g))) (broadcastInDim S16640x1024 ![0, 1] bcast_S1x1024_S16640x1024_0_1 (broadcastInDim S1x1024 ![1] bcast_S1024_S1x1024_1 b))

/-- The run's result is made of the parts named here. -/
theorem res_eq (m : (ℓ : Loc nD τ sig) → Buf (Elt Ideal) ℓ) (c : Dev nD) :
    Cert.OutProjRefIdeal.Value.res_main_v52 m c
      = layered (summed (m ((c.tc : Thread nD τ).loc main_arg2))
          (mixed (normed (m ((c.tc : Thread nD τ).loc main_arg0)) (m ((c.tc : Thread nD τ).loc main_arg3)))
            (normed (m ((c.tc : Thread nD τ).loc main_arg1)) (m ((c.tc : Thread nD τ).loc main_arg4)))
            (m ((c.tc : Thread nD τ).loc main_arg5))))
          (m ((c.tc : Thread nD τ).loc main_arg6)) (m ((c.tc : Thread nD τ).loc main_arg7)) := by
  unfold Cert.OutProjRefIdeal.Value.res_main_v52 layered centred means summed mixed normed
  rfl

/-- A normed branch, entry by entry. -/
theorem normed_apply (x : FVec Ideal S16640x512 .f32) (g : FVec Ideal S512 .f32) (r : Fin 16640) (k : Fin 512) :
    normed x g (ix2 r k) = Norm.rms (fun j => x (ix2 r j)) (fun j => g (ix1 j)) k := by
  unfold normed Norm.rms
  simp only [pointwise, zero_add]
  rfl

/-- The product, entry by entry. -/
theorem mixed_apply (a b : FVec Ideal S16640x512 .f32) (w : FVec Ideal S1024x1024 .f32) (r : Fin 16640) (j : Fin 1024) :
    mixed a b w (ix2 r j) = (∑ k : Fin 512, a (ix2 r k) * w (ix2 (Fin.castAdd 512 k) j))
      + ∑ k : Fin 512, b (ix2 r k) * w (ix2 (Fin.natAdd 512 k) j) := by
  unfold mixed
  simp only [pointwise, zero_add]
  refine congrArg₂ (fun s t : EReal => s + t) (Finset.sum_congr rfl fun k _ => congrArg₂ (· * ·) ?_ rfl)
    (Finset.sum_congr rfl fun k _ => congrArg₂ (· * ·) ?_ rfl)
  · rw [dif_pos trivial]
  · rw [dif_neg not_false]
    refine congrArg b (congrArg (ix2 r) (Fin.ext ?_))
    show 512 + k.val - 512 = k.val
    omega

/-- The rows before the last norm, entry by entry. -/
theorem summed_apply (x y : FVec Ideal S16640x1024 .f32) (i : S16640x1024.Idx) :
    summed x y i = Ideal.ofBits FTy.f32 0x3FB504F3#32 * x i + y i := by
  unfold summed
  simp only [pointwise]

/-- The mean of a row. -/
theorem means_apply (v : FVec Ideal S16640x1024 .f32) (r : Fin 16640) (z : Fin 1) :
    means v (ix2 r z) = Norm.mean (fun k => v (ix2 r k)) := by
  unfold means Norm.mean
  simp only [pointwise, zero_add]
  rfl

/-- A row less its mean, entry by entry. -/
theorem centred_apply (v : FVec Ideal S16640x1024 .f32) (r : Fin 16640) (j : Fin 1024) :
    centred v (ix2 r j) = v (ix2 r j) - Norm.mean (fun k => v (ix2 r k)) := by
  unfold centred
  simp only [pointwise]
  exact congrArg (v (ix2 r j) - ·) (means_apply v r 0)

/-- The last norm, entry by entry. -/
theorem layered_apply (v : FVec Ideal S16640x1024 .f32) (g b : FVec Ideal S1024 .f32) (r : Fin 16640) (j : Fin 1024) :
    layered v g b (ix2 r j) = Norm.layer (fun k => v (ix2 r k)) (fun k => g (ix1 k)) (fun k => b (ix1 k)) j := by
  unfold layered Norm.layer
  have hm := means_apply (mulf (centred v) (centred v)) r 0
  simp only [pointwise, centred_apply] at hm
  have hc := centred_apply v r j
  generalize means (mulf (centred v) (centred v)) = s at hm ⊢
  generalize centred v = u at hc ⊢
  simp only [pointwise]
  refine congrArg₂ (· + ·) (congrArg₂ (· * ·) (congrArg₂ (· * ·) hc (congrArg (fun z => Ideal.rsqrt (z + _)) hm)) rfl) rfl

/-- The reference's result, entry by entry. -/
theorem ref_apply (m : (ℓ : Loc nD τ sig) → Buf (Elt Ideal) ℓ) (c : Dev nD) (r : Fin 16640) (j : Fin 1024) :
    (Cert.OutProjRefIdeal.Value.res_main_v52 m c : FVec Ideal S16640x1024 .f32) (ix2 r j)
      = Norm.row (fun k => (m ((c.tc : Thread nD τ).loc main_arg0) : FVec Ideal S16640x512 .f32) (ix2 r k))
          (fun k => (m ((c.tc : Thread nD τ).loc main_arg1) : FVec Ideal S16640x512 .f32) (ix2 r k))
          (fun k => (m ((c.tc : Thread nD τ).loc main_arg3) : FVec Ideal S512 .f32) (ix1 k))
          (fun k => (m ((c.tc : Thread nD τ).loc main_arg4) : FVec Ideal S512 .f32) (ix1 k))
          (fun k => (m ((c.tc : Thread nD τ).loc main_arg2) : FVec Ideal S16640x1024 .f32) (ix2 r k))
          (fun k n => (m ((c.tc : Thread nD τ).loc main_arg5) : FVec Ideal S1024x1024 .f32) (ix2 k n))
          (fun k => (m ((c.tc : Thread nD τ).loc main_arg6) : FVec Ideal S1024 .f32) (ix1 k))
          (fun k => (m ((c.tc : Thread nD τ).loc main_arg7) : FVec Ideal S1024 .f32) (ix1 k)) j := by
  rw [res_eq]
  refine (layered_apply _ _ _ r j).trans ?_
  unfold Norm.row Norm.mix
  simp only [summed_apply, mixed_apply, normed_apply]

end Cert.OutProjRefIdeal.Val

end
-- ==== Proof.V.OutProj.lean ====
/-
  The output projection's kernel: what its first result array holds.
-/
module

public import proofs.«01_k».proof.Proof.V.Norm
public import proofs.«01_k».proof.Proof.Gen.OutProjIdeal.Value
public import Idealize.ShloMosaic.Lib.Pipeline.Value
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.OutProjIdeal.Val

open Cert.OutProjIdeal Cert.OutProjIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem zeros : (![0, 0] : Fin 2 → ℕ) = fun _ => 0 := funext fun a => by fin_cases a <;> rfl

/-- A block's projected branches, entry by entry. -/
theorem pay1_apply (a r : Vec Ideal S1280x512 .f32) (ga gr : Vec Ideal S1x512 .f32) (wa wr : Vec Ideal S512x1024 .bf16)
    (q : Fin 1280) (j : Fin 1024) :
    k0_pay1 (F := Ideal) a ga r gr wa wr (ix2 q j)
      = (∑ k : Fin 512, Norm.rms (fun k => a (ix2 q k)) (fun k => ga (ix2 0 k)) k * wa (ix2 k j))
        + ∑ k : Fin 512, Norm.rms (fun k => r (ix2 q k)) (fun k => gr (ix2 0 k)) k * wr (ix2 k j) := by
  unfold k0_pay1 Norm.rms
  simp only [pointwise, zero_add]
  rfl

/-- A block's result, entry by entry. -/
theorem pay2_apply (s x : Vec Ideal S1280x1024 .f32) (g b : Vec Ideal S1x1024 .f32) (q : Fin 1280) (j : Fin 1024) :
    k0_pay2 (F := Ideal) s x g b (ix2 q j)
      = Norm.layer (fun k => Ideal.ofBits FTy.f32 0x3FB504F3#32 * x (ix2 q k) + s (ix2 q k)) (fun k => g (ix2 0 k))
          (fun k => b (ix2 0 k)) j := by
  unfold k0_pay2 Norm.layer Norm.mean
  simp only [pointwise]
  rfl

/-- Where each window's block lies at a point. -/
theorem idx : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_11.index t 0 = t.val ∧ win0_11.index t 1 = 0) := by decide +kernel

/-- The row of the arrays that a point's block has at `q`. -/
def at_ (t : Fin cfg0.N) (q : Fin 1280) : Fin 16640 := ⟨t.val * 1280 + q.val, by have := t.isLt; have : t.val < 13 := this; omega⟩

/-- The first branch's block. -/
theorem blk0 (c : Dev nD) (t : Fin cfg0.N) (q : Fin 1280) (k : Fin 512) :
    (iblk m c 0 t : Vec Ideal S1280x512 .f32) (ix2 q k) = (V m c main_arg0 : FVec Ideal S16640x512 .f32) (ix2 (at_ t q) k) := by
  obtain ⟨⟨h0, h1⟩, -⟩ := idx t
  refine congrArg (V m c main_arg0) (funext fun a => Fin.ext ?_)
  match a with
  | ⟨0, _⟩ =>
    refine (ValueKit.view_emb_slice_whole_unit_val main_arg0 _ _ _ _ _).trans ?_
    show win0_0.index t 0 * 1280 + q.val = t.val * 1280 + q.val
    rw [h0]
  | ⟨1, _⟩ =>
    refine (ValueKit.view_emb_slice_whole_unit_val main_arg0 _ _ _ _ _).trans ?_
    show win0_0.index t 1 * 512 + k.val = k.val
    rw [h1]; omega

/-- The second branch's block. -/
theorem blk1 (c : Dev nD) (t : Fin cfg0.N) (q : Fin 1280) (k : Fin 512) :
    (iblk m c 1 t : Vec Ideal S1280x512 .f32) (ix2 q k) = (V m c main_arg1 : FVec Ideal S16640x512 .f32) (ix2 (at_ t q) k) := by
  obtain ⟨-, ⟨h0, h1⟩, -⟩ := idx t
  refine congrArg (V m c main_arg1) (funext fun a => Fin.ext ?_)
  match a with
  | ⟨0, _⟩ =>
    refine (ValueKit.view_emb_slice_whole_unit_val main_arg1 _ _ _ _ _).trans ?_
    show win0_1.index t 0 * 1280 + q.val = t.val * 1280 + q.val
    rw [h0]
  | ⟨1, _⟩ =>
    refine (ValueKit.view_emb_slice_whole_unit_val main_arg1 _ _ _ _ _).trans ?_
    show win0_1.index t 1 * 512 + k.val = k.val
    rw [h1]; omega

/-- The block of the rows that entered. -/
theorem blk2 (c : Dev nD) (t : Fin cfg0.N) (q : Fin 1280) (k : Fin 1024) :
    (iblk m c 2 t : Vec Ideal S1280x1024 .f32) (ix2 q k) = (V m c main_arg2 : FVec Ideal S16640x1024 .f32) (ix2 (at_ t q) k) := by
  obtain ⟨-, -, ⟨h0, h1⟩, -⟩ := idx t
  refine congrArg (V m c main_arg2) (funext fun a => Fin.ext ?_)
  match a with
  | ⟨0, _⟩ =>
    refine (ValueKit.view_emb_slice_whole_unit_val main_arg2 _ _ _ _ _).trans ?_
    show win0_2.index t 0 * 1280 + q.val = t.val * 1280 + q.val
    rw [h0]
  | ⟨1, _⟩ =>
    refine (ValueKit.view_emb_slice_whole_unit_val main_arg2 _ _ _ _ _).trans ?_
    show win0_2.index t 1 * 1024 + k.val = k.val
    rw [h1]; omega

/-- The first branch's gains. -/
theorem blk3 (c : Dev nD) (t : Fin cfg0.N) (z : Fin 1) (k : Fin 512) :
    (iblk m c 3 t : Vec Ideal S1x512 .f32) (ix2 z k) = (V m c main_v4 : FVec Ideal S1x512 .f32) (ix2 z k) := by
  obtain ⟨-, -, -, ⟨h0, h1⟩, -⟩ := idx t
  refine congrArg (V m c main_v4) (funext fun a => Fin.ext ?_)
  match a with
  | ⟨0, _⟩ =>
    refine (ValueKit.view_emb_slice_whole_unit_val main_v4 _ _ _ _ _).trans ?_
    show win0_3.index t 0 * 1 + z.val = z.val
    rw [h0]; omega
  | ⟨1, _⟩ =>
    refine (ValueKit.view_emb_slice_whole_unit_val main_v4 _ _ _ _ _).trans ?_
    show win0_3.index t 1 * 512 + k.val = k.val
    rw [h1]; omega

/-- The second branch's gains. -/
theorem blk4 (c : Dev nD) (t : Fin cfg0.N) (z : Fin 1) (k : Fin 512) :
    (iblk m c 4 t : Vec Ideal S1x512 .f32) (ix2 z k) = (V m c main_v5 : FVec Ideal S1x512 .f32) (ix2 z k) := by
  obtain ⟨-, -, -, -, ⟨h0, h1⟩, -⟩ := idx t
  refine congrArg (V m c main_v5) (funext fun a => Fin.ext ?_)
  match a with
  | ⟨0, _⟩ =>
    refine (ValueKit.view_emb_slice_whole_unit_val main_v5 _ _ _ _ _).trans ?_
    show win0_4.index t 0 * 1 + z.val = z.val
    rw [h0]; omega
  | ⟨1, _⟩ =>
    refine (ValueKit.view_emb_slice_whole_unit_val main_v5 _ _ _ _ _).trans ?_
    show win0_4.index t 1 * 512 + k.val = k.val
    rw [h1]; omega

/-- The upper half of the output matrix. -/
theorem blk5 (c : Dev nD) (t : Fin cfg0.N) (z : Fin 512) (k : Fin 1024) :
    (iblk m c 5 t : Vec Ideal S512x1024 .bf16) (ix2 z k) = (V m c main_v7 : FVec Ideal S512x1024 .bf16) (ix2 z k) := by
  obtain ⟨-, -, -, -, -, ⟨h0, h1⟩, -⟩ := idx t
  refine congrArg (V m c main_v7) (funext fun a => Fin.ext ?_)
  match a with
  | ⟨0, _⟩ =>
    refine (ValueKit.view_emb_slice_whole_unit_val main_v7 _ _ _ _ _).trans ?_
    show win0_5.index t 0 * 512 + z.val = z.val
    rw [h0]; omega
  | ⟨1, _⟩ =>
    refine (ValueKit.view_emb_slice_whole_unit_val main_v7 _ _ _ _ _).trans ?_
    show win0_5.index t 1 * 1024 + k.val = k.val
    rw [h1]; omega

/-- The lower half of the output matrix. -/
theorem blk6 (c : Dev nD) (t : Fin cfg0.N) (z : Fin 512) (k : Fin 1024) :
    (iblk m c 6 t : Vec Ideal S512x1024 .bf16) (ix2 z k) = (V m c main_v9 : FVec Ideal S512x1024 .bf16) (ix2 z k) := by
  obtain ⟨-, -, -, -, -, -, ⟨h0, h1⟩, -⟩ := idx t
  refine congrArg (V m c main_v9) (funext fun a => Fin.ext ?_)
  match a with
  | ⟨0, _⟩ =>
    refine (ValueKit.view_emb_slice_whole_unit_val main_v9 _ _ _ _ _).trans ?_
    show win0_6.index t 0 * 512 + z.val = z.val
    rw [h0]; omega
  | ⟨1, _⟩ =>
    refine (ValueKit.view_emb_slice_whole_unit_val main_v9 _ _ _ _ _).trans ?_
    show win0_6.index t 1 * 1024 + k.val = k.val
    rw [h1]; omega

/-- The last norm's gains. -/
theorem blk7 (c : Dev nD) (t : Fin cfg0.N) (z : Fin 1) (k : Fin 1024) :
    (iblk m c 7 t : Vec Ideal S1x1024 .f32) (ix2 z k) = (V m c main_v10 : FVec Ideal S1x1024 .f32) (ix2 z k) := by
  obtain ⟨-, -, -, -, -, -, -, ⟨h0, h1⟩, -⟩ := idx t
  refine congrArg (V m c main_v10) (funext fun a => Fin.ext ?_)
  match a with
  | ⟨0, _⟩ =>
    refine (ValueKit.view_emb_slice_whole_unit_val main_v10 _ _ _ _ _).trans ?_
    show win0_7.index t 0 * 1 + z.val = z.val
    rw [h0]; omega
  | ⟨1, _⟩ =>
    refine (ValueKit.view_emb_slice_whole_unit_val main_v10 _ _ _ _ _).trans ?_
    show win0_7.index t 1 * 1024 + k.val = k.val
    rw [h1]; omega

/-- The last norm's offsets. -/
theorem blk8 (c : Dev nD) (t : Fin cfg0.N) (z : Fin 1) (k : Fin 1024) :
    (iblk m c 8 t : Vec Ideal S1x1024 .f32) (ix2 z k) = (V m c main_v11 : FVec Ideal S1x1024 .f32) (ix2 z k) := by
  obtain ⟨-, -, -, -, -, -, -, -, ⟨h0, h1⟩, -⟩ := idx t
  refine congrArg (V m c main_v11) (funext fun a => Fin.ext ?_)
  match a with
  | ⟨0, _⟩ =>
    refine (ValueKit.view_emb_slice_whole_unit_val main_v11 _ _ _ _ _).trans ?_
    show win0_8.index t 0 * 1 + z.val = z.val
    rw [h0]; omega
  | ⟨1, _⟩ =>
    refine (ValueKit.view_emb_slice_whole_unit_val main_v11 _ _ _ _ _).trans ?_
    show win0_8.index t 1 * 1024 + k.val = k.val
    rw [h1]; omega

/-- The first branch's gains as the region finds them. -/
theorem V_v4 (c : Dev nD) (z : Fin 1) (k : Fin 512) : (V m c main_v4 : FVec Ideal S1x512 .f32) (ix2 z k)
    = (m ((c : Thread nD τ).loc main_arg3) : FVec Ideal S512 .f32) (ix1 k) := by
  have e : (V m c main_v4 : FVec Ideal S1x512 .f32) = shapeCast S1x512 (m ((c : Thread nD τ).loc main_arg3) : FVec Ideal S512 .f32) shapeCasts_S512_S1x512 := by
    show StableHlo.after (List.flatten [hostOps0, hostOps0_1, hostOps0_2, hostOps0_3, hostOps0_4]) (fun b => m (c, b)) main_v4 = _
    simp only [hostOps0, hostOps0_1, hostOps0_2, hostOps0_3, hostOps0_4, List.flatten_cons, List.flatten_nil, List.append_nil,
      List.cons_append, List.nil_append]
    after_results
    rfl
  rw [e]
  simp only [pointwise]

/-- The second branch's gains as the region finds them. -/
theorem V_v5 (c : Dev nD) (z : Fin 1) (k : Fin 512) : (V m c main_v5 : FVec Ideal S1x512 .f32) (ix2 z k)
    = (m ((c : Thread nD τ).loc main_arg4) : FVec Ideal S512 .f32) (ix1 k) := by
  have e : (V m c main_v5 : FVec Ideal S1x512 .f32) = shapeCast S1x512 (m ((c : Thread nD τ).loc main_arg4) : FVec Ideal S512 .f32) shapeCasts_S512_S1x512 := by
    show StableHlo.after (List.flatten [hostOps0, hostOps0_1, hostOps0_2, hostOps0_3, hostOps0_4]) (fun b => m (c, b)) main_v5 = _
    simp only [hostOps0, hostOps0_1, hostOps0_2, hostOps0_3, hostOps0_4, List.flatten_cons, List.flatten_nil, List.append_nil,
      List.cons_append, List.nil_append]
    after_results
    rfl
  rw [e]
  simp only [pointwise]

/-- The upper half of the output matrix as the region finds it. -/
theorem V_v7 (c : Dev nD) (k : Fin 512) (j : Fin 1024) : (V m c main_v7 : FVec Ideal S512x1024 .bf16) (ix2 k j)
    = (m ((c : Thread nD τ).loc main_arg5) : FVec Ideal S1024x1024 .f32) (ix2 (Fin.castAdd 512 k) j) := by
  have e : V m c main_v7 = (truncf .bf16 (extractStridedSlice S512x1024 ![0, 0] (m ((c : Thread nD τ).loc main_arg5) : FVec Ideal S1024x1024 .f32) slices_S1024x1024_S512x1024_0_0) bitsLt_bf16_f32 : FVec Ideal S512x1024 .bf16) := by
    show StableHlo.after (List.flatten [hostOps0, hostOps0_1, hostOps0_2, hostOps0_3, hostOps0_4]) (fun b => m (c, b)) main_v7 = _
    simp only [hostOps0, hostOps0_1, hostOps0_2, hostOps0_3, hostOps0_4, List.flatten_cons, List.flatten_nil, List.append_nil,
      List.cons_append, List.nil_append]
    after_results
  rw [e]
  simp only [pointwise]
  exact congrArg (m ((c : Thread nD τ).loc main_arg5)) (congrArg₂ ix2 (Fin.ext (Nat.zero_add _)) (Fin.ext (Nat.zero_add _)))

/-- The lower half of the output matrix as the region finds it. -/
theorem V_v9 (c : Dev nD) (k : Fin 512) (j : Fin 1024) : (V m c main_v9 : FVec Ideal S512x1024 .bf16) (ix2 k j)
    = (m ((c : Thread nD τ).loc main_arg5) : FVec Ideal S1024x1024 .f32) (ix2 (Fin.natAdd 512 k) j) := by
  have e : V m c main_v9 = (truncf .bf16 (extractStridedSlice S512x1024 ![512, 0] (m ((c : Thread nD τ).loc main_arg5) : FVec Ideal S1024x1024 .f32) slices_S1024x1024_S512x1024_512_0) bitsLt_bf16_f32 : FVec Ideal S512x1024 .bf16) := by
    show StableHlo.after (List.flatten [hostOps0, hostOps0_1, hostOps0_2, hostOps0_3, hostOps0_4]) (fun b => m (c, b)) main_v9 = _
    simp only [hostOps0, hostOps0_1, hostOps0_2, hostOps0_3, hostOps0_4, List.flatten_cons, List.flatten_nil, List.append_nil,
      List.cons_append, List.nil_append]
    after_results
  rw [e]
  simp only [pointwise]
  exact congrArg (m ((c : Thread nD τ).loc main_arg5)) (congrArg₂ ix2 (Fin.ext rfl) (Fin.ext (Nat.zero_add _)))

/-- The last norm's gains as the region finds them. -/
theorem V_v10 (c : Dev nD) (z : Fin 1) (k : Fin 1024) : (V m c main_v10 : FVec Ideal S1x1024 .f32) (ix2 z k)
    = (m ((c : Thread nD τ).loc main_arg6) : FVec Ideal S1024 .f32) (ix1 k) := by
  have e : (V m c main_v10 : FVec Ideal S1x1024 .f32) = shapeCast S1x1024 (m ((c : Thread nD τ).loc main_arg6) : FVec Ideal S1024 .f32) shapeCasts_S1024_S1x1024 := by
    show StableHlo.after (List.flatten [hostOps0, hostOps0_1, hostOps0_2, hostOps0_3, hostOps0_4]) (fun b => m (c, b)) main_v10 = _
    simp only [hostOps0, hostOps0_1, hostOps0_2, hostOps0_3, hostOps0_4, List.flatten_cons, List.flatten_nil, List.append_nil,
      List.cons_append, List.nil_append]
    after_results
    rfl
  rw [e]
  simp only [pointwise]

/-- The last norm's offsets as the region finds them. -/
theorem V_v11 (c : Dev nD) (z : Fin 1) (k : Fin 1024) : (V m c main_v11 : FVec Ideal S1x1024 .f32) (ix2 z k)
    = (m ((c : Thread nD τ).loc main_arg7) : FVec Ideal S1024 .f32) (ix1 k) := by
  have e : (V m c main_v11 : FVec Ideal S1x1024 .f32) = shapeCast S1x1024 (m ((c : Thread nD τ).loc main_arg7) : FVec Ideal S1024 .f32) shapeCasts_S1024_S1x1024 := by
    show StableHlo.after (List.flatten [hostOps0, hostOps0_1, hostOps0_2, hostOps0_3, hostOps0_4]) (fun b => m (c, b)) main_v11 = _
    simp only [hostOps0, hostOps0_1, hostOps0_2, hostOps0_3, hostOps0_4, List.flatten_cons, List.flatten_nil, List.append_nil,
      List.cons_append, List.nil_append]
    after_results
    rfl
  rw [e]
  simp only [pointwise]

/-- The result the arguments call for. -/
def want (c : Dev nD) (i : S16640x1024.Idx) : EReal :=
  Norm.row (fun k => (m ((c : Thread nD τ).loc main_arg0) : FVec Ideal S16640x512 .f32) (ix2 (i 0) k))
    (fun k => (m ((c : Thread nD τ).loc main_arg1) : FVec Ideal S16640x512 .f32) (ix2 (i 0) k))
    (fun k => (m ((c : Thread nD τ).loc main_arg3) : FVec Ideal S512 .f32) (ix1 k))
    (fun k => (m ((c : Thread nD τ).loc main_arg4) : FVec Ideal S512 .f32) (ix1 k))
    (fun k => (m ((c : Thread nD τ).loc main_arg2) : FVec Ideal S16640x1024 .f32) (ix2 (i 0) k))
    (fun k n => (m ((c : Thread nD τ).loc main_arg5) : FVec Ideal S1024x1024 .f32) (ix2 k n))
    (fun k => (m ((c : Thread nD τ).loc main_arg6) : FVec Ideal S1024 .f32) (ix1 k))
    (fun k => (m ((c : Thread nD τ).loc main_arg7) : FVec Ideal S1024 .f32) (ix1 k)) (i 1)

/-- A block of the result in the blocks it is computed of, entry by entry. -/
theorem out_apply (x0 x1 : Vec Ideal S1280x512 .f32) (x2 : Vec Ideal S1280x1024 .f32) (x3 x4 : Vec Ideal S1x512 .f32)
    (x5 x6 : Vec Ideal S512x1024 .bf16) (x7 x8 : Vec Ideal S1x1024 .f32) (x9 : Vec Ideal S1024x128 .bf16) (x10 : Vec Ideal S1x128 .f32)
    (q : Fin 1280) (j : Fin 1024) :
    out0_11 (F := Ideal) x0 x1 x2 x3 x4 x5 x6 x7 x8 x9 x10 (ix2 q j)
      = Norm.layer (fun k => Ideal.ofBits FTy.f32 0x3FB504F3#32 * x2 (ix2 q k)
          + ((∑ l : Fin 512, Norm.rms (fun l => x0 (ix2 q l)) (fun l => x3 (ix2 0 l)) l * x5 (ix2 l k))
            + ∑ l : Fin 512, Norm.rms (fun l => x1 (ix2 q l)) (fun l => x4 (ix2 0 l)) l * x6 (ix2 l k)))
          (fun k => x7 (ix2 0 k)) (fun k => x8 (ix2 0 k)) j := by
  unfold out0_11 k0_pay55
  rw [View.canon_unit_zero zeros]
  repeat rw [View.ld_unit_zero zeros]
  refine (pay2_apply _ _ _ _ q j).trans ?_
  simp only [pay1_apply]

/-- The same, the blocks' entries given. -/
theorem out_row (x0 x1 : Vec Ideal S1280x512 .f32) (x2 : Vec Ideal S1280x1024 .f32) (x3 x4 : Vec Ideal S1x512 .f32)
    (x5 x6 : Vec Ideal S512x1024 .bf16) (x7 x8 : Vec Ideal S1x1024 .f32) (x9 : Vec Ideal S1024x128 .bf16) (x10 : Vec Ideal S1x128 .f32)
    (q : Fin 1280) (j : Fin 1024) (a r ga gr : Fin 512 → EReal) (x g b : Fin 1024 → EReal) (w : Fin 1024 → Fin 1024 → EReal)
    (h0 : ∀ k, x0 (ix2 q k) = a k) (h1 : ∀ k, x1 (ix2 q k) = r k) (h2 : ∀ k, x2 (ix2 q k) = x k)
    (h3 : ∀ k, x3 (ix2 0 k) = ga k) (h4 : ∀ k, x4 (ix2 0 k) = gr k)
    (h5 : ∀ k n, x5 (ix2 k n) = w (Fin.castAdd 512 k) n) (h6 : ∀ k n, x6 (ix2 k n) = w (Fin.natAdd 512 k) n)
    (h7 : ∀ k, x7 (ix2 0 k) = g k) (h8 : ∀ k, x8 (ix2 0 k) = b k) :
    out0_11 (F := Ideal) x0 x1 x2 x3 x4 x5 x6 x7 x8 x9 x10 (ix2 q j) = Norm.row a r ga gr x w g b j := by
  rw [out_apply]
  unfold Norm.row Norm.mix
  simp only [h0, h1, h2, h3, h4, h5, h6, h7, h8]

/-- What a point leaves in its block of the result, entry by entry. -/
theorem block (c : Dev nD) (t : Fin cfg0.N) (q : Fin 1280) (j : Fin 1024) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 q j)
      = want m c (ix2 (at_ t q) j) :=
  out_row _ _ _ _ _ _ _ _ _ _ _ q j _ _ _ _ _ _ _ _
    (fun k => (blk0 m c t q k).trans (congrFun (V_main_arg0 m c) _))
    (fun k => (blk1 m c t q k).trans (congrFun (V_main_arg1 m c) _))
    (fun k => (blk2 m c t q k).trans (congrFun (V_main_arg2 m c) _))
    (fun k => (blk3 m c t 0 k).trans (V_v4 m c 0 k)) (fun k => (blk4 m c t 0 k).trans (V_v5 m c 0 k))
    (fun k n => (blk5 m c t k n).trans (V_v7 m c k n)) (fun k n => (blk6 m c t k n).trans (V_v9 m c k n))
    (fun k => (blk7 m c t 0 k).trans (V_v10 m c 0 k)) (fun k => (blk8 m c t 0 k).trans (V_v11 m c 0 k))

/-- The kernel's first result array. -/
theorem result (c : Dev nD) : (dats m 0 c).arrAt 11 cfg0.N = want m c := by
  refine Dat.arrAt_eq_of_covers _ 11 _ (by decide +kernel) fun t _ y => ?_
  rw [after0_11]
  obtain ⟨q, j, hy⟩ : ∃ (q : Fin 1280) (j : Fin 1024), y = ix2 q j := ⟨y 0, y 1, funext fun a => by
    match a with
    | ⟨0, _⟩ => rfl
    | ⟨1, _⟩ => rfl⟩
  subst hy
  have hb := block m c t q j
  generalize out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) = o at hb ⊢
  refine hb.trans ?_
  obtain ⟨-, -, -, -, -, -, -, -, -, h0, h1⟩ := idx t
  refine congrArg (want m c) (funext fun a => Fin.ext ?_)
  match a with
  | ⟨0, _⟩ =>
    refine Eq.trans ?_ (ValueKit.view_emb_slice_whole_unit_val main_v12_0 _ _ _ _ 0).symm
    show t.val * 1280 + q.val = win0_11.index t 0 * 1280 + q.val
    rw [h0]
  | ⟨1, _⟩ =>
    refine Eq.trans ?_ (ValueKit.view_emb_slice_whole_unit_val main_v12_0 _ _ _ _ 1).symm
    show j.val = win0_11.index t 1 * 1024 + j.val
    rw [h1]; omega

end Cert.OutProjIdeal.Val

end
-- ==== Proof.V.Scan.lean ====
/-
  The gated linear recurrence of one channel, as numbers: the filter over four rows, the gates, the decay, the steps.
-/
module

public import Idealize.ShloMosaic.Lib.Pointwise

@[expose] public section

noncomputable section

namespace Cert.Scan

open Idealize.ShloMosaic
open scoped BigOperators

/-- The word of one. -/
theorem one_word : Ideal.ofBits FTy.f32 0x3F800000#32 = 1 := by
  simp [Ideal.ofBits, Ideal.ieee, -EReal.coe_mul]
  norm_num

/-- The word of two. -/
theorem two_word : Ideal.ofBits FTy.f32 0x40000000#32 = 2 := by
  simp [Ideal.ofBits, Ideal.ieee, -EReal.coe_mul]
  norm_num
  rfl

/-- The word of zero. -/
theorem zero_word : Ideal.ofBits FTy.f32 0x00000000#32 = 0 := by
  simp [Ideal.ofBits, Ideal.ieee]

/-- Four rows, each times its tap, and an offset. -/
def filt (b : EReal) (t w : Fin 4 → EReal) : EReal := b + t 0 * w 0 + t 1 * w 1 + t 2 * w 2 + t 3 * w 3

/-- The softplus of a number's negative. -/
def soft (l : EReal) : EReal := max (-l) 0 + Ideal.log1p (Ideal.exp (-(FloatOps.absf (F := Ideal) (φ := .f32) (-l) : EReal)))

/-- The logarithm of the decay: minus eight times the softplus times the gate. -/
def decay (l g : EReal) : EReal := Ideal.ofBits FTy.f32 0xC1000000#32 * soft l * Ideal.logistic g

/-- What a step adds: the filtered row, gated, times the root of one less the decay's square. -/
def put (d i x : EReal) : EReal := Ideal.sqrt (-(Ideal.expm1 (2 * d))) * (Ideal.logistic i * x)

/-- The state after so many steps. -/
def state (a b : Fin 8 → EReal) (h : EReal) : ℕ → EReal
  | 0 => h
  | n + 1 => a (Fin.ofNat 8 n) * state a b h n + b (Fin.ofNat 8 n)

/-- The branch's gate: the approximate gelu. -/
def gelu (z : EReal) : EReal :=
  z * (Ideal.ofBits FTy.f32 0x3F000000#32 * (1 + Ideal.tanh (Ideal.ofBits FTy.f32 0x3F4C422A#32
    * (z + Ideal.ofBits FTy.f32 0x3D372713#32 * (z * (z * z))))))

/-- The hyperbolic tangent times one more than the square of the exponential is that square less one. -/
theorem tanh_mul (r : ℝ) : Real.tanh r * (Real.exp r * Real.exp r + 1) = Real.exp (2 * r) - 1 := by
  have h := Real.exp_pos r
  have e2 : Real.exp (2 * r) = Real.exp r * Real.exp r := by rw [two_mul, Real.exp_add]
  rw [Real.tanh_eq_sinh_div_cosh, Real.sinh_eq, Real.cosh_eq, Real.exp_neg, e2]
  have h2 : Real.exp r * Real.exp r + 1 ≠ 0 := by positivity
  field_simp

/-- The kernel's root is the reference's. -/
theorem root_eq (x : EReal) :
    Ideal.sqrt ((0 - Ideal.tanh x) * (Ideal.exp x * Ideal.exp x + 1)) = Ideal.sqrt (-(Ideal.expm1 (2 * x))) := by
  congr 1
  unfold Ideal.expm1
  induction x with
  | bot =>
    rw [EReal.mul_bot_of_pos (by norm_num)]
    show (0 - (-1)) * ((0 : EReal) * 0 + 1) = -((0 : EReal) - 1)
    simp
  | top =>
    rw [EReal.mul_top_of_pos (by norm_num)]
    show ((0 : EReal) - 1) * ((⊤ : EReal) * ⊤ + 1) = -((⊤ : EReal) - 1)
    rw [EReal.top_mul_top, EReal.top_add_of_ne_bot (by exact_mod_cast EReal.coe_ne_bot 1), zero_sub,
      EReal.mul_top_of_neg (by norm_num), sub_eq_add_neg, EReal.top_add_of_ne_bot (by rw [show (-1 : EReal) = ((-1 : ℝ) : EReal) by simp]; exact EReal.coe_ne_bot _)]
    rfl
  | coe r =>
    show (0 - ((Real.tanh r : ℝ) : EReal)) * (((Real.exp r : ℝ) : EReal) * ((Real.exp r : ℝ) : EReal) + ((1 : ℝ) : EReal))
      = -(Ideal.exp (((2 : ℝ) : EReal) * (r : EReal)) - ((1 : ℝ) : EReal))
    rw [← EReal.coe_mul (2 : ℝ) r]
    show (0 - ((Real.tanh r : ℝ) : EReal)) * (((Real.exp r : ℝ) : EReal) * ((Real.exp r : ℝ) : EReal) + ((1 : ℝ) : EReal))
      = -(((Real.exp (2 * r) : ℝ) : EReal) - ((1 : ℝ) : EReal))
    rw [zero_sub, ← EReal.coe_mul, ← EReal.coe_add, ← EReal.coe_neg, ← EReal.coe_mul, ← EReal.coe_sub, ← EReal.coe_neg,
      neg_mul, tanh_mul]

/-- The channel of a block and a place in it. -/
def chan (n : Fin 8) (k : Fin 64) : Fin 512 := ⟨64 * n.val + k.val, by omega⟩

/-- A channel's block. -/
def blk (j : Fin 512) : Fin 8 := ⟨j.val / 64, by omega⟩

/-- A channel's place in its block. -/
def pos (j : Fin 512) : Fin 64 := ⟨j.val % 64, by omega⟩

/-- A gate: the channel's block times its column of the block's matrix, and an offset. -/
def gate (x : Fin 512 → EReal) (w : Fin 8 → Fin 64 → Fin 64 → EReal) (b : EReal) (j : Fin 512) : EReal :=
  (∑ k : Fin 64, x (chan (blk j) k) * w (blk j) k (pos j)) + b

/-- What one sequence's recurrence is made of: the carried rows, the new rows, the gating rows, the carried state, the taps
    and their offsets, the two gates' matrices and offsets, and the decay's parameter. -/
structure Args where
  /-- The three rows carried over. -/
  carried : Fin 3 → Fin 512 → EReal
  /-- The eight new rows. -/
  rows : Fin 8 → Fin 512 → EReal
  /-- The rows the branch is gated by. -/
  side : Fin 8 → Fin 512 → EReal
  /-- The state carried over. -/
  start : Fin 512 → EReal
  /-- The filter's taps. -/
  taps : Fin 4 → Fin 512 → EReal
  /-- The filter's offsets. -/
  off : Fin 512 → EReal
  /-- The recurrence gate's matrices. -/
  wr : Fin 8 → Fin 64 → Fin 64 → EReal
  /-- The recurrence gate's offsets. -/
  br : Fin 512 → EReal
  /-- The input gate's matrices. -/
  wi : Fin 8 → Fin 64 → Fin 64 → EReal
  /-- The input gate's offsets. -/
  bi : Fin 512 → EReal
  /-- The decay's parameter. -/
  lam : Fin 512 → EReal

namespace Args

variable (A : Args)

/-- The carried rows, then the new ones. -/
def line (s : Fin 11) (j : Fin 512) : EReal := if h : s.val < 3 then A.carried ⟨s.val, h⟩ j else A.rows ⟨s.val - 3, by omega⟩ j

/-- The filtered rows. -/
def conv (s : Fin 8) (j : Fin 512) : EReal := filt (A.off j) (fun i => A.line ⟨i.val + s.val, by omega⟩ j) (fun i => A.taps i j)

/-- The logarithm of the decay at a row. -/
def logd (s : Fin 8) (j : Fin 512) : EReal := decay (A.lam j) (gate (A.conv s) A.wr (A.br j) j)

/-- What a row adds to the state. -/
def inc (s : Fin 8) (j : Fin 512) : EReal := put (A.logd s j) (gate (A.conv s) A.wi (A.bi j) j) (A.conv s j)

/-- The state after so many rows. -/
def st (n : ℕ) (j : Fin 512) : EReal := state (fun s => Ideal.exp (A.logd s j)) (fun s => A.inc s j) (A.start j) n

/-- The branch's row. -/
def out (s : Fin 8) (j : Fin 512) : EReal := A.st (s.val + 1) j * gelu (A.side s j)

end Args

/-- A sum over the channels is one over the blocks and the places. -/
theorem sum_chan (f : Fin 512 → EReal) : ∑ k, f k = ∑ n : Fin 8, ∑ k : Fin 64, f (chan n k) := by
  rw [← Fintype.sum_prod_type' (f := fun (n : Fin 8) (k : Fin 64) => f (chan n k))]
  refine (Fintype.sum_equiv (finProdFinEquiv (m := 8) (n := 64)) _ _ fun p => congrArg f (Fin.ext ?_)).symm
  show 64 * p.1.val + p.2.val = p.2.val + 64 * p.1.val
  omega

/-- Times a matrix that is zero off the channel's block, only that block counts. -/
theorem sum_diag (x : Fin 512 → EReal) (w : Fin 8 → Fin 64 → EReal) (e : Fin 8 → EReal) (b : Fin 8)
    (h1 : e b = 1) (h0 : ∀ n, n ≠ b → e n = 0) :
    ∑ k : Fin 512, x k * (w (blk k) (pos k) * e (blk k)) = ∑ k : Fin 64, x (chan b k) * w b k := by
  have hb : ∀ n k, blk (chan n k) = n := fun n k => Fin.ext (by show (64 * n.val + k.val) / 64 = n.val; omega)
  have hp : ∀ n k, pos (chan n k) = k := fun n k => Fin.ext (by show (64 * n.val + k.val) % 64 = k.val; omega)
  rw [sum_chan, Finset.sum_eq_single b]
  · exact Finset.sum_congr rfl fun k _ => by rw [hb, hp, h1, mul_one]
  · intro n _ hn
    exact Finset.sum_eq_zero fun k _ => by rw [hb, h0 n hn, mul_zero, mul_zero]
  · exact fun h => absurd (Finset.mem_univ b) h

end Cert.Scan

end
-- ==== Proof.V.RecBody.lean ====
/-
  The recurrence's kernel: what one block's body computes.
-/
module

public import proofs.«01_k».proof.Proof.V.Scan
public import proofs.«01_k».proof.Proof.Gen.RecIdeal.Value
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.RecIdeal.Val

open Cert.RecIdeal Cert.RecIdeal.Gen Idealize.ShloMosaic Idealize.ShloMosaic.TcCoe Idealize.SL.Sem
open scoped BigOperators

theorem zeros : (![0, 0] : Fin 2 → ℕ) = fun _ => 0 := funext fun a => by fin_cases a <;> rfl

theorem zeros3 : (![0, 0, 0] : Fin 3 → ℕ) = fun _ => 0 := funext fun a => by fin_cases a <;> rfl

/-- The filtered rows, entry by entry. -/
theorem pay9_apply (v0 : Vec Ideal S8x512 .f32) (v7 : Vec Ideal S1x512 .f32) (v9 : Vec Ideal S8x512 .f32) (v10 : Vec Ideal S1x512 .f32)
    (v15 : Vec Ideal S8x512 .f32) (v16 : Vec Ideal S1x512 .f32) (v20 : Vec Ideal S8x512 .f32) (v21 : Vec Ideal S1x512 .f32)
    (v25 : Vec Ideal S1x512 .f32) (s : Fin 8) (j : Fin 512) :
    k0_pay9 (F := Ideal) v0 v7 v9 v10 v15 v16 v20 v21 v25 (ix2 s j)
      = Scan.filt (v7 (ix2 0 j)) ![v9 (ix2 s j), v15 (ix2 s j), v20 (ix2 s j), v0 (ix2 s j)]
          ![v10 (ix2 0 j), v16 (ix2 0 j), v21 (ix2 0 j), v25 (ix2 0 j)] := by
  unfold k0_pay9 Scan.filt
  simp only [pointwise, zero_add]
  rfl

/-- The two gates' sums, entry by entry. -/
theorem pay11_apply (x : FVec Ideal S8x512 .f32) (w : Vec Ideal S512x1024 .bf16) (b : Vec Ideal S1x1024 .f32) (s : Fin 8) (n : Fin 1024) :
    k0_pay11 (F := Ideal) x w b (ix2 s n) = (∑ k : Fin 512, x (ix2 s k) * w (ix2 k n)) + b (ix2 0 n) := by
  unfold k0_pay11
  simp only [pointwise, zero_add]
  rfl

/-- The decay's logarithm, entry by entry. -/
theorem pay13_apply (x : FVec Ideal S8x512 .f32) (w : Vec Ideal S512x1024 .bf16) (b : Vec Ideal S1x1024 .f32) (l : Vec Ideal S1x512 .f32)
    (s : Fin 8) (j : Fin 512) :
    k0_pay13 (F := Ideal) x w b l (ix2 s j) = Scan.decay (l (ix2 0 j)) (k0_pay11 (F := Ideal) x w b (ix2 s ⟨j.val, by omega⟩)) := by
  have e : ∀ p p', (ix2 ⟨(![0, 0] : Fin 2 → ℕ) 0 + s.val, p⟩ ⟨(![0, 0] : Fin 2 → ℕ) 1 + j.val, p'⟩ : Shape.Idx S8x1024) = ix2 s ⟨j.val, by omega⟩ :=
    fun p p' => congrArg₂ ix2 (Fin.ext (Nat.zero_add _)) (Fin.ext (Nat.zero_add _))
  unfold k0_pay13 Scan.decay Scan.soft
  simp only [pointwise, e, zero_sub]
  rfl

/-- The input gate, entry by entry. -/
theorem pay12_apply (x : FVec Ideal S8x512 .f32) (w : Vec Ideal S512x1024 .bf16) (b : Vec Ideal S1x1024 .f32)
    (s : Fin 8) (j : Fin 512) :
    k0_pay12 (F := Ideal) x w b (ix2 s j) = Ideal.logistic (k0_pay11 (F := Ideal) x w b (ix2 s ⟨512 + j.val, by omega⟩)) := by
  have e : ∀ p p', (ix2 ⟨(![0, 512] : Fin 2 → ℕ) 0 + s.val, p⟩ ⟨(![0, 512] : Fin 2 → ℕ) 1 + j.val, p'⟩ : Shape.Idx S8x1024) = ix2 s ⟨512 + j.val, by omega⟩ :=
    fun p p' => congrArg₂ ix2 (Fin.ext (Nat.zero_add _)) (Fin.ext rfl)
  unfold k0_pay12
  simp only [pointwise, e]

/-- The decay, entry by entry. -/
theorem pay15_apply (x : FVec Ideal S8x512 .f32) (w : Vec Ideal S512x1024 .bf16) (b : Vec Ideal S1x1024 .f32) (l : Vec Ideal S1x512 .f32)
    (s : Fin 8) (j : Fin 512) :
    k0_pay15 (F := Ideal) x w b l (ix2 s j) = Ideal.exp (k0_pay13 (F := Ideal) x w b l (ix2 s j)) := by
  unfold k0_pay15 k0_pay14
  simp only [pointwise]

/-- The root, entry by entry. -/
theorem pay16_apply (x : FVec Ideal S8x512 .f32) (w : Vec Ideal S512x1024 .bf16) (b : Vec Ideal S1x1024 .f32) (l : Vec Ideal S1x512 .f32)
    (s : Fin 8) (j : Fin 512) :
    k0_pay16 (F := Ideal) x w b l (ix2 s j) = Ideal.sqrt (-(Ideal.expm1 (2 * k0_pay13 (F := Ideal) x w b l (ix2 s j)))) := by
  rw [← Scan.root_eq]
  unfold k0_pay16 k0_pay14
  simp only [pointwise]

/-- What a row adds, entry by entry. -/
theorem pay17_apply (x : FVec Ideal S8x512 .f32) (g r : FVec Ideal S8x512 .f32) (s : Fin 8) (j : Fin 512) :
    k0_pay17 (F := Ideal) x g r (ix2 s j) = r (ix2 s j) * (g (ix2 s j) * x (ix2 s j)) := by
  unfold k0_pay17
  simp only [pointwise]

/-- The branch's rows, entry by entry. -/
theorem pay2_apply (h z : Vec Ideal S8x512 .f32) (s : Fin 8) (j : Fin 512) :
    k0_pay2 (F := Ideal) h z (ix2 s j) = h (ix2 s j) * Scan.gelu (z (ix2 s j)) := by
  unfold k0_pay2 Scan.gelu
  simp only [pointwise]

/-- Step 1, entry by entry. -/
theorem pay18_apply (h : Vec Ideal S1x512 .f32) (a b : Vec Ideal S8x512 .f32) (j : Fin 512) :
    k0_pay18 (F := Ideal) h a b (ix2 0 j) = Scan.state (fun s => a (ix2 s j)) (fun s => b (ix2 s j)) (h (ix2 0 j)) 1 := by
  rw [Scan.state]
  unfold k0_pay18
  simp only [pointwise, Matrix.cons_val, Nat.zero_add, Fin.eta]
  rfl

/-- Step 2, entry by entry. -/
theorem pay19_apply (h : Vec Ideal S1x512 .f32) (a b : Vec Ideal S8x512 .f32) (j : Fin 512) :
    k0_pay19 (F := Ideal) h a b (ix2 0 j) = Scan.state (fun s => a (ix2 s j)) (fun s => b (ix2 s j)) (h (ix2 0 j)) 2 := by
  rw [Scan.state, ← pay18_apply]
  unfold k0_pay19
  simp only [pointwise, Matrix.cons_val, Nat.zero_add, Fin.eta]
  rfl

/-- Step 3, entry by entry. -/
theorem pay20_apply (h : Vec Ideal S1x512 .f32) (a b : Vec Ideal S8x512 .f32) (j : Fin 512) :
    k0_pay20 (F := Ideal) h a b (ix2 0 j) = Scan.state (fun s => a (ix2 s j)) (fun s => b (ix2 s j)) (h (ix2 0 j)) 3 := by
  rw [Scan.state, ← pay19_apply]
  unfold k0_pay20
  simp only [pointwise, Matrix.cons_val, Nat.zero_add, Fin.eta]
  rfl

/-- Step 4, entry by entry. -/
theorem pay21_apply (h : Vec Ideal S1x512 .f32) (a b : Vec Ideal S8x512 .f32) (j : Fin 512) :
    k0_pay21 (F := Ideal) h a b (ix2 0 j) = Scan.state (fun s => a (ix2 s j)) (fun s => b (ix2 s j)) (h (ix2 0 j)) 4 := by
  rw [Scan.state, ← pay20_apply]
  unfold k0_pay21
  simp only [pointwise, Matrix.cons_val, Nat.zero_add, Fin.eta]
  rfl

/-- Step 5, entry by entry. -/
theorem pay22_apply (h : Vec Ideal S1x512 .f32) (a b : Vec Ideal S8x512 .f32) (j : Fin 512) :
    k0_pay22 (F := Ideal) h a b (ix2 0 j) = Scan.state (fun s => a (ix2 s j)) (fun s => b (ix2 s j)) (h (ix2 0 j)) 5 := by
  rw [Scan.state, ← pay21_apply]
  unfold k0_pay22
  simp only [pointwise, Matrix.cons_val, Nat.zero_add, Fin.eta]
  rfl

/-- Step 6, entry by entry. -/
theorem pay23_apply (h : Vec Ideal S1x512 .f32) (a b : Vec Ideal S8x512 .f32) (j : Fin 512) :
    k0_pay23 (F := Ideal) h a b (ix2 0 j) = Scan.state (fun s => a (ix2 s j)) (fun s => b (ix2 s j)) (h (ix2 0 j)) 6 := by
  rw [Scan.state, ← pay22_apply]
  unfold k0_pay23
  simp only [pointwise, Matrix.cons_val, Nat.zero_add, Fin.eta]
  rfl

/-- Step 7, entry by entry. -/
theorem pay24_apply (h : Vec Ideal S1x512 .f32) (a b : Vec Ideal S8x512 .f32) (j : Fin 512) :
    k0_pay24 (F := Ideal) h a b (ix2 0 j) = Scan.state (fun s => a (ix2 s j)) (fun s => b (ix2 s j)) (h (ix2 0 j)) 7 := by
  rw [Scan.state, ← pay23_apply]
  unfold k0_pay24
  simp only [pointwise, Matrix.cons_val, Nat.zero_add, Fin.eta]
  rfl

/-- Step 8, entry by entry. -/
theorem pay25_apply (h : Vec Ideal S1x512 .f32) (a b : Vec Ideal S8x512 .f32) (j : Fin 512) :
    k0_pay25 (F := Ideal) h a b (ix2 0 j) = Scan.state (fun s => a (ix2 s j)) (fun s => b (ix2 s j)) (h (ix2 0 j)) 8 := by
  rw [Scan.state, ← pay24_apply]
  unfold k0_pay25
  simp only [pointwise, Matrix.cons_val, Nat.zero_add, Fin.eta]
  rfl

/-- The eight states, entry by entry. -/
theorem pay26_apply (h : Vec Ideal S1x512 .f32) (a b : Vec Ideal S8x512 .f32) (s : Fin 8) (j : Fin 512) :
    k0_pay26 (F := Ideal) h a b (ix2 s j) = Scan.state (fun s => a (ix2 s j)) (fun s => b (ix2 s j)) (h (ix2 0 j)) (s.val + 1) := by
  unfold k0_pay26
  simp only [pointwise]
  match s with
  | ⟨0, _⟩ => exact pay18_apply h a b j
  | ⟨1, _⟩ => exact pay19_apply h a b j
  | ⟨2, _⟩ => exact pay20_apply h a b j
  | ⟨3, _⟩ => exact pay21_apply h a b j
  | ⟨4, _⟩ => exact pay22_apply h a b j
  | ⟨5, _⟩ => exact pay23_apply h a b j
  | ⟨6, _⟩ => exact pay24_apply h a b j
  | ⟨7, _⟩ => exact pay25_apply h a b j

end Cert.RecIdeal.Val

end
-- ==== Proof.V.RecOut.lean ====
/-
  The recurrence's kernel: what one block's outputs hold, in the numbers of its sequence.
-/
module

public import proofs.«01_k».proof.Proof.V.RecBody
public import Idealize.ShloMosaic.Lib.Pipeline.ValueKit.Acc

@[expose] public section

set_option maxRecDepth 16384

noncomputable section

namespace Cert.RecIdeal.Val

open Cert.RecIdeal Cert.RecIdeal.Gen Idealize.ShloMosaic Idealize.ShloMosaic.TcCoe Idealize.SL.Sem
open scoped BigOperators

/-- The blocks of one point hold one sequence's arguments. -/
structure Holds (A : Scan.Args) (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) : Prop where
  rows : ∀ s j, x0 (ix2 s j) = A.rows s j
  side : ∀ s j, x1 (ix2 s j) = A.side s j
  carried : ∀ s j, x2 (ix3 0 s j) = A.carried s j
  start : ∀ j, x3 (ix3 0 0 j) = A.start j
  taps : ∀ i j, x4 (ix2 i j) = A.taps i j
  off : ∀ j, x5 (ix2 0 j) = A.off j
  wr : ∀ k j : Fin 512, x6 (ix2 k ⟨j.val, by omega⟩) = A.wr (Scan.blk k) (Scan.pos k) (Scan.pos j) * (if Scan.blk k = Scan.blk j then 1 else 0)
  wi : ∀ k j : Fin 512, x6 (ix2 k ⟨512 + j.val, by omega⟩) = A.wi (Scan.blk k) (Scan.pos k) (Scan.pos j) * (if Scan.blk k = Scan.blk j then 1 else 0)
  br : ∀ j : Fin 512, x7 (ix2 0 ⟨j.val, by omega⟩) = A.br j
  bi : ∀ j : Fin 512, x7 (ix2 0 ⟨512 + j.val, by omega⟩) = A.bi j
  lam : ∀ j, x8 (ix2 0 j) = A.lam j

/-- The buffer of rows, above its fifth: the carried rows, then the new ones. -/
theorem buffer (x0 : Vec Ideal S8x512 .f32) (x2 : Vec Ideal S1x3x512 .f32) (A : Scan.Args) (h0 : ∀ s j, x0 (ix2 s j) = A.rows s j)
    (h2 : ∀ s j, x2 (ix3 0 s j) = A.carried s j) (r : Fin 11) (j : Fin 512) (y : Shape.Idx S16x512) (hy0 : (y 0 : ℕ) = r.val + 5) (hy1 : (y 1 : ℕ) = j.val) :
    (View.canon (Val := Elt Ideal) (s := S16x512) (e := .f32) [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩] y : EReal) = A.line r j := by
  unfold Scan.Args.line
  by_cases h : r.val < 3
  · rw [dif_pos h, View.canon_cons_of_not_mem _ _ (by
      rw [Rect.mem_set_unit]
      intro hh
      have := (hh 0).1
      rw [hy0] at this
      simp at this
      omega)]
    have e : y = (Rect.unit (s := S16x512) ![5, 0] ![3, 512] inb_S16x512_S3x512_5_0).emb (ix2 ⟨r.val, h⟩ j) := by
      funext a
      match a with
      | ⟨0, _⟩ => exact Fin.ext (by show (y 0 : ℕ) = 5 + 1 * r.val; rw [hy0]; omega)
      | ⟨1, _⟩ => exact Fin.ext (by show (y 1 : ℕ) = 0 + 1 * j.val; rw [hy1]; omega)
    rw [e, View.canon_cons_emb, ← h2 ⟨r.val, h⟩ j]
    unfold k0_pay6
    simp only [pointwise]
  · rw [dif_neg h]
    have e : y = (Rect.unit (s := S16x512) ![8, 0] ![8, 512] inb_S16x512_S8x512_8_0).emb (ix2 ⟨r.val - 3, by omega⟩ j) := by
      funext a
      match a with
      | ⟨0, _⟩ => exact Fin.ext (by show (y 0 : ℕ) = 8 + 1 * (r.val - 3); rw [hy0]; omega)
      | ⟨1, _⟩ => exact Fin.ext (by show (y 1 : ℕ) = 0 + 1 * j.val; rw [hy1]; omega)
    rw [e, View.canon_cons_emb, ← h0]
    unfold k0_pay8
    simp only [pointwise]

/-- The buffer's rows from the 5th. -/
theorem read5 (arg14 : Memref sig .tc .vmem S16x512 .f32) (x0 : Vec Ideal S8x512 .f32) (x2 : Vec Ideal S1x3x512 .f32) (A : Scan.Args)
    (h0 : ∀ s j, x0 (ix2 s j) = A.rows s j) (h2 : ∀ s j, x2 (ix3 0 s j) = A.carried s j) (s : Fin 8) (j : Fin 512) :
    (arg14.view.readCov (Val := Elt Ideal) [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
      (Rect.unit (s := S16x512) ![5, 0] ![8, 512] inb_S16x512_S8x512_5_0).toLoadRect : Vec Ideal S8x512 .f32) (ix2 s j) = A.line ⟨0 + s.val, by omega⟩ j := by
  rw [View.readCov_eq_canon']
  have e := buffer x0 x2 A h0 h2 ⟨0 + s.val, by omega⟩ j ((Rect.unit (s := S16x512) ![5, 0] ![8, 512] inb_S16x512_S8x512_5_0).toLoadRect.idx (ix2 s j))
    (by show 5 + 1 * s.val = 0 + s.val + 5; omega) (by show 0 + 1 * j.val = j.val; omega)
  exact e

/-- The buffer's rows from the 6th. -/
theorem read6 (arg14 : Memref sig .tc .vmem S16x512 .f32) (x0 : Vec Ideal S8x512 .f32) (x2 : Vec Ideal S1x3x512 .f32) (A : Scan.Args)
    (h0 : ∀ s j, x0 (ix2 s j) = A.rows s j) (h2 : ∀ s j, x2 (ix3 0 s j) = A.carried s j) (s : Fin 8) (j : Fin 512) :
    (arg14.view.readCov (Val := Elt Ideal) [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
      (Rect.unit (s := S16x512) ![6, 0] ![8, 512] inb_S16x512_S8x512_6_0).toLoadRect : Vec Ideal S8x512 .f32) (ix2 s j) = A.line ⟨1 + s.val, by omega⟩ j := by
  rw [View.readCov_eq_canon']
  have e := buffer x0 x2 A h0 h2 ⟨1 + s.val, by omega⟩ j ((Rect.unit (s := S16x512) ![6, 0] ![8, 512] inb_S16x512_S8x512_6_0).toLoadRect.idx (ix2 s j))
    (by show 6 + 1 * s.val = 1 + s.val + 5; omega) (by show 0 + 1 * j.val = j.val; omega)
  exact e

/-- The buffer's rows from the 7th. -/
theorem read7 (arg14 : Memref sig .tc .vmem S16x512 .f32) (x0 : Vec Ideal S8x512 .f32) (x2 : Vec Ideal S1x3x512 .f32) (A : Scan.Args)
    (h0 : ∀ s j, x0 (ix2 s j) = A.rows s j) (h2 : ∀ s j, x2 (ix3 0 s j) = A.carried s j) (s : Fin 8) (j : Fin 512) :
    (arg14.view.readCov (Val := Elt Ideal) [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
      (Rect.unit (s := S16x512) ![7, 0] ![8, 512] inb_S16x512_S8x512_7_0).toLoadRect : Vec Ideal S8x512 .f32) (ix2 s j) = A.line ⟨2 + s.val, by omega⟩ j := by
  rw [View.readCov_eq_canon']
  have e := buffer x0 x2 A h0 h2 ⟨2 + s.val, by omega⟩ j ((Rect.unit (s := S16x512) ![7, 0] ![8, 512] inb_S16x512_S8x512_7_0).toLoadRect.idx (ix2 s j))
    (by show 7 + 1 * s.val = 2 + s.val + 5; omega) (by show 0 + 1 * j.val = j.val; omega)
  exact e

/-- The filtered rows of a block, as the body computes them from its buffer. -/
def lines (arg14 : Memref sig .tc .vmem S16x512 .f32) (x0 : Vec Ideal S8x512 .f32) (x2 : Vec Ideal S1x3x512 .f32) (x4 : Vec Ideal S4x512 .f32)
    (x5 : Vec Ideal S1x512 .f32) : FVec Ideal S8x512 .f32 :=
  k0_pay9 (F := Ideal) x0 x5
            (arg14.view.readCov (Val := Elt Ideal)
              [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
              (Rect.unit (s := S16x512) ![5, 0] ![8, 512] inb_S16x512_S8x512_5_0).toLoadRect)
            (View.ld (Val := Elt Ideal) (e' := .f32) x4 (Rect.unit (s := S4x512) ![0, 0] ![1, 512] inb_S4x512_S1x512_0_0))
            (arg14.view.readCov (Val := Elt Ideal)
              [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
              (Rect.unit (s := S16x512) ![6, 0] ![8, 512] inb_S16x512_S8x512_6_0).toLoadRect)
            (View.ld (Val := Elt Ideal) (e' := .f32) x4 (Rect.unit (s := S4x512) ![1, 0] ![1, 512] inb_S4x512_S1x512_1_0))
            (arg14.view.readCov (Val := Elt Ideal)
              [⟨Rect.unit ![8, 0] ![8, 512] inb_S16x512_S8x512_8_0, k0_pay8 (F := Ideal) x0⟩,
                ⟨Rect.unit ![5, 0] ![3, 512] inb_S16x512_S3x512_5_0, k0_pay6 (F := Ideal) x2⟩,
                ⟨Rect.unit ![0, 0] ![8, 512] inb_S16x512_S8x512_0_0, k0_pay5 (F := Ideal)⟩]
              (Rect.unit (s := S16x512) ![7, 0] ![8, 512] inb_S16x512_S8x512_7_0).toLoadRect)
            (View.ld (Val := Elt Ideal) (e' := .f32) x4 (Rect.unit (s := S4x512) ![2, 0] ![1, 512] inb_S4x512_S1x512_2_0))
            (View.ld (Val := Elt Ideal) (e' := .f32) x4 (Rect.unit (s := S4x512) ![3, 0] ![1, 512] inb_S4x512_S1x512_3_0))

/-- The filtered rows are the sequence's. -/
theorem filtered (arg14 : Memref sig .tc .vmem S16x512 .f32) (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (A : Scan.Args) (H : Holds A x0 x1 x2 x3 x4 x5 x6 x7 x8) (s : Fin 8) (j : Fin 512) :
    lines arg14 x0 x2 x4 x5 (ix2 s j) = A.conv s j := by
  unfold lines
  rw [pay9_apply, read5 arg14 x0 x2 A H.rows H.carried, read6 arg14 x0 x2 A H.rows H.carried, read7 arg14 x0 x2 A H.rows H.carried]
  unfold Scan.Args.conv
  rw [H.off j]
  refine congrArg₂ (Scan.filt (A.off j)) (funext fun i => ?_) (funext fun i => ?_)
  · match i with
    | ⟨0, _⟩ => rfl
    | ⟨1, _⟩ => rfl
    | ⟨2, _⟩ => rfl
    | ⟨3, _⟩ =>
      refine (H.rows s j).trans ?_
      unfold Scan.Args.line
      rw [dif_neg (by show ¬ 3 + s.val < 3; omega)]
      exact congrArg (fun q => A.rows q j) (Fin.ext (by show s.val = 3 + s.val - 3; omega))
  · have e : ∀ (n : ℕ) (hn : n < 4) (y : Shape.Idx S4x512), (y 0 : ℕ) = n → (y 1 : ℕ) = j.val → x4 y = A.taps ⟨n, hn⟩ j := by
      intro n hn y h0 h1
      rw [← H.taps ⟨n, hn⟩ j]
      refine congrArg x4 (funext fun a => Fin.ext ?_)
      match a with
      | ⟨0, _⟩ => exact h0
      | ⟨1, _⟩ => exact h1
    match i with
    | ⟨0, _⟩ => exact e 0 (by omega) _ rfl (by show 0 + 1 * j.val = j.val; omega)
    | ⟨1, _⟩ => exact e 1 (by omega) _ rfl (by show 0 + 1 * j.val = j.val; omega)
    | ⟨2, _⟩ => exact e 2 (by omega) _ rfl (by show 0 + 1 * j.val = j.val; omega)
    | ⟨3, _⟩ => exact e 3 (by omega) _ rfl (by show 0 + 1 * j.val = j.val; omega)

section Gates

variable (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (A : Scan.Args) (H : Holds A x0 x1 x2 x3 x4 x5 x6 x7 x8) (X : FVec Ideal S8x512 .f32)
  (hX : ∀ s j, X (ix2 s j) = A.conv s j)
include H hX

/-- The recurrence gate's sum. -/
theorem gate_r (s : Fin 8) (j : Fin 512) :
    k0_pay11 (F := Ideal) X x6 x7 (ix2 s ⟨j.val, by omega⟩) = Scan.gate (A.conv s) A.wr (A.br j) j := by
  rw [pay11_apply]
  unfold Scan.gate
  refine congrArg₂ (fun p q : EReal => p + q) ?_ (H.br j)
  refine (Finset.sum_congr rfl fun k _ => congrArg₂ (fun p q : EReal => p * q) (hX s k) (H.wr k j)).trans ?_
  exact Scan.sum_diag (A.conv s) (fun n k => A.wr n k (Scan.pos j)) (fun n => if n = Scan.blk j then 1 else 0) (Scan.blk j)
    (if_pos rfl) (fun n hn => if_neg hn)

/-- The input gate's sum. -/
theorem gate_i (s : Fin 8) (j : Fin 512) :
    k0_pay11 (F := Ideal) X x6 x7 (ix2 s ⟨512 + j.val, by omega⟩) = Scan.gate (A.conv s) A.wi (A.bi j) j := by
  rw [pay11_apply]
  unfold Scan.gate
  refine congrArg₂ (fun p q : EReal => p + q) ?_ (H.bi j)
  refine (Finset.sum_congr rfl fun k _ => congrArg₂ (fun p q : EReal => p * q) (hX s k) (H.wi k j)).trans ?_
  exact Scan.sum_diag (A.conv s) (fun n k => A.wi n k (Scan.pos j)) (fun n => if n = Scan.blk j then 1 else 0) (Scan.blk j)
    (if_pos rfl) (fun n hn => if_neg hn)

/-- The decay's logarithm. -/
theorem logd_eq (s : Fin 8) (j : Fin 512) : k0_pay13 (F := Ideal) X x6 x7 x8 (ix2 s j) = A.logd s j := by
  rw [pay13_apply, gate_r x0 x1 x2 x3 x4 x5 x6 x7 x8 A H X hX, H.lam]
  rfl

/-- What a row adds. -/
theorem inc_eq (s : Fin 8) (j : Fin 512) :
    k0_pay17 (F := Ideal) X (k0_pay12 (F := Ideal) X x6 x7) (k0_pay16 (F := Ideal) X x6 x7 x8) (ix2 s j) = A.inc s j := by
  rw [pay17_apply, pay12_apply, pay16_apply, logd_eq x0 x1 x2 x3 x4 x5 x6 x7 x8 A H X hX, gate_i x0 x1 x2 x3 x4 x5 x6 x7 x8 A H X hX, hX]
  rfl

/-- The carried state, then the steps. -/
theorem st_eq (n : ℕ) (j : Fin 512) :
    Scan.state (fun s => k0_pay15 (F := Ideal) X x6 x7 x8 (ix2 s j))
      (fun s => k0_pay17 (F := Ideal) X (k0_pay12 (F := Ideal) X x6 x7) (k0_pay16 (F := Ideal) X x6 x7 x8) (ix2 s j))
      (k0_pay7 (F := Ideal) x3 (ix2 0 j)) n = A.st n j := by
  have e7 : k0_pay7 (F := Ideal) x3 (ix2 0 j) = A.start j := by
    rw [← H.start j]
    unfold k0_pay7
    simp only [pointwise]
  have ea : (fun s => k0_pay15 (F := Ideal) X x6 x7 x8 (ix2 s j)) = fun s => Ideal.exp (A.logd s j) :=
    funext fun s => by rw [pay15_apply, logd_eq x0 x1 x2 x3 x4 x5 x6 x7 x8 A H X hX]
  have eb : (fun s => k0_pay17 (F := Ideal) X (k0_pay12 (F := Ideal) X x6 x7) (k0_pay16 (F := Ideal) X x6 x7 x8) (ix2 s j)) = fun s => A.inc s j :=
    funext fun s => inc_eq x0 x1 x2 x3 x4 x5 x6 x7 x8 A H X hX s j
  rw [e7, ea, eb]
  rfl

end Gates

/-- What a block's output holds, as a term. -/
theorem out9_eq (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S16x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S1x512 .f32) (harg18 : arg18.IsWhole) (hc0 : cond0_0 i) (hc1 : cond0_1 i)
    (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (w : Vec Ideal S8x512 .f32) (hw : k0_pay2 (F := Ideal) (k0_pay26 (F := Ideal) (k0_pay7 (F := Ideal) x3) (k0_pay15 (F := Ideal) (lines arg14 x0 x2 x4 x5) x6 x7 x8) (k0_pay17 (F := Ideal) (lines arg14 x0 x2 x4 x5) (k0_pay12 (F := Ideal) (lines arg14 x0 x2 x4 x5) x6 x7) (k0_pay16 (F := Ideal) (lines arg14 x0 x2 x4 x5) x6 x7 x8))) x1 = w) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = w := by
  frame_out
  exact hw

/-- What a block's output holds, as a term. -/
theorem out10_eq (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S16x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S1x512 .f32) (harg18 : arg18.IsWhole) (hc0 : cond0_0 i) (hc1 : cond0_1 i)
    (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (w : Vec Ideal S1x1x512 .f32) (hw : k0_pay3 (F := Ideal) (k0_pay25 (F := Ideal) (k0_pay7 (F := Ideal) x3) (k0_pay15 (F := Ideal) (lines arg14 x0 x2 x4 x5) x6 x7 x8) (k0_pay17 (F := Ideal) (lines arg14 x0 x2 x4 x5) (k0_pay12 (F := Ideal) (lines arg14 x0 x2 x4 x5) x6 x7) (k0_pay16 (F := Ideal) (lines arg14 x0 x2 x4 x5) x6 x7 x8))) = w) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = w := by
  frame_out
  exact hw

/-- A point's rows of the branch. -/
theorem out9_apply (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S16x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S1x512 .f32) (harg18 : arg18.IsWhole) (hc0 : cond0_0 i) (hc1 : cond0_1 i)
    (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (A : Scan.Args) (H : Holds A x0 x1 x2 x3 x4 x5 x6 x7 x8) (s : Fin 8) (j : Fin 512) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix2 s j) = A.out s j := by
  have hX := filtered arg14 x0 x1 x2 x3 x4 x5 x6 x7 x8 A H
  rw [out9_eq (hw := rfl)]
  generalize lines arg14 x0 x2 x4 x5 = X at hX ⊢
  rw [pay2_apply, pay26_apply, st_eq x0 x1 x2 x3 x4 x5 x6 x7 x8 A H X hX, H.side]
  rfl

/-- A point's last state. -/
theorem out10_apply (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S16x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S1x512 .f32) (harg18 : arg18.IsWhole) (hc0 : cond0_0 i) (hc1 : cond0_1 i)
    (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (A : Scan.Args) (H : Holds A x0 x1 x2 x3 x4 x5 x6 x7 x8) (j : Fin 512) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix3 0 0 j) = A.st 8 j := by
  have hX := filtered arg14 x0 x1 x2 x3 x4 x5 x6 x7 x8 A H
  rw [out10_eq (hw := rfl)]
  generalize lines arg14 x0 x2 x4 x5 = X at hX ⊢
  unfold k0_pay3
  simp only [pointwise]
  exact (pay25_apply _ _ _ j).trans (st_eq x0 x1 x2 x3 x4 x5 x6 x7 x8 A H X hX 8 j)

/-- A point's last three rows. -/
theorem out11_apply (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S1x1x512 .f32) (harg12 : arg12.IsWhole) (arg13 : Memref sig .tc .vmem S1x3x512 .f32) (harg13 : arg13.IsWhole) (arg14 : Memref sig .tc .vmem S16x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S1x512 .f32) (harg18 : arg18.IsWhole) (hc0 : cond0_0 i) (hc1 : cond0_1 i)
    (x0 : Vec Ideal S8x512 .f32) (x1 : Vec Ideal S8x512 .f32) (x2 : Vec Ideal S1x3x512 .f32) (x3 : Vec Ideal S1x1x512 .f32) (x4 : Vec Ideal S4x512 .f32) (x5 : Vec Ideal S1x512 .f32) (x6 : Vec Ideal S512x1024 .bf16) (x7 : Vec Ideal S1x1024 .f32) (x8 : Vec Ideal S1x512 .f32) (A : Scan.Args) (H : Holds A x0 x1 x2 x3 x4 x5 x6 x7 x8) (i3 : Fin 3) (j : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix3 0 i3 j) = A.rows ⟨i3.val + 5, by omega⟩ j := by
  frame_out
  rw [← H.rows]
  unfold k0_pay4
  simp only [pointwise, Matrix.cons_val, Nat.zero_add, Fin.eta]
  exact congrArg x0 (congrArg₂ ix2 (Fin.ext (Nat.add_comm _ _)) rfl)

end Cert.RecIdeal.Val

end
-- ==== Proof.V.Rec.lean ====
/-
  The recurrence's kernel: what its three result arrays hold.
-/
module

public import proofs.«01_k».proof.Proof.V.RecOut
public import Idealize.ShloMosaic.Lib.StableHlo.Run

@[expose] public section

set_option maxRecDepth 16384

noncomputable section

namespace Cert.RecIdeal.Val

open Cert.RecIdeal Cert.RecIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at a point. -/
theorem idx : ∀ t : Fin cfg0.N,
    (win0_0.index t 0 = 2048 + t.val ∧ win0_0.index t 1 = 3) ∧ (win0_1.index t 0 = 2048 + t.val ∧ win0_1.index t 1 = 4)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = t.val ∧ win0_10.index t 1 = 0 ∧ win0_10.index t 2 = 0)
    ∧ (win0_11.index t 0 = t.val ∧ win0_11.index t 1 = 0 ∧ win0_11.index t 2 = 0) := by
  decide +kernel

/-- The token a point's row is of. -/
def tok (t : Fin cfg0.N) (s : Fin 8) : Fin 16640 := ⟨16384 + 8 * t.val + s.val, by have h : t.val < 32 := t.isLt; omega⟩

/-- The sequence a point is of. -/
def seq_ (t : Fin cfg0.N) : Fin 32 := ⟨t.val, t.isLt⟩

/-- A sequence's new rows. -/
theorem blk0 (c : Dev nD) (t : Fin cfg0.N) (q : Fin 8) (j : Fin 512) :
    (iblk m c 0 t : Vec Ideal S8x512 .f32) (ix2 q j) = (V m c main_arg0 : FVec Ideal S16640x2560 .f32) (ix2 (tok t q) ⟨1536 + j.val, by omega⟩) := by
  have hi := idx t
  refine congrArg (V m c main_arg0) (funext fun a => Fin.ext ?_)
  match a with
  | ⟨0, _⟩ =>
    refine (ValueKit.view_emb_slice_whole_unit_val main_arg0 _ _ _ _ _).trans ?_
    show win0_0.index t 0 * 8 + q.val = 16384 + 8 * t.val + q.val
    omega
  | ⟨1, _⟩ =>
    refine (ValueKit.view_emb_slice_whole_unit_val main_arg0 _ _ _ _ _).trans ?_
    show win0_0.index t 1 * 512 + j.val = 1536 + j.val
    omega

/-- A sequence's gating rows. -/
theorem blk1 (c : Dev nD) (t : Fin cfg0.N) (q : Fin 8) (j : Fin 512) :
    (iblk m c 1 t : Vec Ideal S8x512 .f32) (ix2 q j) = (V m c main_arg0 : FVec Ideal S16640x2560 .f32) (ix2 (tok t q) ⟨2048 + j.val, by omega⟩) := by
  have hi := idx t
  refine congrArg (V m c main_arg0) (funext fun a => Fin.ext ?_)
  match a with
  | ⟨0, _⟩ =>
    refine (ValueKit.view_emb_slice_whole_unit_val main_arg0 _ _ _ _ _).trans ?_
    show win0_1.index t 0 * 8 + q.val = 16384 + 8 * t.val + q.val
    omega
  | ⟨1, _⟩ =>
    refine (ValueKit.view_emb_slice_whole_unit_val main_arg0 _ _ _ _ _).trans ?_
    show win0_1.index t 1 * 512 + j.val = 2048 + j.val
    omega

/-- A sequence's carried rows. -/
theorem blk2 (c : Dev nD) (t : Fin cfg0.N) (z : Fin 1) (q : Fin 3) (j : Fin 512) :
    (iblk m c 2 t : Vec Ideal S1x3x512 .f32) (ix3 z q j) = (V m c main_arg1 : FVec Ideal S32x3x512 .f32) (ix3 (seq_ t) q j) := by
  have hi := idx t
  refine congrArg (V m c main_arg1) (funext fun a => Fin.ext ?_)
  match a with
  | ⟨0, _⟩ =>
    refine (ValueKit.view_emb_slice_whole_unit_val main_arg1 _ _ _ _ _).trans ?_
    show win0_2.index t 0 * 1 + z.val = t.val
    omega
  | ⟨1, _⟩ =>
    refine (ValueKit.view_emb_slice_whole_unit_val main_arg1 _ _ _ _ _).trans ?_
    show win0_2.index t 1 * 3 + q.val = q.val
    omega
  | ⟨2, _⟩ =>
    refine (ValueKit.view_emb_slice_whole_unit_val main_arg1 _ _ _ _ _).trans ?_
    show win0_2.index t 2 * 512 + j.val = j.val
    omega

/-- A sequence's carried state. -/
theorem blk3 (c : Dev nD) (t : Fin cfg0.N) (z : Fin 1) (q : Fin 1) (j : Fin 512) :
    (iblk m c 3 t : Vec Ideal S1x1x512 .f32) (ix3 z q j) = (V m c main_v28 : FVec Ideal S32x1x512 .f32) (ix3 (seq_ t) q j) := by
  have hi := idx t
  refine congrArg (V m c main_v28) (funext fun a => Fin.ext ?_)
  match a with
  | ⟨0, _⟩ =>
    refine (ValueKit.view_emb_slice_whole_unit_val main_v28 _ _ _ _ _).trans ?_
    show win0_3.index t 0 * 1 + z.val = t.val
    omega
  | ⟨1, _⟩ =>
    refine (ValueKit.view_emb_slice_whole_unit_val main_v28 _ _ _ _ _).trans ?_
    show win0_3.index t 1 * 1 + q.val = q.val
    omega
  | ⟨2, _⟩ =>
    refine (ValueKit.view_emb_slice_whole_unit_val main_v28 _ _ _ _ _).trans ?_
    show win0_3.index t 2 * 512 + j.val = j.val
    omega

/-- The taps. -/
theorem blk4 (c : Dev nD) (t : Fin cfg0.N) (q : Fin 4) (j : Fin 512) :
    (iblk m c 4 t : Vec Ideal S4x512 .f32) (ix2 q j) = (V m c main_arg3 : FVec Ideal S4x512 .f32) (ix2 q j) := by
  have hi := idx t
  refine congrArg (V m c main_arg3) (funext fun a => Fin.ext ?_)
  match a with
  | ⟨0, _⟩ =>
    refine (ValueKit.view_emb_slice_whole_unit_val main_arg3 _ _ _ _ _).trans ?_
    show win0_4.index t 0 * 4 + q.val = q.val
    omega
  | ⟨1, _⟩ =>
    refine (ValueKit.view_emb_slice_whole_unit_val main_arg3 _ _ _ _ _).trans ?_
    show win0_4.index t 1 * 512 + j.val = j.val
    omega

/-- The offsets. -/
theorem blk5 (c : Dev nD) (t : Fin cfg0.N) (q : Fin 1) (j : Fin 512) :
    (iblk m c 5 t : Vec Ideal S1x512 .f32) (ix2 q j) = (V m c main_v29 : FVec Ideal S1x512 .f32) (ix2 q j) := by
  have hi := idx t
  refine congrArg (V m c main_v29) (funext fun a => Fin.ext ?_)
  match a with
  | ⟨0, _⟩ =>
    refine (ValueKit.view_emb_slice_whole_unit_val main_v29 _ _ _ _ _).trans ?_
    show win0_5.index t 0 * 1 + q.val = q.val
    omega
  | ⟨1, _⟩ =>
    refine (ValueKit.view_emb_slice_whole_unit_val main_v29 _ _ _ _ _).trans ?_
    show win0_5.index t 1 * 512 + j.val = j.val
    omega

/-- The gates' matrices. -/
theorem blk6 (c : Dev nD) (t : Fin cfg0.N) (q : Fin 512) (j : Fin 1024) :
    (iblk m c 6 t : Vec Ideal S512x1024 .bf16) (ix2 q j) = (V m c main_v25 : FVec Ideal S512x1024 .bf16) (ix2 q j) := by
  have hi := idx t
  refine congrArg (V m c main_v25) (funext fun a => Fin.ext ?_)
  match a with
  | ⟨0, _⟩ =>
    refine (ValueKit.view_emb_slice_whole_unit_val main_v25 _ _ _ _ _).trans ?_
    show win0_6.index t 0 * 512 + q.val = q.val
    omega
  | ⟨1, _⟩ =>
    refine (ValueKit.view_emb_slice_whole_unit_val main_v25 _ _ _ _ _).trans ?_
    show win0_6.index t 1 * 1024 + j.val = j.val
    omega

/-- The gates' offsets. -/
theorem blk7 (c : Dev nD) (t : Fin cfg0.N) (q : Fin 1) (j : Fin 1024) :
    (iblk m c 7 t : Vec Ideal S1x1024 .f32) (ix2 q j) = (V m c main_v27 : FVec Ideal S1x1024 .f32) (ix2 q j) := by
  have hi := idx t
  refine congrArg (V m c main_v27) (funext fun a => Fin.ext ?_)
  match a with
  | ⟨0, _⟩ =>
    refine (ValueKit.view_emb_slice_whole_unit_val main_v27 _ _ _ _ _).trans ?_
    show win0_7.index t 0 * 1 + q.val = q.val
    omega
  | ⟨1, _⟩ =>
    refine (ValueKit.view_emb_slice_whole_unit_val main_v27 _ _ _ _ _).trans ?_
    show win0_7.index t 1 * 1024 + j.val = j.val
    omega

/-- The decay's parameter. -/
theorem blk8 (c : Dev nD) (t : Fin cfg0.N) (q : Fin 1) (j : Fin 512) :
    (iblk m c 8 t : Vec Ideal S1x512 .f32) (ix2 q j) = (V m c main_v30 : FVec Ideal S1x512 .f32) (ix2 q j) := by
  have hi := idx t
  refine congrArg (V m c main_v30) (funext fun a => Fin.ext ?_)
  match a with
  | ⟨0, _⟩ =>
    refine (ValueKit.view_emb_slice_whole_unit_val main_v30 _ _ _ _ _).trans ?_
    show win0_8.index t 0 * 1 + q.val = q.val
    omega
  | ⟨1, _⟩ =>
    refine (ValueKit.view_emb_slice_whole_unit_val main_v30 _ _ _ _ _).trans ?_
    show win0_8.index t 1 * 512 + j.val = j.val
    omega

/-- The carried state as the region finds it. -/
theorem V_v28 (c : Dev nD) (b : Fin 32) (o : Fin 1) (j : Fin 512) : (V m c main_v28 : FVec Ideal S32x1x512 .f32) (ix3 b o j) = (m ((c : Thread nD τ).loc main_arg2) : FVec Ideal S32x512 .f32) (ix2 b j) := by
  have e : (V m c main_v28 : FVec Ideal S32x1x512 .f32) = shapeCast S32x1x512 (m ((c : Thread nD τ).loc main_arg2) : FVec Ideal S32x512 .f32) shapeCasts_S32x512_S32x1x512 := by
    show StableHlo.after (List.flatten [hostOps0]) (fun b => m (c, b)) main_v28 = _
    simp only [hostOps0, List.flatten_cons, List.flatten_nil, List.append_nil, List.cons_append, List.nil_append]
    after_results
    rfl
  rw [e]
  simp only [pointwise]

/-- The offsets as the region finds them. -/
theorem V_v29 (c : Dev nD) (z : Fin 1) (j : Fin 512) : (V m c main_v29 : FVec Ideal S1x512 .f32) (ix2 z j) = (m ((c : Thread nD τ).loc main_arg4) : FVec Ideal S512 .f32) (ix1 j) := by
  have e : (V m c main_v29 : FVec Ideal S1x512 .f32) = shapeCast S1x512 (m ((c : Thread nD τ).loc main_arg4) : FVec Ideal S512 .f32) shapeCasts_S512_S1x512 := by
    show StableHlo.after (List.flatten [hostOps0]) (fun b => m (c, b)) main_v29 = _
    simp only [hostOps0, List.flatten_cons, List.flatten_nil, List.append_nil, List.cons_append, List.nil_append]
    after_results
    rfl
  rw [e]
  simp only [pointwise]

/-- The decay's parameter as the region finds it. -/
theorem V_v30 (c : Dev nD) (z : Fin 1) (j : Fin 512) : (V m c main_v30 : FVec Ideal S1x512 .f32) (ix2 z j) = (m ((c : Thread nD τ).loc main_arg9) : FVec Ideal S512 .f32) (ix1 j) := by
  have e : (V m c main_v30 : FVec Ideal S1x512 .f32) = shapeCast S1x512 (m ((c : Thread nD τ).loc main_arg9) : FVec Ideal S512 .f32) shapeCasts_S512_S1x512 := by
    show StableHlo.after (List.flatten [hostOps0]) (fun b => m (c, b)) main_v30 = _
    simp only [hostOps0, List.flatten_cons, List.flatten_nil, List.append_nil, List.cons_append, List.nil_append]
    after_results
    rfl
  rw [e]
  simp only [pointwise]

/-- The gates' offsets side by side. -/
def offsets (a b : FVec Ideal S512 .f32) : FVec Ideal S1x1024 .f32 :=
  shapeCast S1x1024 (concatenate S1024 0 [⟨S512, a⟩, ⟨S512, b⟩] concatenates_S512_S512_S1024_d0 : FVec Ideal S1024 .f32) shapeCasts_S1024_S1x1024

/-- The recurrence gate's offsets come first. -/
theorem offsets_r (a b : FVec Ideal S512 .f32) (z : Fin 1) (j : Fin 512) : offsets a b (ix2 z ⟨j.val, by omega⟩) = a (ix1 j) := by
  unfold offsets
  simp only [pointwise]
  rw [dif_pos trivial]

/-- The input gate's offsets come second. -/
theorem offsets_i (a b : FVec Ideal S512 .f32) (z : Fin 1) (j : Fin 512) : offsets a b (ix2 z ⟨512 + j.val, by omega⟩) = b (ix1 j) := by
  unfold offsets
  simp only [pointwise]
  rw [dif_neg (fun h => h)]
  exact congrArg b (congrArg ix1 (Fin.ext (by show 512 + j.val - 512 = j.val; omega)))

/-- One on the diagonal of blocks, zero off it. -/
def eye : FVec Ideal S8x8 .f32 :=
  uitofp .f32 (cmpi .eq (addi (iotaInDim S8x8 32 0) (broadcastInDim S8x8 ![] bcast_S_S8x8 (constantI S_ 32 0#32) : IVec S8x8 32)) (iotaInDim S8x8 32 1) : IVec S8x8 1)

/-- The diagonal of blocks, entry by entry. -/
theorem eye_apply (n k : Fin 8) : eye (ix2 n k) = if n = k then 1 else 0 := by
  unfold eye
  simp only [pointwise]
  have e : ∀ n k : Fin 8, IntOp.cmpi .eq (IntOp.addi (BitVec.ofNat 32 n.val) 0#32) (BitVec.ofNat 32 k.val) = if n = k then 1#1 else 0#1 := by
    decide
  rw [e]
  by_cases h : n = k
  · rw [if_pos h, if_pos h]
    show ((((1#1 : BitVec 1).toNat : ℝ)) : EReal) = 1
    simp
  · rw [if_neg h, if_neg h]
    show ((((0#1 : BitVec 1).toNat : ℝ)) : EReal) = 0
    simp

/-- A gate's matrices on the diagonal of one. -/
def diag (w : FVec Ideal S8x64x64 .f32) : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3 w : FVec Ideal S8x64x1x64 .f32) : FVec Ideal S8x64x8x64 .f32)
    (broadcastInDim S8x64x8x64 ![0, 1, 2, 3] bcast_S8x1x8x1_S8x64x8x64_0_1_2_3 (broadcastInDim S8x1x8x1 ![0, 2] bcast_S8x8_S8x1x8x1_0_2 eye : FVec Ideal S8x1x8x1 .f32) : FVec Ideal S8x64x8x64 .f32) : FVec Ideal S8x64x8x64 .f32) shapeCasts_S8x64x8x64_S512x512

/-- The matrix, entry by entry. -/
theorem diag_apply (w : FVec Ideal S8x64x64 .f32) (k j : Fin 512) :
    diag w (ix2 k j) = w (ix3 (Scan.blk k) (Scan.pos k) (Scan.pos j)) * (if Scan.blk k = Scan.blk j then 1 else 0) := by
  rw [← eye_apply]
  unfold diag
  generalize eye = e
  simp only [pointwise]
  rfl

/-- The two gates' matrices side by side. -/
def gates (a b : FVec Ideal S512x512 .f32) : FVec Ideal S512x1024 .bf16 :=
  truncf .bf16 (concatenate S512x1024 1 [⟨S512x512, a⟩, ⟨S512x512, b⟩] concatenates_S512x512_S512x512_S512x1024_d1 : FVec Ideal S512x1024 .f32) bitsLt_bf16_f32

/-- The recurrence gate's matrix comes first. -/
theorem gates_r (a b : FVec Ideal S512x512 .f32) (k j : Fin 512) : gates a b (ix2 k ⟨j.val, by omega⟩) = a (ix2 k j) := by
  unfold gates
  simp only [pointwise]
  rw [dif_pos trivial]

/-- The input gate's matrix comes second. -/
theorem gates_i (a b : FVec Ideal S512x512 .f32) (k j : Fin 512) : gates a b (ix2 k ⟨512 + j.val, by omega⟩) = b (ix2 k j) := by
  unfold gates
  simp only [pointwise]
  rw [dif_neg (fun h => h)]
  exact congrArg b (congrArg₂ ix2 rfl (Fin.ext (by show 512 + j.val - 512 = j.val; omega)))

/-- The gates' offsets as the region finds them. -/
theorem V_v27 (c : Dev nD) : (V m c main_v27 : FVec Ideal S1x1024 .f32) = offsets (m ((c : Thread nD τ).loc main_arg6) : FVec Ideal S512 .f32) (m ((c : Thread nD τ).loc main_arg8) : FVec Ideal S512 .f32) := by
  show StableHlo.after (List.flatten [hostOps0]) (fun b => m (c, b)) main_v27 = _
  simp only [hostOps0, List.flatten_cons, List.flatten_nil, List.append_nil, List.cons_append, List.nil_append]
  after_results
  rfl

/-- The gates' matrices as the region finds them. -/
theorem V_v25 (c : Dev nD) : V m c main_v25 = (gates (diag (m ((c : Thread nD τ).loc main_arg5) : FVec Ideal S8x64x64 .f32)) (diag (m ((c : Thread nD τ).loc main_arg7) : FVec Ideal S8x64x64 .f32)) : FVec Ideal S512x1024 .bf16) := by
  show StableHlo.after (List.flatten [hostOps0]) (fun b => m (c, b)) main_v25 = _
  simp only [hostOps0, List.flatten_cons, List.flatten_nil, List.append_nil, List.cons_append, List.nil_append]
  after_results
  rfl

/-- A sequence's part of the arguments. -/
def args (c : Dev nD) (b : Fin 32) : Scan.Args where
  carried s j := (m ((c : Thread nD τ).loc main_arg1) : FVec Ideal S32x3x512 .f32) (ix3 b s j)
  rows s j := (m ((c : Thread nD τ).loc main_arg0) : FVec Ideal S16640x2560 .f32) (ix2 ⟨16384 + 8 * b.val + s.val, by omega⟩ ⟨1536 + j.val, by omega⟩)
  side s j := (m ((c : Thread nD τ).loc main_arg0) : FVec Ideal S16640x2560 .f32) (ix2 ⟨16384 + 8 * b.val + s.val, by omega⟩ ⟨2048 + j.val, by omega⟩)
  start j := (m ((c : Thread nD τ).loc main_arg2) : FVec Ideal S32x512 .f32) (ix2 b j)
  taps i j := (m ((c : Thread nD τ).loc main_arg3) : FVec Ideal S4x512 .f32) (ix2 i j)
  off j := (m ((c : Thread nD τ).loc main_arg4) : FVec Ideal S512 .f32) (ix1 j)
  wr n k i := (m ((c : Thread nD τ).loc main_arg5) : FVec Ideal S8x64x64 .f32) (ix3 n k i)
  br j := (m ((c : Thread nD τ).loc main_arg6) : FVec Ideal S512 .f32) (ix1 j)
  wi n k i := (m ((c : Thread nD τ).loc main_arg7) : FVec Ideal S8x64x64 .f32) (ix3 n k i)
  bi j := (m ((c : Thread nD τ).loc main_arg8) : FVec Ideal S512 .f32) (ix1 j)
  lam j := (m ((c : Thread nD τ).loc main_arg9) : FVec Ideal S512 .f32) (ix1 j)

/-- A point's blocks hold its sequence's arguments. -/
theorem holds (c : Dev nD) (t : Fin cfg0.N) : Holds (args m c (seq_ t)) (iblk m c 0 t) (iblk m c 1 t) (iblk m c 2 t) (iblk m c 3 t) (iblk m c 4 t) (iblk m c 5 t) (iblk m c 6 t) (iblk m c 7 t) (iblk m c 8 t) where
  rows s j := (blk0 m c t s j).trans (congrFun (V_main_arg0 m c) _)
  side s j := (blk1 m c t s j).trans (congrFun (V_main_arg0 m c) _)
  carried s j := (blk2 m c t 0 s j).trans (congrFun (V_main_arg1 m c) _)
  start j := (blk3 m c t 0 0 j).trans (V_v28 m c _ 0 j)
  taps i j := (blk4 m c t i j).trans (congrFun (V_main_arg3 m c) _)
  off j := (blk5 m c t 0 j).trans (V_v29 m c 0 j)
  wr k j := (blk6 m c t k _).trans ((congrFun (V_v25 m c) _).trans ((gates_r _ _ k j).trans (diag_apply _ k j)))
  wi k j := (blk6 m c t k _).trans ((congrFun (V_v25 m c) _).trans ((gates_i _ _ k j).trans (diag_apply _ k j)))
  br j := (blk7 m c t 0 _).trans ((congrFun (V_v27 m c) _).trans (offsets_r _ _ 0 j))
  bi j := (blk7 m c t 0 _).trans ((congrFun (V_v27 m c) _).trans (offsets_i _ _ 0 j))
  lam j := (blk8 m c t 0 j).trans (V_v30 m c 0 j)

/-- The branch's rows, each in its sequence. -/
def want9 (c : Dev nD) : FVec Ideal S256x512 .f32 := fun x =>
  (args m c ⟨(x 0).val / 8, by have h : (x 0).val < 256 := (x 0).isLt; omega⟩).out ⟨(x 0).val % 8, by omega⟩ (x 1)

/-- The last states. -/
def want10 (c : Dev nD) : FVec Ideal S32x1x512 .f32 := fun x => (args m c (x 0)).st 8 (x 2)

/-- The last three rows. -/
def want11 (c : Dev nD) : FVec Ideal S32x3x512 .f32 := fun x =>
  (args m c (x 0)).rows ⟨(x 1).val + 5, by have h : (x 1).val < 3 := (x 1).isLt; omega⟩ (x 2)

/-- The branch's rows at a point's rows. -/
theorem want9_apply (c : Dev nD) (b : Fin 32) (s : Fin 8) (j : Fin 512) (r : Fin 256) (hr : r.val = 8 * b.val + s.val) :
    want9 m c (ix2 r j) = (args m c b).out s j := by
  exact congrArg₂ (fun b s => (args m c b).out s j) (Fin.ext (by show r.val / 8 = b.val; omega)) (Fin.ext (by show r.val % 8 = s.val; omega))

/-- A point's rows of the branch. -/
theorem at9 (c : Dev nD) (t : Fin cfg0.N) (q : Fin 8) (j : Fin 512) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (ix2 q j) = (args m c (seq_ t)).out q j :=
  out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (args m c (seq_ t)) (holds m c t) q j

/-- A point's last state. -/
theorem at10 (c : Dev nD) (t : Fin cfg0.N) (j : Fin 512) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (ix3 0 0 j) = (args m c (seq_ t)).st 8 j :=
  out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (args m c (seq_ t)) (holds m c t) j

/-- A point's last three rows. -/
theorem at11 (c : Dev nD) (t : Fin cfg0.N) (q : Fin 3) (j : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (ix3 0 q j) = (args m c (seq_ t)).rows ⟨q.val + 5, by omega⟩ j :=
  out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (args m c (seq_ t)) (holds m c t) q j

/-- The kernel's first result array. -/
theorem result9 (c : Dev nD) : (dats m 0 c).arrAt 9 cfg0.N = want9 m c := by
  refine Dat.arrAt_eq_of_covers _ 9 _ (by decide +kernel) fun t _ y => ?_
  rw [after0_9]
  obtain ⟨q, j, hy⟩ : ∃ (q : Fin 8) (j : Fin 512), y = ix2 q j := ⟨y 0, y 1, funext fun a => by
    match a with
    | ⟨0, _⟩ => rfl
    | ⟨1, _⟩ => rfl⟩
  subst hy
  have hb := at9 m c t q j
  unfold outsAt0
  generalize out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) = o at hb ⊢
  refine hb.trans ?_
  have hi := idx t
  refine (want9_apply m c (seq_ t) q j ⟨8 * t.val + q.val, by have h : t.val < 32 := t.isLt; omega⟩ rfl).symm.trans ?_
  refine congrArg (want9 m c) (funext fun a => Fin.ext ?_)
  match a with
  | ⟨0, _⟩ =>
    refine Eq.trans ?_ (ValueKit.view_emb_slice_whole_unit_val main_v31_0 _ _ _ _ 0).symm
    show 8 * t.val + q.val = win0_9.index t 0 * 8 + q.val
    omega
  | ⟨1, _⟩ =>
    refine Eq.trans ?_ (ValueKit.view_emb_slice_whole_unit_val main_v31_0 _ _ _ _ 1).symm
    show j.val = win0_9.index t 1 * 512 + j.val
    omega

/-- The kernel's result array 2. -/
theorem result10 (c : Dev nD) : (dats m 0 c).arrAt 10 cfg0.N = want10 m c := by
  refine Dat.arrAt_eq_of_covers _ 10 _ (by decide +kernel) fun t _ y => ?_
  rw [after0_10]
  obtain ⟨z, q, j, hy⟩ : ∃ (z : Fin 1) (q : Fin 1) (j : Fin 512), y = ix3 z q j := ⟨y 0, y 1, y 2, funext fun a => by
    match a with
    | ⟨0, _⟩ => rfl
    | ⟨1, _⟩ => rfl
    | ⟨2, _⟩ => rfl⟩
  subst hy
  obtain rfl := Subsingleton.elim z 0
  obtain rfl := Subsingleton.elim q 0
  have hb := at10 m c t j
  unfold outsAt0
  generalize out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) = o at hb ⊢
  refine hb.trans ?_
  have hi := idx t
  refine (show (args m c (seq_ t)).st 8 j = want10 m c (ix3 (seq_ t) 0 j) from rfl).trans ?_
  refine congrArg (want10 m c) (funext fun a => Fin.ext ?_)
  match a with
  | ⟨0, _⟩ =>
    refine Eq.trans ?_ (ValueKit.view_emb_slice_whole_unit_val main_v31_1 _ _ _ _ 0).symm
    show t.val = win0_10.index t 0 * 1 + 0
    omega
  | ⟨1, _⟩ =>
    refine Eq.trans ?_ (ValueKit.view_emb_slice_whole_unit_val main_v31_1 _ _ _ _ 1).symm
    show 0 = win0_10.index t 1 * 1 + 0
    omega
  | ⟨2, _⟩ =>
    refine Eq.trans ?_ (ValueKit.view_emb_slice_whole_unit_val main_v31_1 _ _ _ _ 2).symm
    show j.val = win0_10.index t 2 * 512 + j.val
    omega

/-- The kernel's result array 3. -/
theorem result11 (c : Dev nD) : (dats m 0 c).arrAt 11 cfg0.N = want11 m c := by
  refine Dat.arrAt_eq_of_covers _ 11 _ (by decide +kernel) fun t _ y => ?_
  rw [after0_11]
  obtain ⟨z, q, j, hy⟩ : ∃ (z : Fin 1) (q : Fin 3) (j : Fin 512), y = ix3 z q j := ⟨y 0, y 1, y 2, funext fun a => by
    match a with
    | ⟨0, _⟩ => rfl
    | ⟨1, _⟩ => rfl
    | ⟨2, _⟩ => rfl⟩
  subst hy
  obtain rfl := Subsingleton.elim z 0

  have hb := at11 m c t q j
  unfold outsAt0
  generalize out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) = o at hb ⊢
  refine hb.trans ?_
  have hi := idx t
  refine (show (args m c (seq_ t)).rows ⟨q.val + 5, by omega⟩ j = want11 m c (ix3 (seq_ t) q j) from rfl).trans ?_
  refine congrArg (want11 m c) (funext fun a => Fin.ext ?_)
  match a with
  | ⟨0, _⟩ =>
    refine Eq.trans ?_ (ValueKit.view_emb_slice_whole_unit_val main_v31_2 _ _ _ _ 0).symm
    show t.val = win0_11.index t 0 * 1 + 0
    omega
  | ⟨1, _⟩ =>
    refine Eq.trans ?_ (ValueKit.view_emb_slice_whole_unit_val main_v31_2 _ _ _ _ 1).symm
    show q.val = win0_11.index t 1 * 3 + q.val
    omega
  | ⟨2, _⟩ =>
    refine Eq.trans ?_ (ValueKit.view_emb_slice_whole_unit_val main_v31_2 _ _ _ _ 2).symm
    show j.val = win0_11.index t 2 * 512 + j.val
    omega

end Cert.RecIdeal.Val

end
-- ==== Proof.V.RecRef.lean ====
/-
  The recurrence's reference, entry by entry.
-/
module

public import proofs.«01_k».proof.Proof.V.Scan
public import proofs.«01_k».proof.Proof.Gen.RecRefIdeal.Run

@[expose] public section

set_option maxRecDepth 16384

noncomputable section

namespace Cert.RecRefIdeal.Val

open Cert.RecRefIdeal Cert.RecRefIdeal.Gen Idealize.ShloMosaic Idealize.ShloMosaic.TcCoe Idealize.SL.Sem
open scoped BigOperators

/-- A sample row of the projected tokens. -/
def row_ (b : Fin 32) (s : Fin 8) : Fin 16640 := ⟨16384 + 8 * b.val + s.val, by omega⟩

/-- Two indices of three coordinates agree where the coordinates do. -/
theorem ix3_congr {n0 n1 n2 : ℕ} {b b' : Fin n0} {s s' : Fin n1} {j j' : Fin n2} (h0 : b.val = b'.val) (h1 : s.val = s'.val)
    (h2 : j.val = j'.val) : ix3 b s j = ix3 b' s' j' := by
  rw [Fin.ext h0, Fin.ext h1, Fin.ext h2]

variable (V0 : Valuation τ sig (Elt Ideal))

/-- A sequence's part of the arguments. -/
def args (b : Fin 32) : Scan.Args where
  carried s j := (V0 (Proc.devRef .tc main_arg1) : FVec Ideal S32x3x512 .f32) (ix3 b s j)
  rows s j := (V0 (Proc.devRef .tc main_arg0) : FVec Ideal S16640x2560 .f32) (ix2 (row_ b s) ⟨1536 + j.val, by omega⟩)
  side s j := (V0 (Proc.devRef .tc main_arg0) : FVec Ideal S16640x2560 .f32) (ix2 (row_ b s) ⟨2048 + j.val, by omega⟩)
  start j := (V0 (Proc.devRef .tc main_arg2) : FVec Ideal S32x512 .f32) (ix2 b j)
  taps i j := (V0 (Proc.devRef .tc main_arg3) : FVec Ideal S4x512 .f32) (ix2 i j)
  off j := (V0 (Proc.devRef .tc main_arg4) : FVec Ideal S512 .f32) (ix1 j)
  wr n k i := (V0 (Proc.devRef .tc main_arg5) : FVec Ideal S8x64x64 .f32) (ix3 n k i)
  br j := (V0 (Proc.devRef .tc main_arg6) : FVec Ideal S512 .f32) (ix1 j)
  wi n k i := (V0 (Proc.devRef .tc main_arg7) : FVec Ideal S8x64x64 .f32) (ix3 n k i)
  bi j := (V0 (Proc.devRef .tc main_arg8) : FVec Ideal S512 .f32) (ix1 j)
  lam j := (V0 (Proc.devRef .tc main_arg9) : FVec Ideal S512 .f32) (ix1 j)

/-- A sample group's rows, entry by entry. -/
theorem v1_apply (b : Fin 32) (s : Fin 8) (j : Fin 2560) :
    (Cert.RecRefIdeal.Value.res_main_v1 V0 : FVec Ideal S32x8x2560 .f32) (ix3 b s j)
      = (V0 (Proc.devRef .tc main_arg0) : FVec Ideal S16640x2560 .f32) (ix2 (row_ b s) j) := by
  unfold Cert.RecRefIdeal.Value.res_main_v1
  simp only [pointwise]
  refine congrArg (V0 (Proc.devRef .tc main_arg0)) (congrArg₂ ix2 (Fin.ext ?_) (Fin.ext (Nat.zero_add _)))
  show 16384 + (b.val * 8 + s.val) = 16384 + 8 * b.val + s.val
  omega

/-- The rows the filter runs over: three carried, then eight new. -/
theorem v4_apply (b : Fin 32) (s : Fin 11) (j : Fin 512) :
    (Cert.RecRefIdeal.Value.res_main_v4 V0 : FVec Ideal S32x11x512 .f32) (ix3 b s j) = (args V0 b).line s j := by
  unfold Cert.RecRefIdeal.Value.res_main_v4 Scan.Args.line args
  simp only [pointwise]
  by_cases h : s.val < 3
  · rw [dif_pos h, dif_pos h]
  · rw [dif_neg h, dif_neg h]
    refine Eq.trans (congrArg (Cert.RecRefIdeal.Value.res_main_v1 V0) (ix3_congr (b' := b) (s' := ⟨s.val - 3, by omega⟩) (j' := ⟨1536 + j.val, by omega⟩) ?_ ?_ ?_)) (v1_apply V0 _ _ _)
    · show 0 + b.val = b.val
      omega
    · show 0 + (s.val - 3) = s.val - 3
      omega
    · rfl

/-- The filtered rows, entry by entry. -/
theorem v34_apply (b : Fin 32) (s : Fin 8) (j : Fin 512) :
    (Cert.RecRefIdeal.Value.res_main_v34 V0 : FVec Ideal S32x8x512 .f32) (ix3 b s j) = (args V0 b).conv s j := by
  have h := v4_apply V0 b
  unfold Cert.RecRefIdeal.Value.res_main_v34
  generalize (Cert.RecRefIdeal.Value.res_main_v4 V0 : FVec Ideal S32x11x512 .f32) = x at h ⊢
  unfold Scan.Args.conv Scan.filt
  simp only [pointwise, zero_add, Nat.reduceEqDiff, reduceDIte, Matrix.cons_val, ← h, Fin.coe_ofNat_eq_mod, Nat.zero_mod]
  rfl

/-- A gate's products, entry by entry. -/
theorem gate_apply (x : FVec Ideal S32x8x512 .f32) (f : Fin 512 → EReal) (b : Fin 32) (s : Fin 8) (j : Fin 512)
    (h : ∀ j, x (ix3 b s j) = f j) (w : FVec Ideal S8x64x64 .f32) (g : FVec Ideal S512 .f32) :
    (addf (shapeCast S32x8x512 (transpose S32x8x8x64 [2, 3, 0, 1] (Host.dotGeneral dot_S8x64x64_S32x8x8x64_S8x64x32x8_1_3_2_01_0_2 none w (shapeCast S32x8x8x64 x shapeCasts_S32x8x512_S32x8x8x64)) transposes_S8x64x32x8_S32x8x8x64_2_3_0_1) shapeCasts_S32x8x8x64_S32x8x512)
      (broadcastInDim S32x8x512 ![0, 1, 2] bcast_S1x1x512_S32x8x512_0_1_2 (broadcastInDim S1x1x512 ![2] bcast_S512_S1x1x512_2 g)) : FVec Ideal S32x8x512 .f32) (ix3 b s j)
      = Scan.gate f (fun n k i => w (ix3 n k i)) (g (ix1 j)) j := by
  unfold Scan.gate
  simp only [pointwise, zero_add, Nat.reduceEqDiff, reduceDIte]
  refine congrArg (· + g (ix1 j)) (Finset.sum_congr rfl fun k _ => ?_)
  rw [mul_comm, h]
  refine congrArg (fun i => f i * w (ix3 (Scan.blk j) k (Scan.pos j))) (Fin.ext ?_)
  show j.val / 64 * 64 + k.val = 64 * (j.val / 64) + k.val
  omega

/-- The logarithm of the decay in the filtered rows and the arguments. -/
def logs (x : FVec Ideal S32x8x512 .f32) (w : FVec Ideal S8x64x64 .f32) (g l : FVec Ideal S512 .f32) : FVec Ideal S32x8x512 .f32 :=
  mulf (broadcastInDim S32x8x512 ![0, 1, 2] bcast_S1x1x512_S32x8x512_0_1_2 (broadcastInDim S1x1x512 ![2] bcast_S512_S1x1x512_2 (mulf (broadcastInDim S512 ![] bcast_S_S512 (constant S_ .f32 0xC1000000#32)) (select (cmpf .une (subf (Host.negf l) (broadcastInDim S512 ![] bcast_S_S512 (constant S_ .f32 0x00000000#32))) (subf (Host.negf l) (broadcastInDim S512 ![] bcast_S_S512 (constant S_ .f32 0x00000000#32)))) (addf (Host.negf l) (broadcastInDim S512 ![] bcast_S_S512 (constant S_ .f32 0x00000000#32))) (addf (maximumf (Host.negf l) (broadcastInDim S512 ![] bcast_S_S512 (constant S_ .f32 0x00000000#32))) (Host.log1p (Host.exp (Host.negf (Host.absf (subf (Host.negf l) (broadcastInDim S512 ![] bcast_S_S512 (constant S_ .f32 0x00000000#32)))))))))))) (Host.divf (broadcastInDim S32x8x512 ![] bcast_S_S32x8x512 (constant S_ .f32 0x3F800000#32)) (addf (broadcastInDim S32x8x512 ![] bcast_S_S32x8x512 (constant S_ .f32 0x3F800000#32)) (Host.exp (Host.negf
    (addf (shapeCast S32x8x512 (transpose S32x8x8x64 [2, 3, 0, 1] (Host.dotGeneral dot_S8x64x64_S32x8x8x64_S8x64x32x8_1_3_2_01_0_2 none w (shapeCast S32x8x8x64 x shapeCasts_S32x8x512_S32x8x8x64)) transposes_S8x64x32x8_S32x8x8x64_2_3_0_1) shapeCasts_S32x8x8x64_S32x8x512)
      (broadcastInDim S32x8x512 ![0, 1, 2] bcast_S1x1x512_S32x8x512_0_1_2 (broadcastInDim S1x1x512 ![2] bcast_S512_S1x1x512_2 g)))))))

/-- It is the run's. -/
theorem v66_eq : (Cert.RecRefIdeal.Value.res_main_v66 V0 : FVec Ideal S32x8x512 .f32)
    = logs (Cert.RecRefIdeal.Value.res_main_v34 V0) (V0 (Proc.devRef .tc main_arg5)) (V0 (Proc.devRef .tc main_arg6)) (V0 (Proc.devRef .tc main_arg9)) := by
  unfold Cert.RecRefIdeal.Value.res_main_v66 Cert.RecRefIdeal.Value.res_main_v35 Cert.RecRefIdeal.Value.res_main_call0_v3
    Cert.RecRefIdeal.Value.res_main_call0_cst Cert.RecRefIdeal.Value.res_main_v60 logs
  rfl

/-- The logarithm of the decay, entry by entry. -/
theorem logs_apply (x : FVec Ideal S32x8x512 .f32) (w : FVec Ideal S8x64x64 .f32) (g l : FVec Ideal S512 .f32) (f : Fin 512 → EReal)
    (b : Fin 32) (s : Fin 8) (j : Fin 512) (h : ∀ j, x (ix3 b s j) = f j) :
    logs x w g l (ix3 b s j) = Scan.decay (l (ix1 j)) (Scan.gate f (fun n k i => w (ix3 n k i)) (g (ix1 j)) j) := by
  have hg := gate_apply x f b s j h w g
  unfold logs Scan.decay Scan.soft Ideal.logistic
  generalize (addf (shapeCast S32x8x512 (transpose S32x8x8x64 [2, 3, 0, 1] (Host.dotGeneral dot_S8x64x64_S32x8x8x64_S8x64x32x8_1_3_2_01_0_2 none w (shapeCast S32x8x8x64 x shapeCasts_S32x8x512_S32x8x8x64)) transposes_S8x64x32x8_S32x8x8x64_2_3_0_1) shapeCasts_S32x8x8x64_S32x8x512)
      (broadcastInDim S32x8x512 ![0, 1, 2] bcast_S1x1x512_S32x8x512_0_1_2 (broadcastInDim S1x1x512 ![2] bcast_S512_S1x1x512_2 g)) : FVec Ideal S32x8x512 .f32) = z at hg ⊢
  simp only [pointwise, zero_add, Nat.reduceEqDiff, reduceDIte, sub_zero, ne_eq, not_true_eq_false, if_false, hg]

/-- What a row adds in the decay's logarithm, the filtered rows and the arguments. -/
def incs (d x : FVec Ideal S32x8x512 .f32) (w : FVec Ideal S8x64x64 .f32) (g : FVec Ideal S512 .f32) : FVec Ideal S32x8x512 .f32 :=
  mulf (Host.sqrt (Host.negf (Host.expm1 (mulf (broadcastInDim S32x8x512 ![] bcast_S_S32x8x512 (constant S_ .f32 0x40000000#32)) d)))) (mulf (Host.divf (broadcastInDim S32x8x512 ![] bcast_S_S32x8x512 (constant S_ .f32 0x3F800000#32)) (addf (broadcastInDim S32x8x512 ![] bcast_S_S32x8x512 (constant S_ .f32 0x3F800000#32)) (Host.exp (Host.negf
    (addf (shapeCast S32x8x512 (transpose S32x8x8x64 [2, 3, 0, 1] (Host.dotGeneral dot_S8x64x64_S32x8x8x64_S8x64x32x8_1_3_2_01_0_2 none w (shapeCast S32x8x8x64 x shapeCasts_S32x8x512_S32x8x8x64)) transposes_S8x64x32x8_S32x8x8x64_2_3_0_1) shapeCasts_S32x8x8x64_S32x8x512)
      (broadcastInDim S32x8x512 ![0, 1, 2] bcast_S1x1x512_S32x8x512_0_1_2 (broadcastInDim S1x1x512 ![2] bcast_S512_S1x1x512_2 g))))))) x)

/-- It is the run's. -/
theorem v74_eq : (Cert.RecRefIdeal.Value.res_main_v74 V0 : FVec Ideal S32x8x512 .f32)
    = incs (Cert.RecRefIdeal.Value.res_main_v66 V0) (Cert.RecRefIdeal.Value.res_main_v34 V0) (V0 (Proc.devRef .tc main_arg7)) (V0 (Proc.devRef .tc main_arg8)) := by
  unfold Cert.RecRefIdeal.Value.res_main_v74 Cert.RecRefIdeal.Value.res_main_v35 incs
  rfl

/-- What a row adds, entry by entry. -/
theorem incs_apply (d x : FVec Ideal S32x8x512 .f32) (w : FVec Ideal S8x64x64 .f32) (g : FVec Ideal S512 .f32) (f : Fin 512 → EReal)
    (b : Fin 32) (s : Fin 8) (j : Fin 512) (h : ∀ j, x (ix3 b s j) = f j) :
    incs d x w g (ix3 b s j) = Scan.put (d (ix3 b s j)) (Scan.gate f (fun n k i => w (ix3 n k i)) (g (ix1 j)) j) (f j) := by
  have hg := gate_apply x f b s j h w g
  unfold incs Scan.put Ideal.logistic Ideal.expm1
  generalize (addf (shapeCast S32x8x512 (transpose S32x8x8x64 [2, 3, 0, 1] (Host.dotGeneral dot_S8x64x64_S32x8x8x64_S8x64x32x8_1_3_2_01_0_2 none w (shapeCast S32x8x8x64 x shapeCasts_S32x8x512_S32x8x8x64)) transposes_S8x64x32x8_S32x8x8x64_2_3_0_1) shapeCasts_S32x8x8x64_S32x8x512)
      (broadcastInDim S32x8x512 ![0, 1, 2] bcast_S1x1x512_S32x8x512_0_1_2 (broadcastInDim S1x1x512 ![2] bcast_S512_S1x1x512_2 g)) : FVec Ideal S32x8x512 .f32) = z at hg ⊢
  simp only [pointwise, hg, h, Scan.two_word]

/-- The logarithm of the decay of the run, entry by entry. -/
theorem v66_apply (b : Fin 32) (s : Fin 8) (j : Fin 512) :
    (Cert.RecRefIdeal.Value.res_main_v66 V0 : FVec Ideal S32x8x512 .f32) (ix3 b s j) = (args V0 b).logd s j := by
  rw [v66_eq]
  exact logs_apply _ _ _ _ _ b s j (v34_apply V0 b s)

/-- The decay of the run, entry by entry. -/
theorem v67_apply (b : Fin 32) (s : Fin 8) (j : Fin 512) :
    (Cert.RecRefIdeal.Value.res_main_v67 V0 : FVec Ideal S32x8x512 .f32) (ix3 b s j) = Ideal.exp ((args V0 b).logd s j) := by
  unfold Cert.RecRefIdeal.Value.res_main_v67
  exact congrArg Ideal.exp (v66_apply V0 b s j)

/-- What a row of the run adds, entry by entry. -/
theorem v74_apply (b : Fin 32) (s : Fin 8) (j : Fin 512) :
    (Cert.RecRefIdeal.Value.res_main_v74 V0 : FVec Ideal S32x8x512 .f32) (ix3 b s j) = (args V0 b).inc s j := by
  rw [v74_eq]
  refine (incs_apply _ _ _ _ _ b s j (v34_apply V0 b s)).trans ?_
  rw [v66_apply]
  rfl

/-- One step of the recurrence. -/
theorem step_apply (n : ℕ) (x y : FVec Ideal S32x8x512 .f32) (h : FVec Ideal S32x512 .f32) (hs : S32x8x512.Slices ![0, n, 0] S32x1x512)
    (b : Fin 32) (j : Fin 512)
    (hx : x (ix3 b (Fin.ofNat 8 n) j) = Ideal.exp ((args V0 b).logd (Fin.ofNat 8 n) j))
    (hy : y (ix3 b (Fin.ofNat 8 n) j) = (args V0 b).inc (Fin.ofNat 8 n) j) (hh : h (ix2 b j) = (args V0 b).st n j) :
    (addf (mulf (shapeCast S32x512 (extractStridedSlice S32x1x512 ![0, n, 0] x hs) shapeCasts_S32x1x512_S32x512) h)
      (shapeCast S32x512 (extractStridedSlice S32x1x512 ![0, n, 0] y hs) shapeCasts_S32x1x512_S32x512) : FVec Ideal S32x512 .f32) (ix2 b j)
      = (args V0 b).st (n + 1) j := by
  show _ = Ideal.exp ((args V0 b).logd (Fin.ofNat 8 n) j) * (args V0 b).st n j + (args V0 b).inc (Fin.ofNat 8 n) j
  rw [← hx, ← hy, ← hh]
  simp only [pointwise]
  have e : ∀ (p0 p1 p2), (ix3 (⟨(![0, n, 0] : Fin 3 → ℕ) 0 + b.val, p0⟩ : Fin 32) (⟨(![0, n, 0] : Fin 3 → ℕ) 1 + 0, p1⟩ : Fin 8)
      (⟨(![0, n, 0] : Fin 3 → ℕ) 2 + j.val, p2⟩ : Fin 512)) = ix3 b (Fin.ofNat 8 n) j := fun p0 p1 p2 =>
    ix3_congr (Nat.zero_add _) (by show n + 0 = n % 8; have : n + 0 < 8 := p1; omega) (Nat.zero_add _)
  rw [e]

/-- The state after step 1. -/
theorem v80_apply (b : Fin 32) (j : Fin 512) :
    (Cert.RecRefIdeal.Value.res_main_v80 V0 : FVec Ideal S32x512 .f32) (ix2 b j) = (args V0 b).st 1 j := by
  unfold Cert.RecRefIdeal.Value.res_main_v80
  exact step_apply V0 0 _ _ _ slices_S32x8x512_S32x1x512_0_0_0 b j (v67_apply V0 b 0 j) (v74_apply V0 b 0 j) rfl

/-- The state after step 2. -/
theorem v86_apply (b : Fin 32) (j : Fin 512) :
    (Cert.RecRefIdeal.Value.res_main_v86 V0 : FVec Ideal S32x512 .f32) (ix2 b j) = (args V0 b).st 2 j := by
  unfold Cert.RecRefIdeal.Value.res_main_v86
  exact step_apply V0 1 _ _ _ slices_S32x8x512_S32x1x512_0_1_0 b j (v67_apply V0 b 1 j) (v74_apply V0 b 1 j) (v80_apply V0 b j)

/-- The state after step 3. -/
theorem v92_apply (b : Fin 32) (j : Fin 512) :
    (Cert.RecRefIdeal.Value.res_main_v92 V0 : FVec Ideal S32x512 .f32) (ix2 b j) = (args V0 b).st 3 j := by
  unfold Cert.RecRefIdeal.Value.res_main_v92
  exact step_apply V0 2 _ _ _ slices_S32x8x512_S32x1x512_0_2_0 b j (v67_apply V0 b 2 j) (v74_apply V0 b 2 j) (v86_apply V0 b j)

/-- The state after step 4. -/
theorem v98_apply (b : Fin 32) (j : Fin 512) :
    (Cert.RecRefIdeal.Value.res_main_v98 V0 : FVec Ideal S32x512 .f32) (ix2 b j) = (args V0 b).st 4 j := by
  unfold Cert.RecRefIdeal.Value.res_main_v98
  exact step_apply V0 3 _ _ _ slices_S32x8x512_S32x1x512_0_3_0 b j (v67_apply V0 b 3 j) (v74_apply V0 b 3 j) (v92_apply V0 b j)

/-- The state after step 5. -/
theorem v104_apply (b : Fin 32) (j : Fin 512) :
    (Cert.RecRefIdeal.Value.res_main_v104 V0 : FVec Ideal S32x512 .f32) (ix2 b j) = (args V0 b).st 5 j := by
  unfold Cert.RecRefIdeal.Value.res_main_v104
  exact step_apply V0 4 _ _ _ slices_S32x8x512_S32x1x512_0_4_0 b j (v67_apply V0 b 4 j) (v74_apply V0 b 4 j) (v98_apply V0 b j)

/-- The state after step 6. -/
theorem v110_apply (b : Fin 32) (j : Fin 512) :
    (Cert.RecRefIdeal.Value.res_main_v110 V0 : FVec Ideal S32x512 .f32) (ix2 b j) = (args V0 b).st 6 j := by
  unfold Cert.RecRefIdeal.Value.res_main_v110
  exact step_apply V0 5 _ _ _ slices_S32x8x512_S32x1x512_0_5_0 b j (v67_apply V0 b 5 j) (v74_apply V0 b 5 j) (v104_apply V0 b j)

/-- The state after step 7. -/
theorem v116_apply (b : Fin 32) (j : Fin 512) :
    (Cert.RecRefIdeal.Value.res_main_v116 V0 : FVec Ideal S32x512 .f32) (ix2 b j) = (args V0 b).st 7 j := by
  unfold Cert.RecRefIdeal.Value.res_main_v116
  exact step_apply V0 6 _ _ _ slices_S32x8x512_S32x1x512_0_6_0 b j (v67_apply V0 b 6 j) (v74_apply V0 b 6 j) (v110_apply V0 b j)

/-- The state after step 8. -/
theorem v122_apply (b : Fin 32) (j : Fin 512) :
    (Cert.RecRefIdeal.Value.res_main_v122 V0 : FVec Ideal S32x512 .f32) (ix2 b j) = (args V0 b).st 8 j := by
  unfold Cert.RecRefIdeal.Value.res_main_v122
  exact step_apply V0 7 _ _ _ slices_S32x8x512_S32x1x512_0_7_0 b j (v67_apply V0 b 7 j) (v74_apply V0 b 7 j) (v116_apply V0 b j)

/-- The first result, in the states and the gating rows. -/
def ys (h1 h2 h3 h4 h5 h6 h7 h8 : FVec Ideal S32x512 .f32) (z : FVec Ideal S32x8x512 .f32) : FVec Ideal S256x512 .f32 :=
  shapeCast S256x512 (mulf ((concatenate S32x8x512 1 [⟨S32x1x512, ((broadcastInDim S32x1x512 ![0, 2] bcast_S32x512_S32x1x512_0_2 h1) : (⟨S32x1x512, .f32⟩ : BufTy).Contents (Elt Ideal))⟩, ⟨S32x1x512, ((broadcastInDim S32x1x512 ![0, 2] bcast_S32x512_S32x1x512_0_2 h2) : (⟨S32x1x512, .f32⟩ : BufTy).Contents (Elt Ideal))⟩, ⟨S32x1x512, ((broadcastInDim S32x1x512 ![0, 2] bcast_S32x512_S32x1x512_0_2 h3) : (⟨S32x1x512, .f32⟩ : BufTy).Contents (Elt Ideal))⟩, ⟨S32x1x512, ((broadcastInDim S32x1x512 ![0, 2] bcast_S32x512_S32x1x512_0_2 h4) : (⟨S32x1x512, .f32⟩ : BufTy).Contents (Elt Ideal))⟩, ⟨S32x1x512, ((broadcastInDim S32x1x512 ![0, 2] bcast_S32x512_S32x1x512_0_2 h5) : (⟨S32x1x512, .f32⟩ : BufTy).Contents (Elt Ideal))⟩, ⟨S32x1x512, ((broadcastInDim S32x1x512 ![0, 2] bcast_S32x512_S32x1x512_0_2 h6) : (⟨S32x1x512, .f32⟩ : BufTy).Contents (Elt Ideal))⟩, ⟨S32x1x512, ((broadcastInDim S32x1x512 ![0, 2] bcast_S32x512_S32x1x512_0_2 h7) : (⟨S32x1x512, .f32⟩ : BufTy).Contents (Elt Ideal))⟩, ⟨S32x1x512, ((broadcastInDim S32x1x512 ![0, 2] bcast_S32x512_S32x1x512_0_2 h8) : (⟨S32x1x512, .f32⟩ : BufTy).Contents (Elt Ideal))⟩] concatenates_S32x1x512_S32x1x512_S32x1x512_S32x1x512_S32x1x512_S32x1x512_S32x1x512_S32x1x512_S32x8x512_d1 : (⟨S32x8x512, .f32⟩ : BufTy).Contents (Elt Ideal))) (mulf z (mulf (broadcastInDim S32x8x512 ![] bcast_S_S32x8x512 (constant S_ .f32 0x3F000000#32)) (addf (broadcastInDim S32x8x512 ![] bcast_S_S32x8x512 (constant S_ .f32 0x3F800000#32)) (Host.tanh (mulf (broadcastInDim S32x8x512 ![] bcast_S_S32x8x512 (constant S_ .f32 0x3F4C422A#32)) (addf z (mulf (broadcastInDim S32x8x512 ![] bcast_S_S32x8x512 (constant S_ .f32 0x3D372713#32)) (mulf (mulf z z) z))))))))) shapeCasts_S32x8x512_S256x512

/-- The gating rows, entry by entry. -/
theorem v3_apply (b : Fin 32) (s : Fin 8) (j : Fin 512) :
    (Cert.RecRefIdeal.Value.res_main_v3 V0 : FVec Ideal S32x8x512 .f32) (ix3 b s j) = (args V0 b).side s j := by
  unfold Cert.RecRefIdeal.Value.res_main_v3
  simp only [pointwise]
  refine (congrArg (Cert.RecRefIdeal.Value.res_main_v1 V0) (ix3_congr (b' := b) (s' := s) (j' := ⟨2048 + j.val, by omega⟩) (Nat.zero_add _) (Nat.zero_add _) rfl)).trans
    (v1_apply V0 _ _ _)

/-- Eight states side by side. -/
def pile (h1 h2 h3 h4 h5 h6 h7 h8 : FVec Ideal S32x512 .f32) : Fin 8 → FVec Ideal S32x512 .f32 := ![h1, h2, h3, h4, h5, h6, h7, h8]

/-- The first result, entry by entry, in the states. -/
theorem ys_apply (h1 h2 h3 h4 h5 h6 h7 h8 : FVec Ideal S32x512 .f32) (z : FVec Ideal S32x8x512 .f32) (b : Fin 32) (s : Fin 8) (j : Fin 512)
    (r : Fin 256) (hr : r.val = 8 * b.val + s.val) :
    ys h1 h2 h3 h4 h5 h6 h7 h8 z (ix2 r j) = pile h1 h2 h3 h4 h5 h6 h7 h8 s (ix2 b j) * Scan.gelu (z (ix3 b s j)) := by
  have hb : ∀ p, (⟨r.val / 8, p⟩ : Fin 32) = b := fun p => Fin.ext (by show r.val / 8 = b.val; omega)
  have hs : ∀ p, (⟨r.val % 8, p⟩ : Fin 8) = s := fun p => Fin.ext (by show r.val % 8 = s.val; omega)
  unfold ys Scan.gelu pile
  simp only [pointwise, hb, hs]
  refine congrArg₂ (fun p q : EReal => p * q) ?_ ?_
  · match s with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  · rw [mul_comm (z (ix3 b s j) * z (ix3 b s j)) (z (ix3 b s j))]

/-- The first result of the reference: each channel's state times its gate. -/
theorem y_result (b : Fin 32) (s : Fin 8) (j : Fin 512) (r : Fin 256) (hr : r.val = 8 * b.val + s.val) :
    ys (Cert.RecRefIdeal.Value.res_main_v80 V0) (Cert.RecRefIdeal.Value.res_main_v86 V0) (Cert.RecRefIdeal.Value.res_main_v92 V0)
      (Cert.RecRefIdeal.Value.res_main_v98 V0) (Cert.RecRefIdeal.Value.res_main_v104 V0) (Cert.RecRefIdeal.Value.res_main_v110 V0)
      (Cert.RecRefIdeal.Value.res_main_v116 V0) (Cert.RecRefIdeal.Value.res_main_v122 V0) (Cert.RecRefIdeal.Value.res_main_v3 V0) (ix2 r j)
      = (args V0 b).out s j := by
  rw [ys_apply _ _ _ _ _ _ _ _ _ b s j r hr, v3_apply]
  unfold Scan.Args.out
  refine congrArg (fun p : EReal => p * Scan.gelu ((args V0 b).side s j)) ?_
  match s with
  | ⟨0, _⟩ => exact v80_apply V0 b j
  | ⟨1, _⟩ => exact v86_apply V0 b j
  | ⟨2, _⟩ => exact v92_apply V0 b j
  | ⟨3, _⟩ => exact v98_apply V0 b j
  | ⟨4, _⟩ => exact v104_apply V0 b j
  | ⟨5, _⟩ => exact v110_apply V0 b j
  | ⟨6, _⟩ => exact v116_apply V0 b j
  | ⟨7, _⟩ => exact v122_apply V0 b j

/-- The second result of the reference: the state after the eighth position. -/
theorem h_result (b : Fin 32) (o : Fin 1) (j : Fin 512) :
    (shapeCast S32x1x512 (Cert.RecRefIdeal.Value.res_main_v122 V0 : FVec Ideal S32x512 .f32) shapeCasts_S32x512_S32x1x512 : FVec Ideal S32x1x512 .f32) (ix3 b o j)
      = (args V0 b).st 8 j := by
  refine Eq.trans ?_ (v122_apply V0 b j)
  generalize (Cert.RecRefIdeal.Value.res_main_v122 V0 : FVec Ideal S32x512 .f32) = w
  simp only [pointwise]

/-- The third result of the reference: the last three new rows. -/
theorem conv_result (b : Fin 32) (i : Fin 3) (j : Fin 512) :
    (extractStridedSlice S32x3x512 ![0, 8, 0] (Cert.RecRefIdeal.Value.res_main_v4 V0 : FVec Ideal S32x11x512 .f32) slices_S32x11x512_S32x3x512_0_8_0 : FVec Ideal S32x3x512 .f32) (ix3 b i j)
      = (args V0 b).rows ⟨i.val + 5, by omega⟩ j := by
  simp only [pointwise]
  refine (congrArg (Cert.RecRefIdeal.Value.res_main_v4 V0) (ix3_congr (b' := b) (s' := ⟨i.val + 8, by omega⟩) (j' := j) (Nat.zero_add _) (Nat.add_comm _ _) (Nat.zero_add _))).trans
    ((v4_apply V0 _ _ _).trans ?_)
  unfold Scan.Args.line
  rw [dif_neg (by show ¬ i.val + 8 < 3; omega)]
  rfl

end Cert.RecRefIdeal.Val

end
-- ==== Proof.V.Consts.lean ====
/-
  The literals of the attention's two programs, and the comparisons of its masks, at the ideal instance.
-/
module

public import proofs.«01_k».proof.Proof.PI.Spec
public import Idealize.ShloMosaic.Lib.Pointwise
public import Idealize.ShloMosaic.Lib.WordCmp

@[expose] public section

noncomputable section

namespace Cert.KernelIdeal.Att

open Cert.KernelIdeal Cert.KernelIdeal.Gen Idealize.ShloMosaic Idealize.ShloMosaic.TcCoe

/-- The mask's constant is minus infinity. -/
theorem mask_eq : (Named.named κ "mask" (0xF149F2CA#32 : BitVec FTy.f32.bits) : Ideal .f32) = (⊥ : EReal) :=
  IdealRules.named_const.ideal_named_scalar _ _ _ _ rfl

/-- The word of minus infinity. -/
theorem neg_inf : Ideal.ofBits FTy.f32 0xFF800000#32 = ⊥ := by
  simp [Ideal.ofBits, Ideal.ieee]

/-- The word of infinity. -/
theorem pos_inf : Ideal.ofBits FTy.f32 0x7F800000#32 = ⊤ := by
  simp [Ideal.ofBits, Ideal.ieee]

/-- The word of an eighth. -/
theorem eighth : Ideal.ofBits FTy.f32 0x3E000000#32 = ((1 / 8 : ℝ) : EReal) := by
  simp [Ideal.ofBits, Ideal.ieee, -EReal.coe_mul]
  norm_num

/-- A choice by a truth value's bit. -/
theorem select_ofBool {α : Type} (p : Prop) [Decidable p] (a b : α) :
    Scalar.select (BitVec.ofBool (decide p)) a b = if p then a else b := by
  by_cases h : p <;> simp [Scalar.select, h]

/-- The first head's columns. -/
theorem lane_lt {α : Type} (d : ℕ) (hd : d < 128) (a b : α) :
    Scalar.select (IntOp.cmpi .slt (BitVec.ofNat 32 d) 64#32) a b = if d < 64 then a else b := by
  rw [WordCmp.cmpi_slt_ofNat (by omega) (by omega), select_ofBool]

/-- The second head's columns. -/
theorem lane_ge {α : Type} (d : ℕ) (hd : d < 128) (a b : α) :
    Scalar.select (IntOp.cmpi .sge (BitVec.ofNat 32 d) 64#32) a b = if d < 64 then b else a := by
  rw [WordCmp.cmpi_sge_ofNat (by omega) (by omega), select_ofBool]
  by_cases h : d < 64
  · rw [if_pos h, if_neg (by omega)]
  · rw [if_neg h, if_pos (by omega)]

/-- The causal mask within a block. -/
theorem causal {α : Type} (j c r : ℕ) (hj : j < 4096) (hc : c < 4096) (hr : r < 4096) (a b : α) :
    Scalar.select (IntOp.cmpi .sle (IntOp.addi (BitVec.ofNat 32 j) (BitVec.ofNat 32 c)) (BitVec.ofNat 32 r)) a b
      = if j + c ≤ r then a else b := by
  rw [show IntOp.addi (BitVec.ofNat 32 j) (BitVec.ofNat 32 c) = BitVec.ofNat 32 (j + c) from (BitVec.ofNat_add j c).symm,
    WordCmp.cmpi_sle_ofNat (by omega) (by omega), select_ofBool]

/-- A maximum's fold bounds. -/
theorem fold_le {n : ℕ} (f : Fin n → EReal) (x : EReal) :
    Finset.fold max ⊥ f Finset.univ ≤ x ↔ ∀ k, f k ≤ x := by
  rw [Finset.fold_max_le]
  exact ⟨fun h k => h.2 k (Finset.mem_univ k), fun h => ⟨bot_le, fun k _ => h k⟩⟩

/-- An index's two spellings. -/
theorem i2_eq {a b : ℕ} (x : Fin a) (y : Fin b) : i2 x y = Idealize.ShloMosaic.ix2 x y := (ix2_eq_valueIdx x y).symm
/-- An index's two spellings. -/
theorem i3_eq {a b c : ℕ} (x : Fin a) (y : Fin b) (z : Fin c) : i3 x y z = Idealize.ShloMosaic.ix3 x y z :=
  (ix3_eq_valueIdx x y z).symm
/-- An index's two spellings. -/
theorem i4_eq {a b c d : ℕ} (x : Fin a) (y : Fin b) (z : Fin c) (w : Fin d) : i4 x y z w = Idealize.ShloMosaic.ix4 x y z w :=
  (ix4_eq_valueIdx x y z w).symm

end Cert.KernelIdeal.Att

end
-- ==== Proof.V.Scores.lean ====
/-
  The attention's scores at the ideal instance, entry by entry: a key's score is the product of the query's scaled row,
  nonzero on its head's columns only, with the key's row, plus the difference of the sums of the log forget values.
-/
module

public import proofs.«01_k».proof.Proof.V.Consts

@[expose] public section

set_option maxRecDepth 16384

noncomputable section

namespace Cert.KernelIdeal.Att

open Cert.KernelIdeal Cert.KernelIdeal.Gen Idealize.ShloMosaic Idealize.ShloMosaic.TcCoe

/-- A head's scaled query row: zero off the head's columns. -/
def qrow (h : Fin 2) (x0 : Vec Ideal S512x128 .f32) (r : Fin 512) (d : Fin 128) : EReal :=
  if h = 0 then (if d.val < 64 then x0 (Idealize.ShloMosaic.ix2 r d) * Ideal.ofBits FTy.f32 0x3E000000#32 else 0)
  else (if d.val < 64 then 0 else x0 (Idealize.ShloMosaic.ix2 r d) * Ideal.ofBits FTy.f32 0x3E000000#32)

/-- An entry of the transposed keys, by the key's number. -/
def keyAt (kt : Vec Ideal S8x128x512 .bf16) (d : Fin 128) (i : ℕ) : EReal :=
  kt (i3 ⟨i / 512 % 8, by omega⟩ d ⟨i % 512, by omega⟩)

/-- A head's sum of the log forget values at a key. -/
def fkAt (x4 : Vec Ideal S1x1x2x4096 .f32) (h : Fin 2) (i : ℕ) : EReal := x4 (i4 0 0 h ⟨i % 4096, by omega⟩)

/-- An entry of the values, by the key's number. -/
def valAt (vb : Vec Ideal S4096x128 .bf16) (i : ℕ) (d : Fin 128) : EReal := vb (i2 ⟨i % 4096, by omega⟩ d)

/-- A key block's entry. -/
theorem ktb_apply (kt : Vec Ideal S8x128x512 .bf16) (k o : ℕ) (d : Fin 128) (y : Fin 512) (h : o = 512 * k + y.val) :
    ktb kt k (Idealize.ShloMosaic.ix3 0 d y) = keyAt kt d o := by
  subst h
  unfold ktb keyAt
  refine congrArg kt ?_
  have e1 : (⟨k % 8, by omega⟩ : Fin 8) = ⟨(512 * k + y.val) / 512 % 8, by omega⟩ := Fin.ext (by show k % 8 = (512 * k + y.val) / 512 % 8; have := y.isLt; omega)
  have e2 : y = ⟨(512 * k + y.val) % 512, by omega⟩ := Fin.ext (by show y.val = (512 * k + y.val) % 512; have := y.isLt; omega)
  show i3 (⟨k % 8, _⟩ : Fin 8) d y = _
  rw [e1]
  exact congrArg (i3 _ d) e2

/-- A block of the sums of the log forget values. -/
theorem frb_apply (x4 : Vec Ideal S1x1x2x4096 .f32) (h : Fin 2) (o i : ℕ) (j : Fin 256) (e : i = o + j.val) :
    frb x4 h o (Idealize.ShloMosaic.ix4 0 0 0 j) = fkAt x4 h i := by
  subst e
  rfl

/-- A block of the values. -/
theorem vbb_apply (vb : Vec Ideal S4096x128 .bf16) (k i : ℕ) (j : Fin 512) (d : Fin 128) (e : i = 512 * k + j.val) :
    vbb vb k (Idealize.ShloMosaic.ix2 j d) = valAt vb i d := by
  subst e
  rfl

/-- Head 0's masked product. -/
theorem qrow_mul0 (x0 : Vec Ideal S512x128 .f32) (r : Fin 512) (d : Fin 128) (z w : EReal) (hz : z = w) :
    Scalar.select (IntOp.cmpi .slt (BitVec.ofNat 32 d.val) 64#32) (x0 (Idealize.ShloMosaic.ix2 r d) * Ideal.ofBits FTy.f32 0x3E000000#32 * z) (0 : EReal)
      = qrow 0 x0 r d * w := by
  subst hz
  rw [lane_lt d.val d.isLt]
  unfold qrow
  rw [if_pos rfl]
  by_cases h : d.val < 64
  · rw [if_pos h, if_pos h]
  · rw [if_neg h, if_neg h, zero_mul]

/-- Head 1's masked product. -/
theorem qrow_mul1 (x0 : Vec Ideal S512x128 .f32) (r : Fin 512) (d : Fin 128) (z w : EReal) (hz : z = w) :
    Scalar.select (IntOp.cmpi .sge (BitVec.ofNat 32 d.val) 64#32) (x0 (Idealize.ShloMosaic.ix2 r d) * Ideal.ofBits FTy.f32 0x3E000000#32 * z) (0 : EReal)
      = qrow 1 x0 r d * w := by
  subst hz
  rw [lane_ge d.val d.isLt]
  unfold qrow
  rw [if_neg (by decide : ¬ (1 : Fin 2) = 0)]
  by_cases h : d.val < 64
  · rw [if_pos h, if_pos h, zero_mul]
  · rw [if_neg h, if_neg h]

section
variable (x0 : Vec Ideal S512x128 .f32) (x3 : Vec Ideal S1x1x512x2 .f32) (x4 : Vec Ideal S1x1x2x4096 .f32)
  (kt : Vec Ideal S8x128x512 .bf16) (vb : Vec Ideal S4096x128 .bf16) (n : ℕ)

/-- A head's unmasked score of a key. -/
def raw (h : Fin 2) (r : Fin 512) (i : ℕ) : EReal :=
  (∑ d : Fin 128, qrow h x0 r d * keyAt kt d i) + (x3 (Idealize.ShloMosaic.ix4 0 0 r h) - fkAt x4 h i)

/-- A head's score of a key: minus infinity past the query. -/
def sm (h : Fin 2) (r : Fin 512) (i : ℕ) : EReal := if i ≤ 512 * n + r.val then raw x0 x3 x4 kt h r i else ⊥

/-- Head 0's scores, first half of a block. -/
theorem pay7_apply (k : ℕ) (r : Fin 512) (j : Fin 256) :
    k0_pay7 (k0_pay24 x0) (k0_pay26 x3) (ktb kt k) (frb x4 0 (512 * k)) (Idealize.ShloMosaic.ix2 r j) = raw x0 x3 x4 kt 0 r (512 * k + j.val) := by
  simp only [k0_pay7, k0_pay6, k0_pay22, k0_pay23, k0_pay24, k0_pay26, pointwise, List.foldl_cons, List.foldl_nil, Nat.zero_mul, Nat.zero_add]
  unfold raw
  refine Ideal.add_congr ((zero_add _).trans (Finset.sum_congr rfl fun d _ => qrow_mul0 x0 r d _ _ ?_)) ?_
  · exact (congrArg (ktb kt k) (congrArg₂ (Idealize.ShloMosaic.ix3 0) (Fin.ext (Nat.zero_add _)) (Fin.ext (Nat.zero_add _)))).trans
      (ktb_apply kt k _ d ⟨j.val, by omega⟩ rfl)
  · exact congrArg₂ (· - ·) (congrArg x3 (congrArg (fun a => Idealize.ShloMosaic.ix4 0 0 a 0) (Fin.ext (Nat.zero_add _)))) (frb_apply x4 0 _ _ j rfl)

/-- Head 0's scores, second half of a block. -/
theorem pay10_apply (k : ℕ) (r : Fin 512) (j : Fin 256) :
    k0_pay10 (k0_pay24 x0) (k0_pay26 x3) (ktb kt k) (frb x4 0 (512 * k + 256)) (Idealize.ShloMosaic.ix2 r j) = raw x0 x3 x4 kt 0 r (512 * k + 256 + j.val) := by
  simp only [k0_pay10, k0_pay6, k0_pay22, k0_pay23, k0_pay24, k0_pay26, pointwise, List.foldl_cons, List.foldl_nil, Nat.zero_mul, Nat.zero_add]
  unfold raw
  refine Ideal.add_congr ((zero_add _).trans (Finset.sum_congr rfl fun d _ => qrow_mul0 x0 r d _ _ ?_)) ?_
  · exact (congrArg (ktb kt k) (congrArg₂ (Idealize.ShloMosaic.ix3 0) (Fin.ext (Nat.zero_add _)) rfl)).trans
      (ktb_apply kt k _ d ⟨256 + j.val, by omega⟩ (by show _ = 512 * k + (256 + j.val); omega))
  · exact congrArg₂ (· - ·) (congrArg x3 (congrArg (fun a => Idealize.ShloMosaic.ix4 0 0 a 0) (Fin.ext (Nat.zero_add _)))) (frb_apply x4 0 _ _ j rfl)

/-- Head 1's scores, first half of a block. -/
theorem pay30_apply (k : ℕ) (r : Fin 512) (j : Fin 256) :
    k0_pay30 x0 x3 (k0_pay6 (ktb kt k)) (frb x4 1 (512 * k)) (Idealize.ShloMosaic.ix2 r j) = raw x0 x3 x4 kt 1 r (512 * k + j.val) := by
  simp only [k0_pay30, k0_pay6, k0_pay22, k0_pay23, k0_pay25, k0_pay27, pointwise, List.foldl_cons, List.foldl_nil, Nat.zero_mul, Nat.zero_add]
  unfold raw
  refine Ideal.add_congr ((zero_add _).trans (Finset.sum_congr rfl fun d _ => qrow_mul1 x0 r d _ _ ?_)) ?_
  · exact (congrArg (ktb kt k) (congrArg₂ (Idealize.ShloMosaic.ix3 0) (Fin.ext (Nat.zero_add _)) (Fin.ext (Nat.zero_add _)))).trans
      (ktb_apply kt k _ d ⟨j.val, by omega⟩ rfl)
  · exact congrArg₂ (· - ·) (congrArg x3 (congrArg (fun a => Idealize.ShloMosaic.ix4 0 0 a 1) (Fin.ext (Nat.zero_add _)))) (frb_apply x4 1 _ _ j rfl)

/-- Head 1's scores, second half of a block. -/
theorem pay32_apply (k : ℕ) (r : Fin 512) (j : Fin 256) :
    k0_pay32 x0 x3 (k0_pay6 (ktb kt k)) (frb x4 1 (512 * k + 256)) (Idealize.ShloMosaic.ix2 r j) = raw x0 x3 x4 kt 1 r (512 * k + 256 + j.val) := by
  simp only [k0_pay32, k0_pay6, k0_pay22, k0_pay23, k0_pay25, k0_pay27, pointwise, List.foldl_cons, List.foldl_nil, Nat.zero_mul, Nat.zero_add]
  unfold raw
  refine Ideal.add_congr ((zero_add _).trans (Finset.sum_congr rfl fun d _ => qrow_mul1 x0 r d _ _ ?_)) ?_
  · exact (congrArg (ktb kt k) (congrArg₂ (Idealize.ShloMosaic.ix3 0) (Fin.ext (Nat.zero_add _)) rfl)).trans
      (ktb_apply kt k _ d ⟨256 + j.val, by omega⟩ (by show _ = 512 * k + (256 + j.val); omega))
  · exact congrArg₂ (· - ·) (congrArg x3 (congrArg (fun a => Idealize.ShloMosaic.ix4 0 0 a 1) (Fin.ext (Nat.zero_add _)))) (frb_apply x4 1 _ _ j rfl)

end

end Cert.KernelIdeal.Att

end
-- ==== Proof.V.Rows.lean ====
/-
  The attention's score blocks and row maxima at the ideal instance, entry by entry.
-/
module

public import proofs.«01_k».proof.Proof.V.Scores

@[expose] public section

set_option maxRecDepth 16384

noncomputable section

namespace Cert.KernelIdeal.Att

open Cert.KernelIdeal Cert.KernelIdeal.Gen Idealize.ShloMosaic Idealize.ShloMosaic.TcCoe

/-- A bound of a block's two halves and of what comes before it. -/
theorem bounds_step (f : ℕ → EReal) (k : ℕ) (x : EReal) :
    (((∀ i < 512 * k, f i ≤ x) ∧ ∀ j : Fin 256, f (512 * k + j.val) ≤ x) ∧ ∀ j : Fin 256, f (512 * k + 256 + j.val) ≤ x)
      ↔ ∀ i < 512 * (k + 1), f i ≤ x := by
  constructor
  · rintro ⟨⟨h1, h2⟩, h3⟩ i hi
    by_cases a : i < 512 * k
    · exact h1 i a
    · by_cases b : i < 512 * k + 256
      · have := h2 ⟨i - 512 * k, by omega⟩
        rwa [show 512 * k + (i - 512 * k) = i by omega] at this
      · have := h3 ⟨i - (512 * k + 256), by omega⟩
        rwa [show 512 * k + 256 + (i - (512 * k + 256)) = i by omega] at this
  · exact fun h => ⟨⟨fun i hi => h i (by omega), fun j => h _ (by have := j.isLt; omega)⟩, fun j => h _ (by have := j.isLt; omega)⟩

section
variable (x0 : Vec Ideal S512x128 .f32) (x3 : Vec Ideal S1x1x512x2 .f32) (x4 : Vec Ideal S1x1x2x4096 .f32)
  (kt : Vec Ideal S8x128x512 .bf16) (vb : Vec Ideal S4096x128 .bf16) (n : ℕ)

/-- The mask of a score. -/
theorem mask_sm (h : Fin 2) (r : Fin 512) (j : Fin 256) (o : ℕ) (ho : o < 512) (A : EReal) (hA : A = raw x0 x3 x4 kt h r (512 * n + o + j.val)) :
    Scalar.select (IntOp.cmpi .sle (IntOp.addi (BitVec.ofNat 32 j.val) (BitVec.ofNat 32 o)) (BitVec.ofNat 32 r.val)) A ⊥
      = sm x0 x3 x4 kt n h r (512 * n + o + j.val) := by
  subst hA
  rw [causal _ _ _ (by omega) (by omega) (by omega)]
  unfold sm
  by_cases c : j.val + o ≤ r.val
  · rw [if_pos c, if_pos (by omega)]
  · rw [if_neg c, if_neg (by omega)]

/-- Head 0's diagonal scores, first half. -/
theorem pay42_apply (r : Fin 512) (j : Fin 256) :
    k0_pay42 rows cols (k0_pay24 x0) (k0_pay26 x3) (ktb kt n) (frb x4 0 (512 * n)) (Idealize.ShloMosaic.ix2 r j)
      = sm x0 x3 x4 kt n 0 r (512 * n + j.val) := by
  have h := pay7_apply x0 x3 x4 kt n r j
  simp only [k0_pay7, k0_pay6, k0_pay22, k0_pay23, k0_pay24, k0_pay26, pointwise, List.foldl_cons, List.foldl_nil, Nat.zero_mul, Nat.zero_add] at h
  simp only [k0_pay42, k0_pay41, k0_pay22, k0_pay23, k0_pay24, k0_pay26, pointwise, List.foldl_cons, List.foldl_nil, Nat.zero_mul, Nat.zero_add, mask_eq]
  exact mask_sm x0 x3 x4 kt n 0 r j 0 (by omega) _ h

/-- Head 0's diagonal scores, second half. -/
theorem pay45_apply (r : Fin 512) (j : Fin 256) :
    k0_pay45 rows cols (k0_pay24 x0) (k0_pay26 x3) (ktb kt n) (frb x4 0 (512 * n + 256)) (Idealize.ShloMosaic.ix2 r j)
      = sm x0 x3 x4 kt n 0 r (512 * n + 256 + j.val) := by
  have h := pay10_apply x0 x3 x4 kt n r j
  simp only [k0_pay10, k0_pay6, k0_pay22, k0_pay23, k0_pay24, k0_pay26, pointwise, List.foldl_cons, List.foldl_nil, Nat.zero_mul, Nat.zero_add] at h
  simp only [k0_pay45, k0_pay41, k0_pay22, k0_pay23, k0_pay24, k0_pay26, pointwise, List.foldl_cons, List.foldl_nil, Nat.zero_mul, Nat.zero_add, mask_eq]
  exact mask_sm x0 x3 x4 kt n 0 r j 256 (by omega) _ h

/-- Head 1's diagonal scores, first half. -/
theorem pay48_apply (r : Fin 512) (j : Fin 256) :
    k0_pay48 rows cols (k0_pay25 x0) (k0_pay27 x3) (k0_pay41 (ktb kt n)) (frb x4 1 (512 * n)) (Idealize.ShloMosaic.ix2 r j)
      = sm x0 x3 x4 kt n 1 r (512 * n + j.val) := by
  have h := pay30_apply x0 x3 x4 kt n r j
  simp only [k0_pay30, k0_pay6, k0_pay22, k0_pay23, k0_pay25, k0_pay27, pointwise, List.foldl_cons, List.foldl_nil, Nat.zero_mul, Nat.zero_add] at h
  simp only [k0_pay48, k0_pay41, k0_pay22, k0_pay23, k0_pay25, k0_pay27, pointwise, List.foldl_cons, List.foldl_nil, Nat.zero_mul, Nat.zero_add, mask_eq]
  exact mask_sm x0 x3 x4 kt n 1 r j 0 (by omega) _ h

/-- Head 1's diagonal scores, second half. -/
theorem pay53_apply (r : Fin 512) (j : Fin 256) :
    k0_pay53 rows cols (dg1 x0 x3 x4 kt n) k0_pay52 (Idealize.ShloMosaic.ix2 r j) = sm x0 x3 x4 kt n 1 r (512 * n + 256 + j.val) := by
  have h := pay32_apply x0 x3 x4 kt n r j
  simp only [k0_pay32, k0_pay6, k0_pay22, k0_pay23, k0_pay25, k0_pay27, pointwise, List.foldl_cons, List.foldl_nil, Nat.zero_mul, Nat.zero_add] at h
  simp only [dg1, k0_pay52, k0_pay53, k0_pay51, k0_pay41, k0_pay22, k0_pay23, k0_pay25, k0_pay27, pointwise, List.foldl_cons, List.foldl_nil, Nat.zero_mul, Nat.zero_add, mask_eq]
  exact mask_sm x0 x3 x4 kt n 1 r j 256 (by omega) _ h

/-! ### Maxima -/

/-- The running maxima bound the scores of the key blocks passed. -/
theorem mx_le (k : ℕ) (r : Fin 512) (x : EReal) :
    ((mx x0 x3 x4 kt k).1 (Idealize.ShloMosaic.ix2 r 0) ≤ x ↔ ∀ i < 512 * k, raw x0 x3 x4 kt 0 r i ≤ x)
      ∧ ((mx x0 x3 x4 kt k).2 (Idealize.ShloMosaic.ix2 r 0) ≤ x ↔ ∀ i < 512 * k, raw x0 x3 x4 kt 1 r i ≤ x) := by
  induction k with
  | zero =>
    constructor <;>
    · simp only [mx, k0_pay28, pointwise, mask_eq]
      exact ⟨fun _ i hi => absurd hi (by omega), fun _ => bot_le⟩
  | succ k ih =>
    constructor
    · rw [← bounds_step, ← ih.1]
      simp only [mx, k0_pay29, k0_pay9, pointwise, neg_inf, pay7_apply, pay10_apply, max_le_iff, fold_le]
    · rw [← bounds_step, ← ih.2]
      simp only [mx, k0_pay34, pointwise, neg_inf, pay30_apply, pay32_apply, max_le_iff, fold_le]

/-- Scores before the diagonal block are not masked. -/
theorem sm_before (h : Fin 2) (r : Fin 512) (i : ℕ) (hi : i < 512 * n) : sm x0 x3 x4 kt n h r i = raw x0 x3 x4 kt h r i := by
  unfold sm
  exact if_pos (by omega)

/-- Head 0's maxima bound its masked scores. -/
theorem m0_le (r : Fin 512) (x : EReal) :
    m0 x0 x3 x4 kt n (Idealize.ShloMosaic.ix2 r 0) ≤ x ↔ ∀ i < 512 * (n + 1), sm x0 x3 x4 kt n 0 r i ≤ x := by
  rw [← bounds_step]
  simp only [m0, dg0, k0_pay47, k0_pay44, pointwise, neg_inf, pay42_apply, pay45_apply, max_le_iff, fold_le]
  rw [(mx_le x0 x3 x4 kt n r x).1]
  exact and_congr_left' (and_congr_left' (forall₂_congr fun i hi => by rw [sm_before x0 x3 x4 kt n 0 r i hi]))

/-- Head 1's maxima bound its masked scores. -/
theorem m1_le (r : Fin 512) (x : EReal) :
    k0_pay55 rows cols (m1 x0 x3 x4 kt n) (dg1 x0 x3 x4 kt n) k0_pay52 (Idealize.ShloMosaic.ix2 r 0) ≤ x
      ↔ ∀ i < 512 * (n + 1), sm x0 x3 x4 kt n 1 r i ≤ x := by
  rw [← bounds_step]
  simp only [m1, k0_pay55, k0_pay50, pointwise, neg_inf, pay48_apply, pay53_apply, max_le_iff, fold_le]
  rw [(mx_le x0 x3 x4 kt n r x).2]
  exact and_congr_left' (and_congr_left' (forall₂_congr fun i hi => by rw [sm_before x0 x3 x4 kt n 1 r i hi]))

/-! ### Score blocks -/

/-- A block's entry by its halves' entries. -/
theorem halves_apply (A B : Vec Ideal S1x1x512x256 .f32) (f : ℕ → EReal) (o : ℕ) (r : Fin 512)
    (hA : ∀ j : Fin 256, A (Idealize.ShloMosaic.ix4 0 0 r j) = f (o + j.val))
    (hB : ∀ j : Fin 256, B (Idealize.ShloMosaic.ix4 0 0 r j) = f (o + 256 + j.val)) (j : Fin 512) :
    halves A B (Idealize.ShloMosaic.ix4 0 0 r j) = f (o + j.val) := by
  by_cases h : j.val < 256
  · rw [← i4_eq, halves_lo A B r j h, i4_eq, hA]
  · rw [← i4_eq, halves_hi A B r j h, i4_eq, hB]
    exact congrArg f (by show o + 256 + (j.val - 256) = _; omega)

/-- Head 0's score blocks. -/
theorem s0_apply (k : ℕ) (hk : k ≤ n) (r j : Fin 512) :
    s0 x0 x3 x4 kt n k (Idealize.ShloMosaic.ix4 0 0 r j) = sm x0 x3 x4 kt n 0 r (512 * k + j.val) := by
  unfold s0
  by_cases h : k < n
  · rw [if_pos h, sm_before _ _ _ _ _ _ _ _ (by have := j.isLt; omega)]
    refine halves_apply _ _ (raw x0 x3 x4 kt 0 r) (512 * k) r (fun j => ?_) (fun j => ?_) j
    · simp only [k0_pay8, pointwise, pay7_apply]
    · simp only [k0_pay11, pointwise, pay10_apply]
  · obtain rfl : k = n := by omega
    rw [if_neg h]
    refine halves_apply _ _ (sm x0 x3 x4 kt k 0 r) (512 * k) r (fun j => ?_) (fun j => ?_) j
    · simp only [k0_pay43, pointwise, pay42_apply]
    · simp only [k0_pay46, dg0, pointwise, pay45_apply]

/-- Head 1's score blocks. -/
theorem s1_apply (k : ℕ) (hk : k ≤ n) (r j : Fin 512) :
    s1 x0 x3 x4 kt n k (Idealize.ShloMosaic.ix4 0 0 r j) = sm x0 x3 x4 kt n 1 r (512 * k + j.val) := by
  unfold s1
  by_cases h : k < n
  · rw [if_pos h, sm_before _ _ _ _ _ _ _ _ (by have := j.isLt; omega)]
    refine halves_apply _ _ (raw x0 x3 x4 kt 1 r) (512 * k) r (fun j => ?_) (fun j => ?_) j
    · simp only [k0_pay31, pointwise, pay30_apply]
    · simp only [k0_pay33, pointwise, pay32_apply]
  · obtain rfl : k = n := by omega
    rw [if_neg h]
    refine halves_apply _ _ (sm x0 x3 x4 kt k 1 r) (512 * k) r (fun j => ?_) (fun j => ?_) j
    · simp only [k0_pay49, pointwise, pay48_apply]
    · simp only [k0_pay54, pointwise, pay53_apply]

end

end Cert.KernelIdeal.Att

end
-- ==== Proof.V.Block.lean ====
/-
  The attention's output block at the ideal instance: each entry is the sum over the keys up to the diagonal block of the
  exponentials of the scores less their maximum, times the reciprocal of the exponentials' sum, times the values.
-/
module

public import proofs.«01_k».proof.Proof.V.Rows

@[expose] public section

set_option maxRecDepth 16384

noncomputable section

namespace Cert.KernelIdeal.Att

open Cert.KernelIdeal Cert.KernelIdeal.Gen Idealize.ShloMosaic Idealize.ShloMosaic.TcCoe

/-- A sum over the keys of a block more. -/
theorem sum_step (f : ℕ → EReal) (k : ℕ) :
    (∑ i ∈ Finset.range (512 * k), f i) + ∑ j : Fin 512, f (512 * k + j.val) = ∑ i ∈ Finset.range (512 * (k + 1)), f i := by
  rw [show 512 * (k + 1) = 512 * k + 512 by omega, Finset.sum_range_add, Finset.sum_range (fun x => f (512 * k + x))]

section
variable (x0 : Vec Ideal S512x128 .f32) (x3 : Vec Ideal S1x1x512x2 .f32) (x4 : Vec Ideal S1x1x2x4096 .f32)
  (kt : Vec Ideal S8x128x512 .bf16) (vb : Vec Ideal S4096x128 .bf16) (n : ℕ)

/-- A head's row maximum. -/
def mrow (h : Fin 2) (r : Fin 512) : EReal :=
  if h = 0 then m0 x0 x3 x4 kt n (Idealize.ShloMosaic.ix2 r 0)
  else k0_pay55 rows cols (m1 x0 x3 x4 kt n) (dg1 x0 x3 x4 kt n) k0_pay52 (Idealize.ShloMosaic.ix2 r 0)

/-- A head's row maximum bounds its scores. -/
theorem mrow_le (h : Fin 2) (r : Fin 512) (x : EReal) :
    mrow x0 x3 x4 kt n h r ≤ x ↔ ∀ i < 512 * (n + 1), sm x0 x3 x4 kt n h r i ≤ x := by
  unfold mrow
  match h with
  | 0 => rw [if_pos rfl]; exact m0_le x0 x3 x4 kt n r x
  | 1 => rw [if_neg (by decide)]; exact m1_le x0 x3 x4 kt n r x

/-- A key's exponential. -/
def ex (h : Fin 2) (r : Fin 512) (i : ℕ) : EReal := Ideal.exp (sm x0 x3 x4 kt n h r i - mrow x0 x3 x4 kt n h r)

/-- Head 0's exponentials. -/
theorem e0_apply (k : ℕ) (hk : k ≤ n) (r j : Fin 512) :
    e0 x0 x3 x4 kt n k (Idealize.ShloMosaic.ix4 0 0 r j) = ex x0 x3 x4 kt n 0 r (512 * k + j.val) := by
  have h : mrow x0 x3 x4 kt n 0 r = m0 x0 x3 x4 kt n (Idealize.ShloMosaic.ix2 r 0) := if_pos rfl
  unfold ex
  rw [h, ← s0_apply x0 x3 x4 kt n k hk]
  simp only [e0, k0_pay58, k0_pay57, pointwise]
  exact congrArg Ideal.exp (congrArg (_ - ·) (congrArg (m0 _ _ _ _ _) rfl))

/-- Head 1's exponentials. -/
theorem e1_apply (k : ℕ) (hk : k ≤ n) (r j : Fin 512) :
    e1 x0 x3 x4 kt n k (Idealize.ShloMosaic.ix4 0 0 r j) = ex x0 x3 x4 kt n 1 r (512 * k + j.val) := by
  have h : mrow x0 x3 x4 kt n 1 r = k0_pay55 rows cols (m1 x0 x3 x4 kt n) (dg1 x0 x3 x4 kt n) k0_pay52 (Idealize.ShloMosaic.ix2 r 0) := if_neg (by decide)
  unfold ex
  rw [h, ← s1_apply x0 x3 x4 kt n k hk]
  simp only [e1, k0_pay61, k0_pay60, pointwise]
  exact congrArg Ideal.exp (congrArg (_ - ·) (congrArg (k0_pay55 _ _ _ _ _) rfl))

/-- The sums of the exponentials of the key blocks passed. -/
theorem ls_apply (k : ℕ) (hk : k ≤ n + 1) (r : Fin 512) :
    (ls x0 x3 x4 kt n k).1 (Idealize.ShloMosaic.ix2 r 0) = ∑ i ∈ Finset.range (512 * k), ex x0 x3 x4 kt n 0 r i
      ∧ (ls x0 x3 x4 kt n k).2 (Idealize.ShloMosaic.ix2 r 0) = ∑ i ∈ Finset.range (512 * k), ex x0 x3 x4 kt n 1 r i := by
  induction k with
  | zero => constructor <;> · simp only [ls, k0_pay56, pointwise]; exact Finset.sum_range_zero _ |>.symm
  | succ k ih =>
    have ih := ih (by omega)
    constructor
    · rw [← sum_step, ← ih.1]
      simp only [ls, k0_pay59, pointwise]
      refine congrArg (_ + ·) (Finset.sum_congr rfl fun j _ => ?_)
      rw [← e0_apply x0 x3 x4 kt n k (by omega) r j]
      simp only [e0, k0_pay58, pointwise]
    · rw [← sum_step, ← ih.2]
      simp only [ls, k0_pay62, pointwise]
      refine congrArg (_ + ·) (Finset.sum_congr rfl fun j _ => ?_)
      rw [← e1_apply x0 x3 x4 kt n k (by omega) r j]
      simp only [e1, k0_pay61, pointwise]

/-- A row's sum of exponentials. -/
def lrow (h : Fin 2) (r : Fin 512) : EReal := ∑ i ∈ Finset.range (512 * (n + 1)), ex x0 x3 x4 kt n h r i

/-- The weighted sums of the values of the key blocks passed. -/
theorem acc_apply (k : ℕ) (hk : k ≤ n + 1) (r : Fin 512) (d : Fin 128) :
    (acc x0 x3 x4 kt vb n k).1 (Idealize.ShloMosaic.ix2 r d)
        = ∑ i ∈ Finset.range (512 * k), ex x0 x3 x4 kt n 0 r i * Ideal.div 1 (lrow x0 x3 x4 kt n 0 r) * valAt vb i d
      ∧ (acc x0 x3 x4 kt vb n k).2 (Idealize.ShloMosaic.ix2 r d)
        = ∑ i ∈ Finset.range (512 * k), ex x0 x3 x4 kt n 1 r i * Ideal.div 1 (lrow x0 x3 x4 kt n 1 r) * valAt vb i d := by
  induction k with
  | zero => constructor <;> · simp only [acc, k0_pay71, pointwise]; exact Finset.sum_range_zero _ |>.symm
  | succ k ih =>
    have ih := ih (by omega)
    constructor
    · rw [← sum_step, ← ih.1]
      simp only [acc, k0_pay72, k0_pay69, pointwise]
      refine congrArg (_ + ·) ((zero_add _).trans (Finset.sum_congr rfl fun j _ => ?_))
      exact Ideal.mul_congr (Ideal.mul_congr (e0_apply x0 x3 x4 kt n k (by omega) r j)
        (congrArg (Ideal.div 1) (ls_apply x0 x3 x4 kt n (n + 1) le_rfl r).1)) (vbb_apply vb k _ j d rfl)
    · rw [← sum_step, ← ih.2]
      simp only [acc, k0_pay73, k0_pay70, pointwise]
      refine congrArg (_ + ·) ((zero_add _).trans (Finset.sum_congr rfl fun j _ => ?_))
      exact Ideal.mul_congr (Ideal.mul_congr (e1_apply x0 x3 x4 kt n k (by omega) r j)
        (congrArg (Ideal.div 1) (ls_apply x0 x3 x4 kt n (n + 1) le_rfl r).2)) (vbb_apply vb k _ j d rfl)

/-- The head of a column. -/
def headOf (d : Fin 128) : Fin 2 := if d.val < 64 then 0 else 1

/-- The output block's entry. -/
theorem outBlk_apply (r : Fin 512) (d : Fin 128) :
    outBlk x0 x3 x4 kt vb n (Idealize.ShloMosaic.ix2 r d)
      = ∑ i ∈ Finset.range (512 * (n + 1)), ex x0 x3 x4 kt n (headOf d) r i * Ideal.div 1 (lrow x0 x3 x4 kt n (headOf d) r) * valAt vb i d := by
  simp only [outBlk, k0_pay76, pointwise, List.foldl_cons, List.foldl_nil, Nat.zero_mul, Nat.zero_add]
  rw [lane_lt d.val d.isLt]
  have h := acc_apply x0 x3 x4 kt vb n (n + 1) le_rfl r d
  unfold headOf
  by_cases c : d.val < 64
  · rw [if_pos c, if_pos c, h.1]
  · rw [if_neg c, if_neg c, h.2]

end

end Cert.KernelIdeal.Att

end
-- ==== Proof.V.Windows.lean ====
/-
  The attention's windows at the ideal instance: what each block of queries, keys, values and sums of log forget values
  holds, as entries of the launch's two arguments.
-/
module

public import proofs.«01_k».proof.Proof.PI.Launch
public import proofs.«01_k».proof.Proof.V.Block
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.KernelIdeal.Att

open Cert.KernelIdeal Cert.KernelIdeal.Gen Idealize.ShloMosaic Idealize.ShloMosaic.TcCoe
open Idealize.ShloMosaic.Pipeline (Dat)

variable (m : (ℓ : Loc nD τ sig) → Buf (Elt Ideal) ℓ)

/-- An entry of the projected rows, by its row and column. -/
def uAt (u : FVec Ideal S16640x2560 .f32) (r k : ℕ) : EReal := u (Idealize.ShloMosaic.ix2 ⟨r % 16640, by omega⟩ ⟨k % 2560, by omega⟩)

/-- A sum of log forget values, by its head of all the batches and its position. -/
def fAt (f : FVec Ideal S32x4096 .f32) (h i : ℕ) : EReal := f (Idealize.ShloMosaic.ix2 ⟨h % 32, by omega⟩ ⟨i % 4096, by omega⟩)

/-- The rows' argument. -/
abbrev argU (c : Dev nD) : FVec Ideal S16640x2560 .f32 := m ((c : Thread nD τ).loc main_arg0)
/-- The argument of the sums of the log forget values. -/
abbrev argF (c : Dev nD) : FVec Ideal S32x4096 .f32 := m ((c : Thread nD τ).loc main_arg1)

/-- Where each window's block lies at a point. -/
theorem idxU : ∀ t : Fin grid0.N, win0_0.index t 0 = t.val / 32 * 8 + t.val % 8 ∧ win0_0.index t 1 = t.val / 8 % 4
    ∧ win0_1.index t 0 = t.val / 32 ∧ win0_1.index t 1 = 4 + t.val / 8 % 4
    ∧ win0_2.index t 0 = t.val / 32 ∧ win0_2.index t 1 = 8 + t.val / 8 % 4 := by decide +kernel
theorem idxF : ∀ t : Fin grid0.N, win0_3.index t 0 = t.val / 32 ∧ win0_3.index t 1 = t.val / 8 % 4
    ∧ win0_3.index t 2 = t.val % 8 ∧ win0_3.index t 3 = 0
    ∧ win0_4.index t 0 = t.val / 32 ∧ win0_4.index t 1 = t.val / 8 % 4 ∧ win0_4.index t 2 = 0 ∧ win0_4.index t 3 = 0 := by decide +kernel
theorem idxO : ∀ t : Fin grid0.N, win0_5.index t 0 = t.val / 32 * 8 + t.val % 8 ∧ win0_5.index t 1 = t.val / 8 % 4 := by decide +kernel

/-- A block of queries. -/
theorem X0_apply (c : Dev nD) (t : Fin cfg0.N) (r : Fin 512) (d : Fin 128) :
    X0_0 m c t (Idealize.ShloMosaic.ix2 r d)
      = uAt (argU m c) ((t.val / 32 * 8 + t.val % 8) * 512 + r.val) (t.val / 8 % 4 * 128 + d.val) := by
  have ht : t.val < 128 := Nat.lt_of_lt_of_eq t.isLt N_0
  obtain ⟨h0, h1, -⟩ := idxU t
  unfold X0_0 Pipeline.Window.fill
  rw [dif_pos (moved0_0 t _)]
  refine (congrFun (V_main_arg0 m c) _).trans (congrArg (m ((c : Thread nD τ).loc main_arg0)) (funext fun a => Fin.ext ?_))
  match a with
  | ⟨0, _⟩ =>
    refine (ValueKit.view_emb_slice_whole_unit_val main_arg0 _ _ _ _ _).trans ?_
    show win0_0.index t 0 * 512 + r.val = ((t.val / 32 * 8 + t.val % 8) * 512 + r.val) % 16640
    rw [h0]; omega
  | ⟨1, _⟩ =>
    refine (ValueKit.view_emb_slice_whole_unit_val main_arg0 _ _ _ _ _).trans ?_
    show win0_0.index t 1 * 128 + d.val = (t.val / 8 % 4 * 128 + d.val) % 2560
    rw [h1]; omega

/-- A block of keys. -/
theorem X1_apply (c : Dev nD) (t : Fin cfg0.N) (r : Fin 4096) (d : Fin 128) :
    X0_1 m c t (Idealize.ShloMosaic.ix2 r d) = uAt (argU m c) (t.val / 32 * 4096 + r.val) ((4 + t.val / 8 % 4) * 128 + d.val) := by
  have ht : t.val < 128 := Nat.lt_of_lt_of_eq t.isLt N_0
  obtain ⟨-, -, h0, h1, -⟩ := idxU t
  unfold X0_1 Pipeline.Window.fill
  rw [dif_pos (moved0_1 t _)]
  refine (congrFun (V_main_arg0 m c) _).trans (congrArg (m ((c : Thread nD τ).loc main_arg0)) (funext fun a => Fin.ext ?_))
  match a with
  | ⟨0, _⟩ =>
    refine (ValueKit.view_emb_slice_whole_unit_val main_arg0 _ _ _ _ _).trans ?_
    show win0_1.index t 0 * 4096 + r.val = (t.val / 32 * 4096 + r.val) % 16640
    rw [h0]; omega
  | ⟨1, _⟩ =>
    refine (ValueKit.view_emb_slice_whole_unit_val main_arg0 _ _ _ _ _).trans ?_
    show win0_1.index t 1 * 128 + d.val = ((4 + t.val / 8 % 4) * 128 + d.val) % 2560
    rw [h1]; omega

/-- A block of values. -/
theorem X2_apply (c : Dev nD) (t : Fin cfg0.N) (r : Fin 4096) (d : Fin 128) :
    X0_2 m c t (Idealize.ShloMosaic.ix2 r d) = uAt (argU m c) (t.val / 32 * 4096 + r.val) ((8 + t.val / 8 % 4) * 128 + d.val) := by
  have ht : t.val < 128 := Nat.lt_of_lt_of_eq t.isLt N_0
  obtain ⟨-, -, -, -, h0, h1⟩ := idxU t
  unfold X0_2 Pipeline.Window.fill
  rw [dif_pos (moved0_2 t _)]
  refine (congrFun (V_main_arg0 m c) _).trans (congrArg (m ((c : Thread nD τ).loc main_arg0)) (funext fun a => Fin.ext ?_))
  match a with
  | ⟨0, _⟩ =>
    refine (ValueKit.view_emb_slice_whole_unit_val main_arg0 _ _ _ _ _).trans ?_
    show win0_2.index t 0 * 4096 + r.val = (t.val / 32 * 4096 + r.val) % 16640
    rw [h0]; omega
  | ⟨1, _⟩ =>
    refine (ValueKit.view_emb_slice_whole_unit_val main_arg0 _ _ _ _ _).trans ?_
    show win0_2.index t 1 * 128 + d.val = ((8 + t.val / 8 % 4) * 128 + d.val) % 2560
    rw [h1]; omega

/-- The sums of the log forget values by batch, pair of heads and head of the pair. -/
theorem V_v0 (c : Dev nD) : V m c main_v0 = (shapeCast S4x4x2x4096 (argF m c) shapeCasts_S32x4096_S4x4x2x4096 : FVec Ideal S4x4x2x4096 .f32) := by
  show StableHlo.after hostOps0 (fun b => m (c, b)) main_v0 = _
  after_results
  rfl

/-- The same with the head of the pair last. -/
theorem V_v1 (c : Dev nD) : V m c main_v1 = (transpose S4x4x4096x2 [0, 1, 3, 2] (shapeCast S4x4x2x4096 (argF m c) shapeCasts_S32x4096_S4x4x2x4096 : FVec Ideal S4x4x2x4096 .f32) transposes_S4x4x2x4096_S4x4x4096x2_0_1_3_2 : FVec Ideal S4x4x4096x2 .f32) := by
  show StableHlo.after hostOps0 (fun b => m (c, b)) main_v1 = _
  after_results
  rfl

/-- A block of the queries' sums of log forget values. -/
theorem X3_apply (c : Dev nD) (t : Fin cfg0.N) (r : Fin 512) (h : Fin 2) :
    iblk m c 3 t (Idealize.ShloMosaic.ix4 0 0 r h)
      = fAt (argF m c) (8 * (t.val / 32) + 2 * (t.val / 8 % 4) + h.val) (t.val % 8 * 512 + r.val) := by
  have ht : t.val < 128 := Nat.lt_of_lt_of_eq t.isLt N_0
  obtain ⟨h0, h1, h2, h3, -⟩ := idxF t
  have e : ((cfg0.win 3).blk t).view.emb (Idealize.ShloMosaic.ix4 0 0 r h)
      = Idealize.ShloMosaic.ix4 ⟨t.val / 32, by omega⟩ ⟨t.val / 8 % 4, by omega⟩ ⟨t.val % 8 * 512 + r.val, by omega⟩ h := by
    refine funext fun a => Fin.ext ?_
    match a with
    | ⟨0, _⟩ =>
      refine (ValueKit.view_emb_slice_whole_unit_val main_v1 _ _ _ _ _).trans ?_
      show win0_3.index t 0 * 1 + 0 = t.val / 32
      rw [h0]; omega
    | ⟨1, _⟩ =>
      refine (ValueKit.view_emb_slice_whole_unit_val main_v1 _ _ _ _ _).trans ?_
      show win0_3.index t 1 * 1 + 0 = t.val / 8 % 4
      rw [h1]; omega
    | ⟨2, _⟩ =>
      refine (ValueKit.view_emb_slice_whole_unit_val main_v1 _ _ _ _ _).trans ?_
      show win0_3.index t 2 * 512 + r.val = t.val % 8 * 512 + r.val
      rw [h2]
    | ⟨3, _⟩ =>
      refine (ValueKit.view_emb_slice_whole_unit_val main_v1 _ _ _ _ _).trans ?_
      show win0_3.index t 3 * 2 + h.val = h.val
      rw [h3]; omega
  refine (congrArg (V m c main_v1) e).trans ?_
  rw [V_v1]
  simp only [pointwise]
  unfold fAt
  refine congrArg (argF m c) (congrArg₂ Idealize.ShloMosaic.ix2 (Fin.ext ?_) (Fin.ext ?_))
  · show t.val / 32 * 8 + t.val / 8 % 4 * 2 + h.val = (8 * (t.val / 32) + 2 * (t.val / 8 % 4) + h.val) % 32
    omega
  · show t.val % 8 * 512 + r.val = (t.val % 8 * 512 + r.val) % 4096
    omega

/-- A block of the keys' sums of log forget values. -/
theorem X4_apply (c : Dev nD) (t : Fin cfg0.N) (h : Fin 2) (i : Fin 4096) :
    iblk m c 4 t (Idealize.ShloMosaic.ix4 0 0 h i)
      = fAt (argF m c) (8 * (t.val / 32) + 2 * (t.val / 8 % 4) + h.val) i.val := by
  have ht : t.val < 128 := Nat.lt_of_lt_of_eq t.isLt N_0
  obtain ⟨-, -, -, -, h0, h1, h2, h3⟩ := idxF t
  have e : ((cfg0.win 4).blk t).view.emb (Idealize.ShloMosaic.ix4 0 0 h i)
      = Idealize.ShloMosaic.ix4 ⟨t.val / 32, by omega⟩ ⟨t.val / 8 % 4, by omega⟩ h i := by
    refine funext fun a => Fin.ext ?_
    match a with
    | ⟨0, _⟩ =>
      refine (ValueKit.view_emb_slice_whole_unit_val main_v0 _ _ _ _ _).trans ?_
      show win0_4.index t 0 * 1 + 0 = t.val / 32
      rw [h0]; omega
    | ⟨1, _⟩ =>
      refine (ValueKit.view_emb_slice_whole_unit_val main_v0 _ _ _ _ _).trans ?_
      show win0_4.index t 1 * 1 + 0 = t.val / 8 % 4
      rw [h1]; omega
    | ⟨2, _⟩ =>
      refine (ValueKit.view_emb_slice_whole_unit_val main_v0 _ _ _ _ _).trans ?_
      show win0_4.index t 2 * 2 + h.val = h.val
      rw [h2]; omega
    | ⟨3, _⟩ =>
      refine (ValueKit.view_emb_slice_whole_unit_val main_v0 _ _ _ _ _).trans ?_
      show win0_4.index t 3 * 4096 + i.val = i.val
      rw [h3]; omega
  refine (congrArg (V m c main_v0) e).trans ?_
  rw [V_v0]
  simp only [pointwise]
  unfold fAt
  refine congrArg (argF m c) (congrArg₂ Idealize.ShloMosaic.ix2 (Fin.ext ?_) (Fin.ext ?_))
  · show t.val / 32 * 8 + t.val / 8 % 4 * 2 + h.val = (8 * (t.val / 32) + 2 * (t.val / 8 % 4) + h.val) % 32
    omega
  · show i.val = i.val % 4096
    omega

/-- A query's entry. -/
theorem query_eq (c : Dev nD) (t : Fin cfg0.N) (r : Fin 512) (d : Fin 128) :
    X0_0 m c t (Idealize.ShloMosaic.ix2 r d)
      = uAt (argU m c) (4096 * (t.val / 32) + (512 * (t.val % 8) + r.val)) (128 * (t.val / 8 % 4) + d.val) := by
  rw [X0_apply]
  exact congrArg₂ (uAt (argU m c)) (by omega) (by omega)

/-- A key's entry, in the row's transposed blocks. -/
theorem key_eq (c : Dev nD) (t : Fin cfg0.N) (d : Fin 128) (i : ℕ) (hi : i < 4096) :
    keyAt (ktAt m c t.val t.isLt) d i
      = uAt (argU m c) (4096 * (t.val / 32) + i) (512 + (128 * (t.val / 8 % 4) + d.val)) := by
  unfold keyAt ktAt ktOf k0_pay1
  simp only [i3_eq, pointwise]
  unfold kvb
  refine (congrArg (X0_1 m c (row t.val t.isLt)) (i2_eq _ _)).trans ((X1_apply m c _ _ _).trans (congrArg₂ (uAt (argU m c)) ?_ ?_))
  · show 8 * (t.val / 8) / 32 * 4096 + (512 * (i / 512 % 8) + i % 512) % 4096 = _
    omega
  · show (4 + 8 * (t.val / 8) / 8 % 4) * 128 + d.val = _
    omega

/-- A value's entry. -/
theorem val_eq (c : Dev nD) (t : Fin cfg0.N) (d : Fin 128) (i : ℕ) (hi : i < 4096) :
    valAt (vbAt m c t.val t.isLt) i d
      = uAt (argU m c) (4096 * (t.val / 32) + i) (1024 + (128 * (t.val / 8 % 4) + d.val)) := by
  unfold valAt vbAt k0_pay21
  simp only [i2_eq, pointwise]
  refine (X2_apply m c _ _ _).trans (congrArg₂ (uAt (argU m c)) ?_ ?_)
  · show 8 * (t.val / 8) / 32 * 4096 + i % 4096 = _
    omega
  · show (8 + 8 * (t.val / 8) / 8 % 4) * 128 + d.val = _
    omega

/-- A key's sum of the log forget values. -/
theorem fk_eq (c : Dev nD) (t : Fin cfg0.N) (h : Fin 2) (i : ℕ) (hi : i < 4096) :
    fkAt (iblk m c 4 t) h i = fAt (argF m c) (8 * (t.val / 32) + (2 * (t.val / 8 % 4) + h.val)) i := by
  unfold fkAt
  refine (congrArg (iblk m c 4 t) (i4_eq _ _ _ _)).trans ((X4_apply m c t h _).trans (congrArg₂ (fAt (argF m c)) ?_ ?_))
  · omega
  · show i % 4096 = i
    omega

/-- A query's sum of the log forget values. -/
theorem fq_eq (c : Dev nD) (t : Fin cfg0.N) (h : Fin 2) (r : Fin 512) :
    iblk m c 3 t (Idealize.ShloMosaic.ix4 0 0 r h)
      = fAt (argF m c) (8 * (t.val / 32) + (2 * (t.val / 8 % 4) + h.val)) (512 * (t.val % 8) + r.val) := by
  rw [X3_apply]
  exact congrArg₂ (fAt (argF m c)) (by omega) (by omega)

end Cert.KernelIdeal.Att

end
-- ==== Proof.V.Ref.lean ====
/-
  The attention's reference at the ideal instance, entry by entry: masked scores, their maximum, the exponentials, their
  sum, and the values summed with the quotients.
-/
module

public import proofs.«01_k».proof.Proof.V.Windows
public import proofs.«01_k».proof.Proof.Gen.ReferenceIdeal.Run

@[expose] public section

set_option maxRecDepth 16384

noncomputable section

namespace Cert.ReferenceIdeal.Val

open Cert.ReferenceIdeal Cert.ReferenceIdeal.Gen Idealize.ShloMosaic Idealize.ShloMosaic.TcCoe
open Cert.KernelIdeal.Att (uAt fAt neg_inf select_ofBool)
open scoped BigOperators

variable (u : FVec Ideal S16640x2560 .f32) (f : FVec Ideal S32x4096 .f32)

/-- The masked scores. -/
def sc : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S4x4096x8x64_S4x4096x8x64_S4x8x4096x4096_3_3_1_1_02_02 none (shapeCast _ (extractStridedSlice S16384x512 ![0, 0] u slices_S16640x2560_S16384x512_0_0) shapeCasts_S16384x512_S4x4096x8x64) (shapeCast _ (extractStridedSlice S16384x512 ![0, 512] u slices_S16640x2560_S16384x512_0_512) shapeCasts_S16384x512_S4x4096x8x64)) (broadcastInDim S4x8x4096x4096 ![] bcast_S_S4x8x4096x4096 (constant S_ .f32 0x3E000000#32))) (subf (broadcastInDim S4x8x4096x4096 ![0, 1, 2, 3] bcast_S4x8x4096x1_S4x8x4096x4096_0_1_2_3 (broadcastInDim S4x8x4096x1 ![0, 1, 2] bcast_S4x8x4096_S4x8x4096x1_0_1_2 (shapeCast _ f shapeCasts_S32x4096_S4x8x4096))) (broadcastInDim S4x8x4096x4096 ![0, 1, 2, 3] bcast_S4x8x1x4096_S4x8x4096x4096_0_1_2_3 (broadcastInDim S4x8x1x4096 ![0, 1, 3] bcast_S4x8x4096_S4x8x1x4096_0_1_3 (shapeCast _ f shapeCasts_S32x4096_S4x8x4096))))) (broadcastInDim S4x8x4096x4096 ![] bcast_S_S4x8x4096x4096 (id (constant S_ .f32 0xFF800000#32)))

/-- The rows' maxima. -/
def mx : FVec Ideal S4x8x4096 .f32 :=
  maximumf (broadcastInDim S4x8x4096 ![] bcast_S_S4x8x4096 (constant S_ .f32 0xFF800000#32)) (Host.reduce FloatOps.maximumf (sc u f) (constant S_ .f32 0xFF800000#32) reducesTo_S4x8x4096x4096_S4x8x4096_d3 h_S_)

/-- The exponentials. -/
def ex : FVec Ideal S4x8x4096x4096 .f32 :=
  Host.exp (subf (sc u f) (broadcastInDim S4x8x4096x4096 ![0, 1, 2, 3] bcast_S4x8x4096x1_S4x8x4096x4096_0_1_2_3 (broadcastInDim S4x8x4096x1 ![0, 1, 2] bcast_S4x8x4096_S4x8x4096x1_0_1_2 (mx u f))))

/-- Their sums. -/
def sm : FVec Ideal S4x8x4096 .f32 :=
  Host.reduceAdd (ex u f) (constant S_ .f32 0x00000000#32) reducesTo_S4x8x4096x4096_S4x8x4096_d3 h_S_

/-- The quotients. -/
def pr : FVec Ideal S4x8x4096x4096 .f32 :=
  Host.divf (ex u f) (broadcastInDim S4x8x4096x4096 ![0, 1, 2, 3] bcast_S4x8x4096x1_S4x8x4096x4096_0_1_2_3 (broadcastInDim S4x8x4096x1 ![0, 1, 2] bcast_S4x8x4096_S4x8x4096x1_0_1_2 (sm u f)))

/-- The reference's result. -/
def res : FVec Ideal S16384x512 .f32 :=
  shapeCast _ (transpose S4x4096x8x64 [0, 3, 1, 2] (Host.dotGeneral dot_S4x4096x8x64_S4x8x4096x4096_S4x8x64x4096_1_3_3_2_02_01 none (shapeCast _ (extractStridedSlice S16384x512 ![0, 1024] u slices_S16640x2560_S16384x512_0_1024) shapeCasts_S16384x512_S4x4096x8x64) (pr u f)) transposes_S4x8x64x4096_S4x4096x8x64_0_3_1_2) shapeCasts_S4x4096x8x64_S16384x512

/-- The run's result is the one named here. -/
theorem res_eq (m : (ℓ : Loc nD τ sig) → Buf (Elt Ideal) ℓ) (c : Dev nD) :
    Cert.ReferenceIdeal.Value.res_main_v36 m c = res (m ((c.tc : Thread nD τ).loc main_arg0)) (m ((c.tc : Thread nD τ).loc main_arg1)) := by
  unfold Cert.ReferenceIdeal.Value.res_main_v36 res pr sm ex mx sc
  rfl

/-- A masked score of head `h` of batch `b`: the scaled product of the query's and the key's rows plus the difference of
    their sums of log forget values; minus infinity for a later key. -/
def score (b h q k : ℕ) : EReal :=
  if k ≤ q then (∑ e : Fin 64, uAt u (4096 * b + q) (64 * h + e.val) * uAt u (4096 * b + k) (512 + (64 * h + e.val)))
      * Ideal.ofBits FTy.f32 0x3E000000#32 + (fAt f (8 * b + h) q - fAt f (8 * b + h) k)
  else ⊥

/-- The reference's masked scores. -/
theorem sc_apply (b : Fin 4) (h : Fin 8) (q k : Fin 4096) :
    sc u f (ix4 b h q k) = score u f b.val h.val q.val k.val := by
  have hb := b.isLt
  have hh := h.isLt
  have hq := q.isLt
  have hk := k.isLt
  unfold sc
  simp only [pointwise]
  have hc : IntOp.cmpi CmpIPredicate.sle (BitVec.ofNat 32 k.val) (BitVec.ofNat 32 q.val) = BitVec.ofBool (decide (k.val ≤ q.val)) :=
    WordCmp.cmpi_sle_ofNat (by omega) (by omega)
  refine (congrFun (congrFun (congrArg Scalar.select hc) _) _).trans ?_
  rw [select_ofBool]
  unfold score
  refine ite_congr rfl (fun _ => ?_) (fun _ => neg_inf)
  refine congrArg₂ (· + ·) (congrArg (· * _) ((zero_add _).trans (Finset.sum_congr rfl fun e _ => congrArg₂ (· * ·) ?_ ?_)))
    (congrArg₂ (· - ·) ?_ ?_)
  · refine congrArg u (congrArg₂ ix2 (Fin.ext ?_) (Fin.ext ?_))
    · show 0 + (b.val * 4096 + q.val) = (4096 * b.val + q.val) % 16640
      omega
    · show 0 + (h.val * 64 + e.val) = (64 * h.val + e.val) % 2560
      omega
  · refine congrArg u (congrArg₂ ix2 (Fin.ext ?_) (Fin.ext ?_))
    · show 0 + (b.val * 4096 + k.val) = (4096 * b.val + k.val) % 16640
      omega
    · show 512 + (h.val * 64 + e.val) = (512 + (64 * h.val + e.val)) % 2560
      omega
  · refine congrArg f (congrArg₂ ix2 (Fin.ext ?_) (Fin.ext ?_))
    · show b.val * 8 + h.val = (8 * b.val + h.val) % 32
      omega
    · show q.val = q.val % 4096
      omega
  · refine congrArg f (congrArg₂ ix2 (Fin.ext ?_) (Fin.ext ?_))
    · show b.val * 8 + h.val = (8 * b.val + h.val) % 32
      omega
    · show k.val = k.val % 4096
      omega

/-- A row's maximum, of any scores. -/
theorem max_apply (s : FVec Ideal S4x8x4096x4096 .f32) (b : Fin 4) (h : Fin 8) (q : Fin 4096) :
    (Host.reduce FloatOps.maximumf s (constant S_ .f32 0xFF800000#32) reducesTo_S4x8x4096x4096_S4x8x4096_d3 h_S_ : FVec Ideal S4x8x4096 .f32) (ix3 b h q)
      = Finset.univ.fold max (Ideal.ofBits FTy.f32 0xFF800000#32) (fun k : Fin 4096 => s (ix4 b h q k)) := by
  simp only [pointwise]

/-- A maximum folded from minus infinity. -/
theorem sup_fold (g : Fin 4096 → EReal) :
    max (Ideal.ofBits FTy.f32 0xFF800000#32) (Finset.univ.fold max (Ideal.ofBits FTy.f32 0xFF800000#32) g) = Finset.univ.sup g := by
  rw [neg_inf]
  exact (max_eq_right bot_le).trans rfl

/-- The maximum with minus infinity, of any maxima. -/
theorem max_bot_apply (v : FVec Ideal S4x8x4096 .f32) (i : S4x8x4096.Idx) :
    maximumf (broadcastInDim S4x8x4096 ![] bcast_S_S4x8x4096 (constant S_ .f32 0xFF800000#32)) v i
      = max (Ideal.ofBits FTy.f32 0xFF800000#32) (v i) := rfl

/-- The reference's row maxima. -/
theorem mx_apply (b : Fin 4) (h : Fin 8) (q : Fin 4096) :
    mx u f (ix3 b h q) = Finset.univ.sup fun k : Fin 4096 => sc u f (ix4 b h q k) := by
  unfold mx
  generalize sc u f = s
  rw [max_bot_apply, max_apply]
  exact sup_fold fun k => s (ix4 b h q k)

/-- The reference's exponentials. -/
theorem ex_apply (b : Fin 4) (h : Fin 8) (q k : Fin 4096) :
    ex u f (ix4 b h q k) = Ideal.exp (sc u f (ix4 b h q k) - mx u f (ix3 b h q)) := by
  unfold ex
  generalize sc u f = s
  generalize mx u f = v
  simp only [pointwise]
  rfl

/-- The reference's sums. -/
theorem sm_apply (b : Fin 4) (h : Fin 8) (q : Fin 4096) :
    sm u f (ix3 b h q) = ∑ k : Fin 4096, ex u f (ix4 b h q k) := by
  unfold sm
  generalize ex u f = s
  simp only [pointwise]
  exact zero_add _

/-- The reference's quotients. -/
theorem pr_apply (b : Fin 4) (h : Fin 8) (q k : Fin 4096) :
    pr u f (ix4 b h q k) = Ideal.div (ex u f (ix4 b h q k)) (sm u f (ix3 b h q)) := by
  unfold pr
  generalize ex u f = s
  generalize sm u f = v
  simp only [pointwise]
  rfl

/-- The reference's result. -/
theorem res_apply (b : Fin 4) (h : Fin 8) (q : Fin 4096) (e : Fin 64) :
    res u f (ix2 ⟨4096 * b.val + q.val, by omega⟩ ⟨64 * h.val + e.val, by omega⟩)
      = ∑ k : Fin 4096, uAt u (4096 * b.val + k.val) (1024 + (64 * h.val + e.val)) * pr u f (ix4 b h q k) := by
  have hb := b.isLt
  have hh := h.isLt
  unfold res
  generalize pr u f = s
  simp only [pointwise]
  refine (zero_add _).trans (Finset.sum_congr rfl fun k _ => congrArg₂ (· * ·) ?_ rfl)
  have hk := k.isLt
  refine congrArg u (congrArg₂ ix2 (Fin.ext ?_) (Fin.ext ?_))
  · show 0 + (b.val * 4096 + k.val) = (4096 * b.val + k.val) % 16640
    omega
  · show 1024 + (h.val * 64 + e.val) = (1024 + (64 * h.val + e.val)) % 2560
    omega

end Cert.ReferenceIdeal.Val

end
-- ==== Proof.V.Softmax.lean ====
/-
  Softmax of a masked row in two ways: over the keys up to a bound past the query with the reciprocal of the sum, and over
  all the keys with quotients. They agree when the scores up to the query are real.
-/
module

public import Idealize.ShloMosaic.Lib.Pointwise

@[expose] public section

noncomputable section

namespace Cert.Softmax

open Idealize.ShloMosaic
open scoped BigOperators

/-- A value that is a real number. -/
def IsReal (x : EReal) : Prop := ∃ a : ℝ, x = a

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

/-- Exponentials are not negative. -/
theorem exp_nonneg (x : EReal) : 0 ≤ Ideal.exp x := by
  induction x with
  | bot => exact le_rfl
  | top => exact le_top
  | coe a => exact EReal.coe_nonneg.mpr (Real.exp_pos a).le

/-- A real less itself has exponential one. -/
theorem exp_self {x : EReal} (h : IsReal x) : Ideal.exp (x - x) = 1 := by
  obtain ⟨a, rfl⟩ := h
  rw [← EReal.coe_sub, sub_self, Ideal.exp_coe, Real.exp_zero]
  rfl

/-- A masked key's exponential. -/
theorem exp_bot_sub (x : EReal) : Ideal.exp (⊥ - x) = 0 := by
  rw [sub_eq_add_neg, EReal.bot_add]
  rfl

/-- A nonnegative real factor taken out of a sum. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => rw [Finset.sum_empty, Finset.sum_empty, zero_mul]
  | insert a s ha ih =>
    rw [Finset.sum_insert ha, Finset.sum_insert ha, ih,
      EReal.right_distrib_of_nonneg_of_ne_top (EReal.coe_nonneg.mpr hc) (EReal.coe_ne_top c)]

variable (Q N : ℕ) (hQ : Q < N) (hN : N ≤ 4096) (s : ℕ → EReal) (hreal : ∀ i ≤ Q, IsReal (s i)) (hbot : ∀ i, Q < i → s i = ⊥)
  (M : EReal) (hM : ∀ x, M ≤ x ↔ ∀ i < N, s i ≤ x)

include hQ hN hbot in
/-- A sum whose masked terms vanish, over all the keys. -/
theorem sum_extend (g : ℕ → EReal) (hg : ∀ i, Q < i → g i = 0) :
    ∑ i ∈ Finset.range N, g i = ∑ k : Fin 4096, g k.val := by
  rw [← Finset.sum_range g]
  refine Finset.sum_subset (Finset.range_mono hN) fun i _ hi => hg i ?_
  rw [Finset.mem_range] at hi
  omega

include hQ hN hbot hM in
/-- The maximum is the maximum over all the keys. -/
theorem max_eq : M = Finset.univ.sup fun k : Fin 4096 => s k.val := by
  refine eq_of_forall_ge_iff fun x => (hM x).trans ?_
  rw [Finset.sup_le_iff]
  constructor
  · intro h k _
    by_cases hk : k.val < N
    · exact h _ hk
    · rw [hbot k.val (by omega)]; exact bot_le
  · exact fun h i hi => h ⟨i, by omega⟩ (Finset.mem_univ _)

include hQ hN hreal hbot hM in
/-- The sum of the exponentials is at least one. -/
theorem one_le_sum : 1 ≤ ∑ k : Fin 4096, Ideal.exp (s k.val - M) := by
  have e := max_eq Q N hQ hN s hbot M hM
  obtain ⟨k, -, hk⟩ := Finset.exists_mem_eq_sup Finset.univ ⟨(⟨0, by omega⟩ : Fin 4096), Finset.mem_univ _⟩ fun k : Fin 4096 => s k.val
  have hMk : M = s k.val := e.trans hk
  have hle : s Q ≤ M := (hM M).mp le_rfl Q hQ
  have hkQ : k.val ≤ Q := by
    by_contra hc
    rw [hMk, hbot k.val (by omega)] at hle
    obtain ⟨a, ha⟩ := hreal Q le_rfl
    rw [ha] at hle
    exact EReal.coe_ne_bot a (le_bot_iff.mp hle)
  have h1 : Ideal.exp (s k.val - M) = 1 := by rw [hMk]; exact exp_self (hreal _ hkQ)
  rw [← h1]
  exact Finset.single_le_sum (f := fun k : Fin 4096 => Ideal.exp (s k.val - M)) (fun i _ => exp_nonneg _) (Finset.mem_univ k)

include hQ hN hreal hbot hM in
/-- The two ways agree. -/
theorem agree (v : ℕ → EReal) :
    ∑ i ∈ Finset.range N, Ideal.exp (s i - M) * Ideal.div 1 (∑ i ∈ Finset.range N, Ideal.exp (s i - M)) * v i
      = ∑ k : Fin 4096, v k.val * Ideal.div (Ideal.exp (s k.val - Finset.univ.sup fun k : Fin 4096 => s k.val))
          (∑ k : Fin 4096, Ideal.exp (s k.val - Finset.univ.sup fun k : Fin 4096 => s k.val)) := by
  rw [← max_eq Q N hQ hN s hbot M hM]
  have h0 : ∀ i, Q < i → Ideal.exp (s i - M) = 0 := fun i hi => by rw [hbot i hi]; exact exp_bot_sub M
  rw [sum_extend Q N hQ hN s hbot (fun i => Ideal.exp (s i - M)) h0]
  have h1 := one_le_sum Q N hQ hN s hreal hbot M hM
  generalize (∑ k : Fin 4096, Ideal.exp (s k.val - M)) = L at h1
  have hL : L ≠ 0 := fun hc => by
    rw [hc] at h1
    exact absurd h1 (not_le.mpr zero_lt_one)
  rw [sum_extend Q N hQ hN s hbot (fun i => Ideal.exp (s i - M) * Ideal.div 1 L * v i) fun i hi => by rw [h0 i hi, zero_mul, zero_mul]]
  refine Finset.sum_congr rfl fun k _ => ?_
  unfold Ideal.div
  rw [if_neg hL, if_neg hL, one_mul, mul_comm]

end Cert.Softmax

end
-- ==== Proof.V.Attn.lean ====
/-
  The attention's result at the ideal instance is the reference's, when the entries of the queries, the keys and the sums of
  log forget values are real.
-/
module

public import proofs.«01_k».proof.Proof.V.Ref
public import proofs.«01_k».proof.Proof.V.Softmax

@[expose] public section

set_option maxRecDepth 16384

noncomputable section

namespace Cert.KernelIdeal.Att

open Cert.KernelIdeal Cert.KernelIdeal.Gen Idealize.ShloMosaic Idealize.ShloMosaic.TcCoe
open Idealize.ShloMosaic.Pipeline (Dat)
open Cert.Softmax (IsReal)
open Cert.ReferenceIdeal.Val (score res)
open scoped BigOperators

variable (m : (ℓ : Loc nD τ sig) → Buf (Elt Ideal) ℓ)

/-- The product of a head's scaled query row with a key's row, over the head's columns alone. -/
theorem dot_eq (x0 : Vec Ideal S512x128 .f32) (kt : Vec Ideal S8x128x512 .bf16) (h : Fin 2) (r : Fin 512) (i : ℕ) (Q K : ℕ → EReal)
    (hQ : ∀ d : Fin 128, x0 (Idealize.ShloMosaic.ix2 r d) = Q d.val) (hK : ∀ d : Fin 128, keyAt kt d i = K d.val) :
    ∑ d : Fin 128, qrow h x0 r d * keyAt kt d i
      = (∑ e : Fin 64, Q (64 * h.val + e.val) * K (64 * h.val + e.val)) * Ideal.ofBits FTy.f32 0x3E000000#32 := by
  rw [eighth, ← Cert.Softmax.sum_mul_coe _ _ _ (by norm_num)]
  refine (Fin.sum_univ_add (a := 64) (b := 64) fun d : Fin 128 => qrow h x0 r d * keyAt kt d i).trans ?_
  match h with
  | 0 =>
    have z : ∑ e : Fin 64, qrow 0 x0 r (Fin.natAdd 64 e) * keyAt kt (Fin.natAdd 64 e) i = 0 := by
      refine Finset.sum_eq_zero fun e _ => ?_
      unfold qrow
      rw [if_pos rfl, if_neg (by show ¬ 64 + e.val < 64; omega), zero_mul]
    refine (congrArg (_ + ·) z).trans ((add_zero _).trans (Finset.sum_congr rfl fun e _ => ?_))
    unfold qrow
    rw [if_pos rfl, if_pos (show (Fin.castAdd 64 e : Fin 128).val < 64 from e.isLt), hQ, hK, eighth]
    show Q e.val * _ * K e.val = Q (64 * 0 + e.val) * K (64 * 0 + e.val) * _
    rw [Nat.mul_zero, Nat.zero_add]
    exact mul_right_comm _ _ _
  | 1 =>
    have z : ∑ e : Fin 64, qrow 1 x0 r (Fin.castAdd 64 e) * keyAt kt (Fin.castAdd 64 e) i = 0 := by
      refine Finset.sum_eq_zero fun e _ => ?_
      unfold qrow
      rw [if_neg (by decide), if_pos (show (Fin.castAdd 64 e : Fin 128).val < 64 from e.isLt), zero_mul]
    refine (congrArg (· + _) z).trans ((zero_add _).trans (Finset.sum_congr rfl fun e _ => ?_))
    unfold qrow
    rw [if_neg (by decide), if_neg (by show ¬ 64 + e.val < 64; omega), hQ, hK, eighth]
    show Q (64 + e.val) * _ * K (64 + e.val) = Q (64 * 1 + e.val) * K (64 * 1 + e.val) * _
    exact mul_right_comm _ _ _

/-- The kernel's score of a key is the reference's. -/
theorem sm_eq (c : Dev nD) (t : Fin cfg0.N) (h : Fin 2) (r : Fin 512) (i : ℕ) (hi : i < 4096) :
    sm (X0_0 m c t) (iblk m c 3 t) (iblk m c 4 t) (ktAt m c t.val t.isLt) (t.val % 8) h r i
      = score (argU m c) (argF m c) (t.val / 32) (2 * (t.val / 8 % 4) + h.val) (512 * (t.val % 8) + r.val) i := by
  unfold sm score raw
  refine ite_congr rfl (fun _ => ?_) fun _ => rfl
  rw [fq_eq, fk_eq m c t h i hi]
  refine congrArg (· + _) ((dot_eq _ _ h r i
    (fun d => uAt (argU m c) (4096 * (t.val / 32) + (512 * (t.val % 8) + r.val)) (128 * (t.val / 8 % 4) + d))
    (fun d => uAt (argU m c) (4096 * (t.val / 32) + i) (512 + (128 * (t.val / 8 % 4) + d)))
    (query_eq m c t r) (fun d => key_eq m c t d i hi)).trans ?_)
  refine congrArg (· * _) (Finset.sum_congr rfl fun e _ => congrArg₂ (· * ·) ?_ ?_)
  · exact congrArg (uAt (argU m c) _) (by omega)
  · exact congrArg (uAt (argU m c) _) (by omega)

/-- The queries, the keys and the sums of log forget values are real. -/
def RealArgs (c : Dev nD) : Prop :=
  (∀ r k, r < 16384 → k < 1024 → IsReal (uAt (argU m c) r k)) ∧ ∀ h i, IsReal (fAt (argF m c) h i)

/-- A score of a key up to the query is real. -/
theorem score_real (c : Dev nD) (hr : RealArgs m c) (b h q k : ℕ) (hb : b < 4) (hh : h < 8) (hq : q < 4096) (hk : k ≤ q) :
    IsReal (score (argU m c) (argF m c) b h q k) := by
  unfold score
  rw [if_pos hk, eighth]
  refine IsReal.add (IsReal.mul (IsReal.sum _ _ fun e => IsReal.mul (hr.1 _ _ (by omega) ?_) (hr.1 _ _ (by omega) ?_)) ⟨_, rfl⟩)
    (IsReal.sub (hr.2 _ _) (hr.2 _ _))
  · have := e.isLt; omega
  · have := e.isLt; omega

/-- The entry of a block of the kernel's result is the reference's. -/
theorem block_eq (c : Dev nD) (hr : RealArgs m c) (t : Fin cfg0.N) (r : Fin 512) (d : Fin 128) :
    outAt m c t (Idealize.ShloMosaic.ix2 r d)
      = res (argU m c) (argF m c) (Idealize.ShloMosaic.ix2
          ⟨4096 * (t.val / 32) + (512 * (t.val % 8) + r.val), by have ht : t.val < 128 := Nat.lt_of_lt_of_eq t.isLt N_0; omega⟩
          ⟨128 * (t.val / 8 % 4) + d.val, by omega⟩) := by
  have ht : t.val < 128 := Nat.lt_of_lt_of_eq t.isLt N_0
  have hd : (headOf d).val = d.val / 64 := by
    unfold headOf
    by_cases hc : d.val < 64
    · rw [if_pos hc]; show 0 = _; omega
    · rw [if_neg hc]; show 1 = _; omega
  unfold outAt
  rw [show qb (grid0.coords t) = t.val % 8 from coords2 t, outBlk_apply]
  generalize hh : headOf d = h
  rw [hh] at hd
  have hsm := fun i hi => sm_eq m c t h r i hi
  have hmr := fun x => mrow_le (X0_0 m c t) (iblk m c 3 t) (iblk m c 4 t) (ktAt m c t.val t.isLt) (t.val % 8) h r x
  unfold lrow
  unfold ex
  generalize mrow (X0_0 m c t) (iblk m c 3 t) (iblk m c 4 t) (ktAt m c t.val t.isLt) (t.val % 8) h r = M at hmr ⊢
  generalize sm (X0_0 m c t) (iblk m c 3 t) (iblk m c 4 t) (ktAt m c t.val t.isLt) (t.val % 8) h r = s at hsm hmr ⊢
  have hN : 512 * (t.val % 8 + 1) ≤ 4096 := by omega
  let b : Fin 4 := ⟨t.val / 32, by omega⟩
  let h8 : Fin 8 := ⟨2 * (t.val / 8 % 4) + h.val, by omega⟩
  let q : Fin 4096 := ⟨512 * (t.val % 8) + r.val, by omega⟩
  let S : ℕ → EReal := score (argU m c) (argF m c) b.val h8.val q.val
  have hS : ∀ i < 512 * (t.val % 8 + 1), s i = S i := fun i hi => hsm i (by omega)
  have e1 : ∑ i ∈ Finset.range (512 * (t.val % 8 + 1)), Ideal.exp (s i - M) * Ideal.div 1 (∑ i ∈ Finset.range (512 * (t.val % 8 + 1)), Ideal.exp (s i - M))
        * valAt (vbAt m c t.val t.isLt) i d
      = ∑ i ∈ Finset.range (512 * (t.val % 8 + 1)), Ideal.exp (S i - M) * Ideal.div 1 (∑ i ∈ Finset.range (512 * (t.val % 8 + 1)), Ideal.exp (S i - M))
        * uAt (argU m c) (4096 * b.val + i) (1024 + (64 * h8.val + d.val % 64)) := by
    rw [Finset.sum_congr rfl fun i hi => congrArg (fun z => Ideal.exp (z - M)) (hS i (Finset.mem_range.mp hi))]
    refine Finset.sum_congr rfl fun i hi => ?_
    have hi := Finset.mem_range.mp hi
    rw [hS i hi, val_eq m c t d i (by omega)]
    refine congrArg (_ * ·) (congrArg (uAt (argU m c) _) ?_)
    show 1024 + (128 * (t.val / 8 % 4) + d.val) = 1024 + (64 * (2 * (t.val / 8 % 4) + h.val) + d.val % 64)
    omega
  refine e1.trans ((Cert.Softmax.agree q.val _ (by show 512 * (t.val % 8) + r.val < _; omega) hN S
    (fun i hi => score_real m c hr _ _ _ _ b.isLt h8.isLt q.isLt hi) (fun i hi => if_neg (by omega)) M
    (fun x => (hmr x).trans (forall₂_congr fun i hi => by rw [hS i hi]))
    (fun i => uAt (argU m c) (4096 * b.val + i) (1024 + (64 * h8.val + d.val % 64)))).trans ?_)
  have e2 : (Idealize.ShloMosaic.ix2
          ⟨4096 * (t.val / 32) + (512 * (t.val % 8) + r.val), by omega⟩
          ⟨128 * (t.val / 8 % 4) + d.val, by omega⟩ : S16384x512.Idx)
      = Idealize.ShloMosaic.ix2 ⟨4096 * b.val + q.val, by omega⟩ ⟨64 * h8.val + (⟨d.val % 64, by omega⟩ : Fin 64).val, by show 64 * h8.val + d.val % 64 < 512; omega⟩ := by
    refine congrArg₂ Idealize.ShloMosaic.ix2 rfl (Fin.ext ?_)
    show 128 * (t.val / 8 % 4) + d.val = 64 * (2 * (t.val / 8 % 4) + h.val) + d.val % 64
    omega
  refine Eq.trans ?_ (congrArg (res (argU m c) (argF m c)) e2).symm
  rw [Cert.ReferenceIdeal.Val.res_apply]
  refine Finset.sum_congr rfl fun k _ => congrArg (_ * ·) ?_
  rw [Cert.ReferenceIdeal.Val.pr_apply, Cert.ReferenceIdeal.Val.sm_apply]
  simp only [Cert.ReferenceIdeal.Val.ex_apply, Cert.ReferenceIdeal.Val.mx_apply, Cert.ReferenceIdeal.Val.sc_apply]
  rfl

/-- The kernel's result array is the reference's result. -/
theorem result (c : Dev nD) (hr : RealArgs m c) :
    (dats m 0 c).arrAt 5 cfg0.N = res (argU m c) (argF m c) := by
  refine Dat.arrAt_eq_of_covers _ 5 _ (by decide +kernel) fun t _ y => ?_
  have ht : t.val < 128 := Nat.lt_of_lt_of_eq t.isLt N_0
  rw [after0_5]
  have hy : y = Idealize.ShloMosaic.ix2 (y 0) (y 1) := by funext a; match a with | ⟨0, _⟩ => rfl | ⟨1, _⟩ => rfl
  obtain ⟨h0, h1⟩ := idxO t
  have e : ((cfg0.win 5).blk t).view.emb y = Idealize.ShloMosaic.ix2
          ⟨4096 * (t.val / 32) + (512 * (t.val % 8) + (y 0).val), by have : (y 0).val < 512 := (y 0).isLt; omega⟩
          ⟨128 * (t.val / 8 % 4) + (y 1).val, by have : (y 1).val < 128 := (y 1).isLt; omega⟩ := by
    refine funext fun a => Fin.ext ?_
    match a with
    | ⟨0, _⟩ =>
      refine (ValueKit.view_emb_slice_whole_unit_val main_v2 _ _ _ _ _).trans ?_
      show win0_5.index t 0 * 512 + (y 0).val = 4096 * (t.val / 32) + (512 * (t.val % 8) + (y 0).val)
      rw [h0]; omega
    | ⟨1, _⟩ =>
      refine (ValueKit.view_emb_slice_whole_unit_val main_v2 _ _ _ _ _).trans ?_
      show win0_5.index t 1 * 128 + (y 1).val = 128 * (t.val / 8 % 4) + (y 1).val
      rw [h1]; omega
  refine Eq.trans ?_ (congrArg (res (argU m c) (argF m c)) e).symm
  exact (congrArg (outAt m c t) hy).trans (block_eq m c hr t (y 0) (y 1))

end Cert.KernelIdeal.Att

end
-- ==== Proof.V.Pre.lean ====
/-
  The precondition of the attention's value: it says that the entries of the queries, the keys and the sums of log forget
  values are real.
-/
module

public import proofs.«01_k».proof.Pre_finite
public import proofs.«01_k».proof.Proof.V.Attn
public import Idealize.ShloMosaic.Lib.ReduceAll

@[expose] public section

set_option maxRecDepth 16384

noncomputable section

namespace Cert.KernelIdeal.Att

open Cert.KernelIdeal Cert.KernelIdeal.Gen Idealize.ShloMosaic Idealize.ShloMosaic.TcCoe
open Cert.Softmax (IsReal)

/-- The precondition's side conditions. -/
theorem preFacts : Cert.Pre_finite.Facts where
  slices_S16640x2560_S16384x1024_0_0 := by decide
  bcast_S_S16384x1024 := by decide
  reducesTo_S16384x1024_S_d0_1 := by decide
  h_S_ := by decide
  bcast_S_S32x4096 := by decide
  reducesTo_S32x4096_S_d0_1 := by decide

/-- A value whose magnitude is below infinity is real. -/
theorem real_of_abs (x : EReal)
    (h : BitVec.ofBool (decide ((FloatOps.absf (F := Ideal) (φ := .f32) x : EReal) < Ideal.ofBits FTy.f32 0x7F800000#32)) = 1#1) : IsReal x := by
  rw [pos_inf] at h
  have h' : max x (-x) < ⊤ := by
    by_contra hc
    rw [show decide ((FloatOps.absf (F := Ideal) (φ := .f32) x : EReal) < ⊤) = false from decide_eq_false hc] at h
    exact absurd h (by decide)
  induction x with
  | bot => exact absurd h' (by simp)
  | top => exact absurd h' (by simp)
  | coe a => exact ⟨a, rfl⟩

/-- A conjunction of bits. -/
theorem and_one : ∀ a b : BitVec 1, IntOp.andi a b = 1#1 → a = 1#1 ∧ b = 1#1 := by decide

/-- What the precondition says. -/
theorem real_of_pre (u : FVec Ideal S16640x2560 .f32) (f : FVec Ideal S32x4096 .f32)
    (h : @Cert.Pre_finite.fn preFacts Ideal _ u f = fun _ => 1#1) :
    (∀ r k, r < 16384 → k < 1024 → IsReal (uAt u r k)) ∧ ∀ h i, IsReal (fAt f h i) := by
  have h0 := congrFun h ix0
  unfold Cert.Pre_finite.fn at h0
  obtain ⟨ha, hb⟩ := and_one _ _ h0
  haveI : Subsingleton Cert.Pre_finite.S_.Idx := ⟨fun a b => funext fun i => i.elim0⟩
  constructor
  · intro r k hr hk
    have e := Host.reduce_andi_all _ _ _ _ _ ha (Idealize.ShloMosaic.ix2 ⟨r, hr⟩ ⟨k, hk⟩ : Cert.Pre_finite.S16384x1024.Idx)
    simp only [pointwise] at e
    have q := real_of_abs _ e
    refine (congrArg (fun z => IsReal z) ?_).mp q
    exact congrArg u (congrArg₂ Idealize.ShloMosaic.ix2 (Fin.ext (by show 0 + r = r % 16640; omega)) (Fin.ext (by show 0 + k = k % 2560; omega)))
  · intro h i
    have e := Host.reduce_andi_all _ _ _ _ _ hb (Idealize.ShloMosaic.ix2 ⟨h % 32, by omega⟩ ⟨i % 4096, by omega⟩ : Cert.Pre_finite.S32x4096.Idx)
    simp only [pointwise] at e
    exact real_of_abs _ e

end Cert.KernelIdeal.Att

end
-- ==== Proof.lean ====
/-
  The claims about the six calls, assembled from the frames, the runs and the values.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.Forget.Frame
public import proofs.«01_k».proof.Proof.Gen.ForgetIdeal.Frame
public import proofs.«01_k».proof.Proof.Gen.ForgetIdeal.Value
public import proofs.«01_k».proof.Proof.Gen.ForgetRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.Rec.Frame
public import proofs.«01_k».proof.Proof.Gen.RecIdeal.Frame
public import proofs.«01_k».proof.Proof.Gen.RecIdeal.Value
public import proofs.«01_k».proof.Proof.Gen.RecRefIdeal.Run
public import proofs.«01_k».proof.Proof.Gen.ReferenceIdeal.Run
public import proofs.«01_k».proof.Proof.P.Launch
public import proofs.«01_k».proof.Proof.PI.Launch
public import proofs.«01_k».proof.Proof.Gen.RecPRefIdeal.Run
public import proofs.«01_k».proof.Proof.W.Launch
public import proofs.«01_k».proof.Proof.Q.Launch
public import proofs.«01_k».proof.Proof.V.InProj
public import proofs.«01_k».proof.Proof.V.Forget
public import proofs.«01_k».proof.Proof.V.OutRef
public import proofs.«01_k».proof.Proof.V.OutProj
public import proofs.«01_k».proof.Proof.V.Rec
public import proofs.«01_k».proof.Proof.V.RecRef
public import proofs.«01_k».proof.Proof.V.Pre
public import Idealize.ShloMosaic.Adequacy
public import Idealize.ShloMosaic.Init

@[expose] public section

noncomputable section

namespace Cert.Proof

open Idealize.ShloMosaic Idealize.SL.Sem

/-- The attention's reference runs and leaves its arguments as they were. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection's reference runs and leaves its arguments as they were. -/
theorem frame_proj_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The mask's literal stands for minus infinity. -/
theorem preserves_attn : Cert.preserves_Kernel_KernelIdeal :=
  IdealRules.named_const.statement Cert.KernelIdeal.κ "mask" .f32 0xF149F2CA#32 ⊥ rfl

/-- The projection kernel's result is its reference's. -/
theorem algebraic_proj : Cert.algebraic_InProjIdeal_InProjRefIdeal := by
  intro m ρ m' ρ' _ hagree
  refine ⟨fun c => (Cert.InProjIdeal.Gen.dats m 0 c).arrAt 2 Cert.InProjIdeal.cfg0.N, Cert.InProjIdeal.Value.run_blocks m ρ, ?_⟩
  refine (θ_run Cert.InProjRefIdeal.defs _ _).mono (fun _ h c => ⟨(h c).1.trans ?_, (h c).2⟩)
    (Cert.InProjRefIdeal.Value.run (F := Ideal) m' ρ')
  rw [(hagree c).1, (hagree c).2]
  show _ = (Cert.InProjIdeal.Gen.dats m 0 c).arrAt 2 Cert.InProjIdeal.cfg0.N
  exact (funext fun i => Cert.InProjIdeal.Val.ref_apply _ _ i).trans (Cert.InProjIdeal.Val.result m c).symm

/-- The log forget values' reference runs and leaves its arguments as they were. -/
theorem frame_forget_ref : Cert.quiescent_ForgetRefIdeal := fun m ρ _ =>
  (θ_run Cert.ForgetRefIdeal.defs _ _).mono (fun r h => ⟨fun c => (h c).2, sem_eq_zero_of_no_sems (by decide) r.2⟩)
    (Cert.ForgetRefIdeal.Value.run (F := Ideal) m ρ)

/-- The output projection's reference runs and leaves its arguments as they were. -/
theorem frame_out_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The log forget values of the kernel are its reference's. -/
theorem algebraic_forget : Cert.algebraic_ForgetIdeal_ForgetRefIdeal := by
  intro m ρ m' ρ' _ hagree
  refine ⟨fun c => (Cert.ForgetIdeal.Gen.dats m 0 c).arrAt 3 Cert.ForgetIdeal.cfg0.N, Cert.ForgetIdeal.Value.run_blocks m ρ, ?_⟩
  refine (θ_run Cert.ForgetRefIdeal.defs _ _).mono (fun _ h c => ⟨(h c).1.trans ?_, (h c).2⟩)
    (Cert.ForgetRefIdeal.Value.run (F := Ideal) m' ρ')
  rw [(hagree c).1, (hagree c).2.1, (hagree c).2.2]
  refine Eq.trans (funext fun i => ?_) (Cert.ForgetIdeal.Val.result m c).symm
  refine (Cert.ForgetRefIdeal.Val.res_apply (Cert.ForgetRefIdeal.Val.logits _ _ _) i).trans
    (congrArg Cert.ForgetRefIdeal.Val.logsig ?_)
  obtain ⟨r, j, rfl⟩ : ∃ (r : Fin 16640) (j : Fin 128), i = ix2 r j := ⟨i 0, i 1, funext fun a => by
    match a with
    | ⟨0, _⟩ => rfl
    | ⟨1, _⟩ => rfl⟩
  exact Cert.ForgetRefIdeal.Val.logits_apply _ _ _ r j

/-- The output projection's first result is its reference's. -/
theorem algebraic_out : Cert.algebraic_OutProjIdeal_OutProjRefIdeal := by
  intro m ρ m' ρ' _ hagree
  refine ⟨fun c => (Cert.OutProjIdeal.Gen.dats m 0 c).arrAt 11 Cert.OutProjIdeal.cfg0.N,
    (θ_run Cert.OutProjIdeal.defs _ _).mono (fun _ h c => ⟨(h c).1, (h c).2.2.2⟩) (Cert.OutProjIdeal.Value.run_blocks m ρ), ?_⟩
  refine (θ_run Cert.OutProjRefIdeal.defs _ _).mono (fun _ h c => ⟨(h c).1.trans ?_, (h c).2⟩)
    (Cert.OutProjRefIdeal.Value.run (F := Ideal) m' ρ')
  obtain ⟨h0, h1, h2, h3, h4, h5, h6, h7, -, -⟩ := hagree c
  refine Eq.trans (funext fun i => ?_) (Cert.OutProjIdeal.Val.result m c).symm
  obtain ⟨r, j, rfl⟩ : ∃ (r : Fin 16640) (j : Fin 1024), i = ix2 r j := ⟨i 0, i 1, funext fun a => by
    match a with
    | ⟨0, _⟩ => rfl
    | ⟨1, _⟩ => rfl⟩
  refine (Cert.OutProjRefIdeal.Val.ref_apply m' c r j).trans ?_
  rw [h0, h1, h2, h3, h4, h5, h6, h7]
  rfl

/-- The attention kernel runs, its result array ends at what the launch's blocks put together, its arguments unchanged. -/
theorem run_attn (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2)
            = (Cert.KernelIdeal.Att.dats m 0 c).arrAt 5 Cert.KernelIdeal.cfg0.N
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c => ⟨(h.1 c).1 5, h.2 c⟩)
    (θ_run_and (Cert.KernelIdeal.Att.run_main m ρ) (Cert.KernelIdeal.Att.unchanged m ρ))

/-- The attention kernel's result is its reference's, for real queries, keys and sums of log forget values. -/
theorem algebraic_attn : Cert.algebraic_KernelIdeal_ReferenceIdeal_pre_finite (hPre_finite := Cert.KernelIdeal.Att.preFacts) := by
  intro m ρ m' ρ' hpre hagree
  refine ⟨fun c => (Cert.KernelIdeal.Att.dats m 0 c).arrAt 5 Cert.KernelIdeal.cfg0.N, run_attn m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Val.res_eq, (hagree c).1, (hagree c).2]
  exact (Cert.KernelIdeal.Att.result m c (Cert.KernelIdeal.Att.real_of_pre _ _ (hpre c))).symm

/-- The recurrence's reference runs and leaves its arguments as they were. -/
theorem frame_rec_ref : Cert.quiescent_RecRefIdeal := fun m ρ _ =>
  (θ_run Cert.RecRefIdeal.defs _ _).mono (fun r h => ⟨fun c => (h c).2.2.2, sem_eq_zero_of_no_sems (by decide) r.2⟩)
    (Cert.RecRefIdeal.Value.run (F := Ideal) m ρ)

/-- Where the arguments agree, a sequence's part of them is the same. -/
theorem rec_args (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD)
    (h0 : m' ((c.tc : Thread Cert.RecRefIdeal.nD Cert.RecRefIdeal.τ).loc Cert.RecRefIdeal.main_arg0) = m ((c.tc : Thread Cert.RecIdeal.nD Cert.RecIdeal.τ).loc Cert.RecIdeal.main_arg0))
    (h1 : m' ((c.tc : Thread Cert.RecRefIdeal.nD Cert.RecRefIdeal.τ).loc Cert.RecRefIdeal.main_arg1) = m ((c.tc : Thread Cert.RecIdeal.nD Cert.RecIdeal.τ).loc Cert.RecIdeal.main_arg1))
    (h2 : m' ((c.tc : Thread Cert.RecRefIdeal.nD Cert.RecRefIdeal.τ).loc Cert.RecRefIdeal.main_arg2) = m ((c.tc : Thread Cert.RecIdeal.nD Cert.RecIdeal.τ).loc Cert.RecIdeal.main_arg2))
    (h3 : m' ((c.tc : Thread Cert.RecRefIdeal.nD Cert.RecRefIdeal.τ).loc Cert.RecRefIdeal.main_arg3) = m ((c.tc : Thread Cert.RecIdeal.nD Cert.RecIdeal.τ).loc Cert.RecIdeal.main_arg3))
    (h4 : m' ((c.tc : Thread Cert.RecRefIdeal.nD Cert.RecRefIdeal.τ).loc Cert.RecRefIdeal.main_arg4) = m ((c.tc : Thread Cert.RecIdeal.nD Cert.RecIdeal.τ).loc Cert.RecIdeal.main_arg4))
    (h5 : m' ((c.tc : Thread Cert.RecRefIdeal.nD Cert.RecRefIdeal.τ).loc Cert.RecRefIdeal.main_arg5) = m ((c.tc : Thread Cert.RecIdeal.nD Cert.RecIdeal.τ).loc Cert.RecIdeal.main_arg5))
    (h6 : m' ((c.tc : Thread Cert.RecRefIdeal.nD Cert.RecRefIdeal.τ).loc Cert.RecRefIdeal.main_arg6) = m ((c.tc : Thread Cert.RecIdeal.nD Cert.RecIdeal.τ).loc Cert.RecIdeal.main_arg6))
    (h7 : m' ((c.tc : Thread Cert.RecRefIdeal.nD Cert.RecRefIdeal.τ).loc Cert.RecRefIdeal.main_arg7) = m ((c.tc : Thread Cert.RecIdeal.nD Cert.RecIdeal.τ).loc Cert.RecIdeal.main_arg7))
    (h8 : m' ((c.tc : Thread Cert.RecRefIdeal.nD Cert.RecRefIdeal.τ).loc Cert.RecRefIdeal.main_arg8) = m ((c.tc : Thread Cert.RecIdeal.nD Cert.RecIdeal.τ).loc Cert.RecIdeal.main_arg8))
    (h9 : m' ((c.tc : Thread Cert.RecRefIdeal.nD Cert.RecRefIdeal.τ).loc Cert.RecRefIdeal.main_arg9) = m ((c.tc : Thread Cert.RecIdeal.nD Cert.RecIdeal.τ).loc Cert.RecIdeal.main_arg9))
    (b : Fin 32) : Cert.RecRefIdeal.Val.args (StableHlo.launchContents m' c) b = Cert.RecIdeal.Val.args m c b := by
  unfold Cert.RecIdeal.Val.args
  rw [← h0, ← h1, ← h2, ← h3, ← h4, ← h5, ← h6, ← h7, ← h8, ← h9]
  rfl

/-- The recurrence's three results are its reference's. -/
theorem algebraic_rec : Cert.algebraic_RecIdeal_RecRefIdeal := by
  intro m ρ m' ρ' _ hagree
  refine ⟨fun c => (Cert.RecIdeal.Gen.dats m 0 c).arrAt 9 Cert.RecIdeal.cfg0.N, fun c => (Cert.RecIdeal.Gen.dats m 0 c).arrAt 10 Cert.RecIdeal.cfg0.N,
    fun c => (Cert.RecIdeal.Gen.dats m 0 c).arrAt 11 Cert.RecIdeal.cfg0.N, Cert.RecIdeal.Value.run_blocks m ρ, ?_⟩
  refine (θ_run Cert.RecRefIdeal.defs _ _).mono (fun _ h c => ⟨(h c).1.trans ?_, (h c).2.1.trans ?_, (h c).2.2.1.trans ?_, (h c).2.2.2⟩)
    (Cert.RecRefIdeal.Value.run (F := Ideal) m' ρ')
  all_goals
    obtain ⟨h0, h1, h2, h3, h4, h5, h6, h7, h8, h9⟩ := hagree c
    have ha := rec_args m m' c h0 h1 h2 h3 h4 h5 h6 h7 h8 h9
  · refine Eq.trans (funext fun i => ?_) (Cert.RecIdeal.Val.result9 m c).symm
    obtain ⟨r, j, rfl⟩ : ∃ (r : Fin 256) (j : Fin 512), i = ix2 r j := ⟨i 0, i 1, funext fun a => by
      match a with
      | ⟨0, _⟩ => rfl
      | ⟨1, _⟩ => rfl⟩
    refine (Cert.RecRefIdeal.Val.y_result (StableHlo.launchContents m' c) ⟨r.val / 8, by omega⟩ ⟨r.val % 8, by omega⟩ j r (by show r.val = 8 * (r.val / 8) + r.val % 8; omega)).trans ?_
    rw [ha]
    rfl
  · refine Eq.trans (funext fun i => ?_) (Cert.RecIdeal.Val.result10 m c).symm
    obtain ⟨b, o, j, rfl⟩ : ∃ (b : Fin 32) (o : Fin 1) (j : Fin 512), i = ix3 b o j := ⟨i 0, i 1, i 2, funext fun a => by
      match a with
      | ⟨0, _⟩ => rfl
      | ⟨1, _⟩ => rfl
      | ⟨2, _⟩ => rfl⟩
    refine (Cert.RecRefIdeal.Val.h_result (StableHlo.launchContents m' c) b o j).trans ?_
    rw [ha]
    rfl
  · refine Eq.trans (funext fun i => ?_) (Cert.RecIdeal.Val.result11 m c).symm
    obtain ⟨b, o, j, rfl⟩ : ∃ (b : Fin 32) (o : Fin 3) (j : Fin 512), i = ix3 b o j := ⟨i 0, i 1, i 2, funext fun a => by
      match a with
      | ⟨0, _⟩ => rfl
      | ⟨1, _⟩ => rfl
      | ⟨2, _⟩ => rfl⟩
    refine (Cert.RecRefIdeal.Val.conv_result (StableHlo.launchContents m' c) b o j).trans ?_
    rw [ha]
    rfl

/-- The prompt recurrence's reference runs and leaves its arguments as they were. -/
theorem frame_rec_p_ref : Cert.quiescent_RecPRefIdeal := fun m ρ _ =>
  (θ_run Cert.RecPRefIdeal.defs _ _).mono (fun r h => ⟨fun c => (h c).2.2.2, sem_eq_zero_of_no_sems (by decide) r.2⟩)
    (Cert.RecPRefIdeal.Value.run (F := Ideal) m ρ)

theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.Forget.Gen.facts, Cert.ForgetIdeal.Gen.facts,
    Cert.ForgetRefIdeal.Gen.facts, Cert.OutProj.Gen.facts, Cert.OutProjIdeal.Gen.facts, Cert.OutProjRefIdeal.Gen.facts,
    Cert.Rec.Gen.facts, Cert.RecIdeal.Gen.facts, Cert.RecRefIdeal.Gen.facts,
    Cert.RecP.Gen.facts, Cert.RecPIdeal.Gen.facts, Cert.RecPRefIdeal.Gen.facts,
    Cert.KernelIdeal.Att.preFacts,
    fun m ρ _ => Cert.Kernel.Att.frame m ρ, fun m ρ _ => Cert.KernelIdeal.Att.frame m ρ,
    fun m ρ _ => Cert.KernelIdeal.Att.frame m ρ, frame_ref, fun m ρ _ => frame_ref m ρ trivial,
    fun m ρ _ => Cert.InProj.Gen.frame m ρ, fun m ρ _ => Cert.InProjIdeal.Gen.frame m ρ, frame_proj_ref,
    fun m ρ _ => Cert.Forget.Gen.frame m ρ, fun m ρ _ => Cert.ForgetIdeal.Gen.frame m ρ, frame_forget_ref,
    fun m ρ _ => Cert.OutProj.Gen.frame m ρ, fun m ρ _ => Cert.OutProjIdeal.Gen.frame m ρ, frame_out_ref,
    fun m ρ _ => Cert.Rec.Gen.frame m ρ, fun m ρ _ => Cert.RecIdeal.Gen.frame m ρ, frame_rec_ref,
    fun m ρ _ => Cert.RecP.Seq.frame m ρ, fun m ρ _ => Cert.RecPIdeal.Seq.frame m ρ, frame_rec_p_ref,
    preserves_attn, algebraic_attn, trivial, algebraic_proj, trivial, algebraic_forget, trivial, algebraic_out,
    trivial, algebraic_rec, trivial⟩

end Cert.Proof

end
